-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def preserves_Kernel_KernelIdeal : Prop :=
  IdealRules.sign_bit.Statement Cert.KernelIdeal.S64x1 .f32

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v122_0)) (v1 : (c : Dev Cert.KernelIdeal.nD) → Buf (Elt Ideal) ((c.tc : Thread Cert.KernelIdeal.nD Cert.KernelIdeal.τ).loc Cert.KernelIdeal.main_v122_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122_0) = v0 c
          ∧ r.2.mem ((c.tc : Thread Cert.KernelIdeal.nD Cert.KernelIdeal.τ).loc Cert.KernelIdeal.main_v122_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v8) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v7) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v10) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v0)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v0) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v3) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v4) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v4) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_AdamDown_AdamDownIdeal : Prop :=
  IdealRules.named_const.Statement Cert.AdamDownIdeal.κ "inv_bias1" .f32 0x3FC48605#32 ((8388608 / 5463681 : ℝ) : EReal)
  ∧ IdealRules.named_const.Statement Cert.AdamDownIdeal.κ "inv_bias2" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamUp_AdamUpIdeal : Prop :=
  IdealRules.named_const.Statement Cert.AdamUpIdeal.κ "inv_bias1" .f32 0x3FC48605#32 ((8388608 / 5463681 : ℝ) : EReal)
  ∧ IdealRules.named_const.Statement Cert.AdamUpIdeal.κ "inv_bias2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamOut_AdamOutIdeal : Prop :=
  IdealRules.named_const.Statement Cert.AdamOutIdeal.κ "inv_bias1" .f32 0x3FC48605#32 ((8388608 / 5463681 : ℝ) : EReal)
  ∧ IdealRules.named_const.Statement Cert.AdamOutIdeal.κ "inv_bias2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  IdealRules.named_const.Statement Cert.AdamSmallIdeal.κ "inv_bias1" .f32 0x3FC48605#32 ((8388608 / 5463681 : ℝ) : EReal)
  ∧ IdealRules.named_const.Statement Cert.AdamSmallIdeal.κ "inv_bias2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamIn_AdamInIdeal : Prop :=
  IdealRules.named_const.Statement Cert.AdamInIdeal.κ "inv_bias1" .f32 0x3FC48605#32 ((8388608 / 5463681 : ℝ) : EReal)
  ∧ IdealRules.named_const.Statement Cert.AdamInIdeal.κ "inv_bias2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m ((c.tc : Thread Cert.AdamInIdeal.nD Cert.AdamInIdeal.τ).loc Cert.AdamInIdeal.main_arg0) = Layout.block ⟨3, ![4, 912, 2048]⟩ ⟨3, ![32, 912, 2048]⟩ 0 8 c (m' (((0 : Dev Cert.AdamInRefIdeal.nD).tc : Thread Cert.AdamInRefIdeal.nD Cert.AdamInRefIdeal.τ).loc Cert.AdamInRefIdeal.main_arg0))
      ∧ m ((c.tc : Thread Cert.AdamInIdeal.nD Cert.AdamInIdeal.τ).loc Cert.AdamInIdeal.main_arg1) = Layout.block ⟨2, ![897, 2048]⟩ ⟨2, ![7176, 2048]⟩ 0 8 c (m' (((0 : Dev Cert.AdamInRefIdeal.nD).tc : Thread Cert.AdamInRefIdeal.nD Cert.AdamInRefIdeal.τ).loc Cert.AdamInRefIdeal.main_arg1))
      ∧ m ((c.tc : Thread Cert.AdamInIdeal.nD Cert.AdamInIdeal.τ).loc Cert.AdamInIdeal.main_arg2) = Layout.block ⟨2, ![897, 2048]⟩ ⟨2, ![7176, 2048]⟩ 0 8 c (m' (((0 : Dev Cert.AdamInRefIdeal.nD).tc : Thread Cert.AdamInRefIdeal.nD Cert.AdamInRefIdeal.τ).loc Cert.AdamInRefIdeal.main_arg2))
      ∧ m ((c.tc : Thread Cert.AdamInIdeal.nD Cert.AdamInIdeal.τ).loc Cert.AdamInIdeal.main_arg3) = Layout.block ⟨2, ![897, 2048]⟩ ⟨2, ![7176, 2048]⟩ 0 8 c (m' (((0 : Dev Cert.AdamInRefIdeal.nD).tc : Thread Cert.AdamInRefIdeal.nD Cert.AdamInRefIdeal.τ).loc Cert.AdamInRefIdeal.main_arg3))) →
    ∃ (v0 : Buf (Elt Ideal) (((0 : Dev Cert.AdamInRefIdeal.nD).tc : Thread Cert.AdamInRefIdeal.nD Cert.AdamInRefIdeal.τ).loc Cert.AdamInRefIdeal.main_v19)) (v1 : Buf (Elt Ideal) (((0 : Dev Cert.AdamInRefIdeal.nD).tc : Thread Cert.AdamInRefIdeal.nD Cert.AdamInRefIdeal.τ).loc Cert.AdamInRefIdeal.main_v43)) (v2 : Buf (Elt Ideal) (((0 : Dev Cert.AdamInRefIdeal.nD).tc : Thread Cert.AdamInRefIdeal.nD Cert.AdamInRefIdeal.τ).loc Cert.AdamInRefIdeal.main_v24)) (v3 : Buf (Elt Ideal) (((0 : Dev Cert.AdamInRefIdeal.nD).tc : Thread Cert.AdamInRefIdeal.nD Cert.AdamInRefIdeal.τ).loc Cert.AdamInRefIdeal.main_v30)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = Layout.block ⟨2, ![897, 2048]⟩ ⟨2, ![7176, 2048]⟩ 0 8 c v0
          ∧ r.2.mem ((c.tc : Thread Cert.AdamInIdeal.nD Cert.AdamInIdeal.τ).loc Cert.AdamInIdeal.main_v1_1) = Layout.block ⟨2, ![897, 2048]⟩ ⟨2, ![7176, 2048]⟩ 0 8 c v1
          ∧ r.2.mem ((c.tc : Thread Cert.AdamInIdeal.nD Cert.AdamInIdeal.τ).loc Cert.AdamInIdeal.main_v1_2) = Layout.block ⟨2, ![897, 2048]⟩ ⟨2, ![7176, 2048]⟩ 0 8 c v2
          ∧ r.2.mem ((c.tc : Thread Cert.AdamInIdeal.nD Cert.AdamInIdeal.τ).loc Cert.AdamInIdeal.main_v1_3) = Layout.block ⟨2, ![897, 2048]⟩ ⟨2, ![7176, 2048]⟩ 0 8 c v3
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r =>
          r.2.mem (((0 : Dev Cert.AdamInRefIdeal.nD).tc : Thread Cert.AdamInRefIdeal.nD Cert.AdamInRefIdeal.τ).loc Cert.AdamInRefIdeal.main_v19) = v0
          ∧ r.2.mem (((0 : Dev Cert.AdamInRefIdeal.nD).tc : Thread Cert.AdamInRefIdeal.nD Cert.AdamInRefIdeal.τ).loc Cert.AdamInRefIdeal.main_v43) = v1
          ∧ r.2.mem (((0 : Dev Cert.AdamInRefIdeal.nD).tc : Thread Cert.AdamInRefIdeal.nD Cert.AdamInRefIdeal.τ).loc Cert.AdamInRefIdeal.main_v24) = v2
          ∧ r.2.mem (((0 : Dev Cert.AdamInRefIdeal.nD).tc : Thread Cert.AdamInRefIdeal.nD Cert.AdamInRefIdeal.τ).loc Cert.AdamInRefIdeal.main_v30) = v3
          ∧ r.2.mem (((0 : Dev Cert.AdamInRefIdeal.nD).tc : Thread Cert.AdamInRefIdeal.nD Cert.AdamInRefIdeal.τ).loc Cert.AdamInRefIdeal.main_arg0) = m' (((0 : Dev Cert.AdamInRefIdeal.nD).tc : Thread Cert.AdamInRefIdeal.nD Cert.AdamInRefIdeal.τ).loc Cert.AdamInRefIdeal.main_arg0)
          ∧ r.2.mem (((0 : Dev Cert.AdamInRefIdeal.nD).tc : Thread Cert.AdamInRefIdeal.nD Cert.AdamInRefIdeal.τ).loc Cert.AdamInRefIdeal.main_arg1) = m' (((0 : Dev Cert.AdamInRefIdeal.nD).tc : Thread Cert.AdamInRefIdeal.nD Cert.AdamInRefIdeal.τ).loc Cert.AdamInRefIdeal.main_arg1)
          ∧ r.2.mem (((0 : Dev Cert.AdamInRefIdeal.nD).tc : Thread Cert.AdamInRefIdeal.nD Cert.AdamInRefIdeal.τ).loc Cert.AdamInRefIdeal.main_arg2) = m' (((0 : Dev Cert.AdamInRefIdeal.nD).tc : Thread Cert.AdamInRefIdeal.nD Cert.AdamInRefIdeal.τ).loc Cert.AdamInRefIdeal.main_arg2)
          ∧ r.2.mem (((0 : Dev Cert.AdamInRefIdeal.nD).tc : Thread Cert.AdamInRefIdeal.nD Cert.AdamInRefIdeal.τ).loc Cert.AdamInRefIdeal.main_arg3) = m' (((0 : Dev Cert.AdamInRefIdeal.nD).tc : Thread Cert.AdamInRefIdeal.nD Cert.AdamInRefIdeal.τ).loc Cert.AdamInRefIdeal.main_arg3))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hProjDw : Cert.ProjDw.Facts) (hProjDwIdeal : Cert.ProjDwIdeal.Facts) (hProjDwRefIdeal : Cert.ProjDwRefIdeal.Facts) (hProjDx : Cert.ProjDx.Facts) (hProjDxIdeal : Cert.ProjDxIdeal.Facts) (hProjDxRefIdeal : Cert.ProjDxRefIdeal.Facts) (hProjFwd : Cert.ProjFwd.Facts) (hProjFwdIdeal : Cert.ProjFwdIdeal.Facts) (hProjFwdRefIdeal : Cert.ProjFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hAdamDown : Cert.AdamDown.Facts) (hAdamDownIdeal : Cert.AdamDownIdeal.Facts) (hAdamDownRefIdeal : Cert.AdamDownRefIdeal.Facts) (hAdamUp : Cert.AdamUp.Facts) (hAdamUpIdeal : Cert.AdamUpIdeal.Facts) (hAdamUpRefIdeal : Cert.AdamUpRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hAdamIn : Cert.AdamIn.Facts) (hAdamInIdeal : Cert.AdamInIdeal.Facts) (hAdamInRefIdeal : Cert.AdamInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_ProjDw_ProjDwIdeal
    ∧ algebraic_ProjDwIdeal_ProjDwRefIdeal (hProjDwIdeal := hProjDwIdeal) (hProjDwRefIdeal := hProjDwRefIdeal)
    ∧ preserves_ProjDx_ProjDxIdeal
    ∧ algebraic_ProjDxIdeal_ProjDxRefIdeal (hProjDxIdeal := hProjDxIdeal) (hProjDxRefIdeal := hProjDxRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamIn_AdamInIdeal
    ∧ algebraic_AdamInIdeal_AdamInRefIdeal (hAdamInIdeal := hAdamInIdeal) (hAdamInRefIdeal := hAdamInRefIdeal)
-- ==== Pre_finite.lean ====
abbrev S2048x7296 : Shape := ⟨2, ![2048, 7296]⟩
abbrev S2048x128 : Shape := ⟨2, ![2048, 128]⟩
abbrev S2048x1024 : Shape := ⟨2, ![2048, 1024]⟩
abbrev S2048x3072 : Shape := ⟨2, ![2048, 3072]⟩
abbrev S_ : Shape := ⟨0, ![]⟩
abbrev S2048x8 : Shape := ⟨2, ![2048, 8]⟩

class Facts : Prop where
  slices_S2048x7296_S2048x3072_0_3072 : S2048x7296.Slices ![0, 3072] S2048x3072
  bcast_S_S2048x3072 : S_.BroadcastsInDim S2048x3072 (![] : Fin 0 → Fin S2048x3072.rank)
  reducesTo_S2048x3072_S_d0_1 : S2048x3072.ReducesTo [0, 1] S_
  h_S_ : 0 < S_.numel
  slices_S2048x128_S2048x8_0_0 : S2048x128.Slices ![0, 0] S2048x8
  bcast_S_S2048x8 : S_.BroadcastsInDim S2048x8 (![] : Fin 0 → Fin S2048x8.rank)
  reducesTo_S2048x8_S_d0_1 : S2048x8.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x7296 .f32) (main_arg1 : FVec F S2048x128 .f32) (main_arg2 : FVec F S2048x1024 .f32) (main_arg3 : FVec F S2048x7296 .bf16) : IVec S_ 1 :=
  let main_v0 : FVec F S2048x3072 .f32 := (extractStridedSlice S2048x3072 ![0, 3072] · slices_S2048x7296_S2048x3072_0_3072) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_c : IVec S_ 1 := constantI S_ 1 1#1
  let main_v4 : IVec S_ 1 := (fun x v => Host.reduce IntOp.andi x v reducesTo_S2048x3072_S_d0_1 h_S_) main_v3 main_c
  let main_v5 : FVec F S2048x8 .f32 := (extractStridedSlice S2048x8 ![0, 0] · slices_S2048x128_S2048x8_0_0) main_arg1
  let main_v6 : FVec F S2048x8 .f32 := Host.absf main_v5
  let main_cst_0 : FVec F S_ .f32 := constant S_ .f32 0x7F800000#32
  let main_v7 : FVec F S2048x8 .f32 := broadcastInDim S2048x8 ![] bcast_S_S2048x8 main_cst_0
  let main_v8 : IVec S2048x8 1 := cmpf .olt main_v6 main_v7
  let main_c_1 : IVec S_ 1 := constantI S_ 1 1#1
  let main_v9 : IVec S_ 1 := (fun x v => Host.reduce IntOp.andi x v reducesTo_S2048x8_S_d0_1 h_S_) main_v8 main_c_1
  let main_v10 : IVec S_ 1 := andi main_v4 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  main_v15
-- ==== Kernel.lean ====
abbrev S2048x7296 : Shape := ⟨2, ![2048, 7296]⟩
abbrev S2048x128 : Shape := ⟨2, ![2048, 128]⟩
abbrev S2048x1024 : Shape := ⟨2, ![2048, 1024]⟩
abbrev S2048x8 : Shape := ⟨2, ![2048, 8]⟩
abbrev S8x2048 : Shape := ⟨2, ![8, 2048]⟩
abbrev S8x32x64 : Shape := ⟨3, ![8, 32, 64]⟩
abbrev S32x8x64 : Shape := ⟨3, ![32, 8, 64]⟩
abbrev S2048x4x256 : Shape := ⟨3, ![2048, 4, 256]⟩
abbrev S4x2048x256 : Shape := ⟨3, ![4, 2048, 256]⟩
abbrev S2048x4 : Shape := ⟨2, ![2048, 4]⟩
abbrev S4x2048 : Shape := ⟨2, ![4, 2048]⟩
abbrev S4x32x64 : Shape := ⟨3, ![4, 32, 64]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S4x32x1 : Shape := ⟨3, ![4, 32, 1]⟩
abbrev S4x32 : Shape := ⟨2, ![4, 32]⟩
abbrev S4x1x32 : Shape := ⟨3, ![4, 1, 32]⟩
abbrev S_ : Shape := ⟨0, ![]⟩
abbrev S4x32x32 : Shape := ⟨3, ![4, 32, 32]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S32x2048 : Shape := ⟨2, ![32, 2048]⟩
abbrev S4x32x2048 : Shape := ⟨3, ![4, 32, 2048]⟩
abbrev S4x32x2048x1 : Shape := ⟨4, ![4, 32, 2048, 1]⟩
abbrev S4x1x2048x256 : Shape := ⟨4, ![4, 1, 2048, 256]⟩
abbrev S4x32x2048x256 : Shape := ⟨4, ![4, 32, 2048, 256]⟩
abbrev S4x32x256x256 : Shape := ⟨4, ![4, 32, 256, 256]⟩
abbrev S4x32x256 : Shape := ⟨3, ![4, 32, 256]⟩
abbrev S8 : Shape := ⟨1, ![8]⟩
abbrev S1x1x8x1 : Shape := ⟨4, ![1, 1, 8, 1]⟩
abbrev S4x32x1x1 : Shape := ⟨4, ![4, 32, 1, 1]⟩
abbrev S4x32x1x256 : Shape := ⟨4, ![4, 32, 1, 256]⟩
abbrev S4x32x8x256 : Shape := ⟨4, ![4, 32, 8, 256]⟩
abbrev S4x2048x128 : Shape := ⟨3, ![4, 2048, 128]⟩
abbrev S64x1024 : Shape := ⟨2, ![64, 1024]⟩
abbrev S64x128 : Shape := ⟨2, ![64, 128]⟩
abbrev S1x8x64 : Shape := ⟨3, ![1, 8, 64]⟩
abbrev S4x1x256x256 : Shape := ⟨4, ![4, 1, 256, 256]⟩
abbrev S4x1x8x256 : Shape := ⟨4, ![4, 1, 8, 256]⟩
abbrev S64x3072 : Shape := ⟨2, ![64, 3072]⟩
abbrev S4x64x128 : Shape := ⟨3, ![4, 64, 128]⟩
abbrev S4x256x256 : Shape := ⟨3, ![4, 256, 256]⟩
abbrev S4x8x256 : Shape := ⟨3, ![4, 8, 256]⟩
abbrev S8x64 : Shape := ⟨2, ![8, 64]⟩
abbrev S64x64 : Shape := ⟨2, ![64, 64]⟩
abbrev S64x1 : Shape := ⟨2, ![64, 1]⟩
abbrev S1x1x8x256 : Shape := ⟨4, ![1, 1, 8, 256]⟩
abbrev S8x256 : Shape := ⟨2, ![8, 256]⟩
abbrev S1x256 : Shape := ⟨2, ![1, 256]⟩
abbrev S1x1 : Shape := ⟨2, ![1, 1]⟩
abbrev S1x1x256x256 : Shape := ⟨4, ![1, 1, 256, 256]⟩
abbrev S256x256 : Shape := ⟨2, ![256, 256]⟩
abbrev S1x256x256 : Shape := ⟨3, ![1, 256, 256]⟩
abbrev S1x8x256 : Shape := ⟨3, ![1, 8, 256]⟩
abbrev S64x256 : Shape := ⟨2, ![64, 256]⟩
abbrev S1x64 : Shape := ⟨2, ![1, 64]⟩
abbrev S64 : Shape := ⟨1, ![64]⟩
abbrev S1 : Shape := ⟨1, ![1]⟩
abbrev S256 : Shape := ⟨1, ![256]⟩
abbrev S256x1 : Shape := ⟨2, ![256, 1]⟩
abbrev S1x64x128 : Shape := ⟨3, ![1, 64, 128]⟩

abbrev nBuf : Space → Nat
  | .hbm => 164
  | .vmem => 24
  | .smem => 0
  | _ => 0

abbrev hbmTy0_0 (i : Nat) : BufTy := match i % 128 with
  | 0 => ⟨S2048x7296, .f32⟩
  | 1 => ⟨S2048x128, .f32⟩
  | 2 => ⟨S2048x1024, .f32⟩
  | 3 => ⟨S2048x7296, .bf16⟩
  | 4 => ⟨S2048x8, .f32⟩
  | 5 => ⟨S8x2048, .f32⟩
  | 6 => ⟨S8x32x64, .f32⟩
  | 7 => ⟨S32x8x64, .f32⟩
  | 8 => ⟨S2048x1024, .f32⟩
  | 9 => ⟨S2048x4x256, .f32⟩
  | 10 => ⟨S4x2048x256, .f32⟩
  | 11 => ⟨S2048x1024, .f32⟩
  | 12 => ⟨S2048x4x256, .f32⟩
  | 13 => ⟨S4x2048x256, .f32⟩
  | 14 => ⟨S2048x1024, .f32⟩
  | 15 => ⟨S2048x4x256, .f32⟩
  | 16 => ⟨S4x2048x256, .f32⟩
  | 17 => ⟨S2048x4, .f32⟩
  | 18 => ⟨S4x2048, .f32⟩
  | 19 => ⟨S2048x4, .f32⟩
  | 20 => ⟨S4x2048, .f32⟩
  | 21 => ⟨S4x32x64, .f32⟩
  | 22 => ⟨S32, .i32⟩
  | 23 => ⟨S1x32, .i32⟩
  | 24 => ⟨S32, .i32⟩
  | 25 => ⟨S32x1, .i32⟩
  | 26 => ⟨S32x32, .i32⟩
  | 27 => ⟨S32x32, .i32⟩
  | 28 => ⟨S32x32, .i1⟩
  | 29 => ⟨S4x32x1, .f32⟩
  | 30 => ⟨S4x32, .f32⟩
  | 31 => ⟨S4x1x32, .f32⟩
  | 32 => ⟨S_, .f32⟩
  | 33 => ⟨S_, .f32⟩
  | 34 => ⟨S4x32x32, .i1⟩
  | 35 => ⟨S4x32x32, .f32⟩
  | 36 => ⟨S4x32x32, .f32⟩
  | 37 => ⟨S4x32x32, .f32⟩
  | 38 => ⟨S_, .f32⟩
  | 39 => ⟨S4x32, .f32⟩
  | 40 => ⟨S4x32x1, .f32⟩
  | 41 => ⟨S4x32x64, .f32⟩
  | 42 => ⟨S4x32x64, .f32⟩
  | 43 => ⟨S4x2048, .f32⟩
  | 44 => ⟨S2048, .i32⟩
  | 45 => ⟨S2048x1, .i32⟩
  | 46 => ⟨S2048, .i32⟩
  | 47 => ⟨S1x2048, .i32⟩
  | 48 => ⟨S2048x2048, .i32⟩
  | 49 => ⟨S2048x2048, .i32⟩
  | 50 => ⟨S2048x2048, .i1⟩
  | 51 => ⟨S4x2048x1, .f32⟩
  | 52 => ⟨S4x1x2048, .f32⟩
  | 53 => ⟨S4x2048x2048, .f32⟩
  | 54 => ⟨S4x2048x2048, .f32⟩
  | 55 => ⟨S4x2048x2048, .f32⟩
  | 56 => ⟨S4x1x2048, .f32⟩
  | 57 => ⟨S4x2048x2048, .f32⟩
  | 58 => ⟨S4x2048x2048, .f32⟩
  | 59 => ⟨S4x2048x2048, .f32⟩
  | 60 => ⟨S_, .f32⟩
  | 61 => ⟨S_, .f32⟩
  | 62 => ⟨S4x2048x2048, .i1⟩
  | 63 => ⟨S4x2048x2048, .f32⟩
  | 64 => ⟨S4x2048x2048, .f32⟩
  | 65 => ⟨S_, .f32⟩
  | 66 => ⟨S4x2048x256, .f32⟩
  | 67 => ⟨S4x2048x256, .f32⟩
  | 68 => ⟨S4x2048x2048, .f32⟩
  | 69 => ⟨S4x2048x2048, .f32⟩
  | 70 => ⟨S_, .f32⟩
  | 71 => ⟨S4x2048, .f32⟩
  | 72 => ⟨S4x2048, .f32⟩
  | 73 => ⟨S4x2048x256, .f32⟩
  | 74 => ⟨S_, .f32⟩
  | 75 => ⟨S4x2048, .f32⟩
  | 76 => ⟨S4x2048, .i1⟩
  | 77 => ⟨S_, .f32⟩
  | 78 => ⟨S_, .f32⟩
  | 79 => ⟨S4x2048, .f32⟩
  | 80 => ⟨S4x2048, .f32⟩
  | 81 => ⟨S4x2048x1, .f32⟩
  | 82 => ⟨S4x2048x256, .f32⟩
  | 83 => ⟨S4x2048x256, .f32⟩
  | 84 => ⟨S2048x4x256, .f32⟩
  | 85 => ⟨S2048x1024, .f32⟩
  | 86 => ⟨S4x32x64, .f32⟩
  | 87 => ⟨S32, .i32⟩
  | 88 => ⟨S1x32, .i32⟩
  | 89 => ⟨S32, .i32⟩
  | 90 => ⟨S32x1, .i32⟩
  | 91 => ⟨S32x32, .i32⟩
  | 92 => ⟨S32x32, .i32⟩
  | 93 => ⟨S32x32, .i1⟩
  | 94 => ⟨S4x32x1, .f32⟩
  | 95 => ⟨S4x32, .f32⟩
  | 96 => ⟨S4x1x32, .f32⟩
  | 97 => ⟨S_, .f32⟩
  | 98 => ⟨S_, .f32⟩
  | 99 => ⟨S4x32x32, .i1⟩
  | 100 => ⟨S4x32x32, .f32⟩
  | 101 => ⟨S4x32x32, .f32⟩
  | 102 => ⟨S4x32x32, .f32⟩
  | 103 => ⟨S_, .f32⟩
  | 104 => ⟨S4x32, .f32⟩
  | 105 => ⟨S4x32x1, .f32⟩
  | 106 => ⟨S4x32x64, .f32⟩
  | 107 => ⟨S4x32x64, .f32⟩
  | 108 => ⟨S4x2048, .f32⟩
  | 109 => ⟨S2048, .i32⟩
  | 110 => ⟨S1x2048, .i32⟩
  | 111 => ⟨S32, .i32⟩
  | 112 => ⟨S32x1, .i32⟩
  | 113 => ⟨S_, .i32⟩
  | 114 => ⟨S32x1, .i32⟩
  | 115 => ⟨S32x1, .i32⟩
  | 116 => ⟨S32x2048, .i32⟩
  | 117 => ⟨S32x2048, .i32⟩
  | 118 => ⟨S32x2048, .i1⟩
  | 119 => ⟨S4x32x1, .f32⟩
  | 120 => ⟨S4x1x2048, .f32⟩
  | 121 => ⟨S4x32x2048, .f32⟩
  | 122 => ⟨S4x32x2048, .f32⟩
  | 123 => ⟨S4x32x2048, .f32⟩
  | 124 => ⟨S4x1x2048, .f32⟩
  | 125 => ⟨S4x32x2048, .f32⟩
  | 126 => ⟨S4x32x2048, .f32⟩
  | 127 => ⟨S_, .f32⟩
  | _ => ⟨S2048x7296, .f32⟩

abbrev hbmTy0_1 (i : Nat) : BufTy := match i % 128 with
  | 0 => ⟨S_, .f32⟩
  | 1 => ⟨S4x32x2048, .i1⟩
  | 2 => ⟨S4x32x2048, .f32⟩
  | 3 => ⟨S4x32x2048, .f32⟩
  | 4 => ⟨S_, .f32⟩
  | 5 => ⟨S4x32, .f32⟩
  | 6 => ⟨S4x32, .f32⟩
  | 7 => ⟨S4x32x1, .f32⟩
  | 8 => ⟨S4x32x2048, .f32⟩
  | 9 => ⟨S4x32x2048, .f32⟩
  | 10 => ⟨S4x32x2048, .f32⟩
  | 11 => ⟨S_, .f32⟩
  | 12 => ⟨S_, .f32⟩
  | 13 => ⟨S4x32x2048, .i1⟩
  | 14 => ⟨S4x32x2048, .f32⟩
  | 15 => ⟨S4x32x2048, .f32⟩
  | 16 => ⟨S4x32x2048x1, .f32⟩
  | 17 => ⟨S4x1x2048x256, .f32⟩
  | 18 => ⟨S4x32x2048x256, .f32⟩
  | 19 => ⟨S4x32x2048x256, .f32⟩
  | 20 => ⟨S4x32x2048x256, .f32⟩
  | 21 => ⟨S4x32x256x256, .f32⟩
  | 22 => ⟨S4x32x256, .f32⟩
  | 23 => ⟨S8, .i32⟩
  | 24 => ⟨S1x1x8x1, .i32⟩
  | 25 => ⟨S_, .i32⟩
  | 26 => ⟨S1x1x8x1, .i32⟩
  | 27 => ⟨S1x1x8x1, .i1⟩
  | 28 => ⟨S4x32x1x1, .f32⟩
  | 29 => ⟨S4x32x1x256, .f32⟩
  | 30 => ⟨S4x32x8x256, .i1⟩
  | 31 => ⟨S4x32x8x256, .f32⟩
  | 32 => ⟨S4x32x8x256, .f32⟩
  | 33 => ⟨S4x32x8x256, .f32⟩
  | 34 => ⟨S2048x7296, .bf16⟩
  | 35 => ⟨S4x2048x128, .f32⟩
  | _ => ⟨S2048x7296, .f32⟩

abbrev hbmTy (i : Nat) : BufTy := match i / 128 with
  | 0 => hbmTy0_0 i
  | 1 => hbmTy0_1 i
  | _ => ⟨S2048x7296, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x128, .f32⟩
  | .local _ .vmem, ⟨7, _⟩ => ⟨S64x128, .f32⟩
  | .local _ .vmem, ⟨8, _⟩ => ⟨S1x8x64, .f32⟩
  | .local _ .vmem, ⟨9, _⟩ => ⟨S1x8x64, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S4x1x256x256, .f32⟩
  | .local _ .vmem, ⟨15, _⟩ => ⟨S4x1x256x256, .f32⟩
  | .local _ .vmem, ⟨16, _⟩ => ⟨S4x1x8x256, .f32⟩
  | .local _ .vmem, ⟨17, _⟩ => ⟨S4x1x8x256, .f32⟩
  | .local _ .vmem, ⟨18, _⟩ => ⟨S64x3072, .bf16⟩
  | .local _ .vmem, ⟨19, _⟩ => ⟨S64x3072, .bf16⟩
  | .local _ .vmem, ⟨20, _⟩ => ⟨S4x64x128, .f32⟩
  | .local _ .vmem, ⟨21, _⟩ => ⟨S4x64x128, .f32⟩
  | .local _ .vmem, ⟨22, _⟩ => ⟨S4x256x256, .f32⟩
  | .local _ .vmem, ⟨23, _⟩ => ⟨S4x8x256, .f32⟩
  | _, _ => ⟨S2048x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_1 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v50 : Ref sig .tc := ⟨.hbm, 64, rfl⟩
abbrev main_cst_2 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_3 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_call2_v0 : Ref sig .tc := ⟨.hbm, 78, rfl⟩
abbrev main_call2_v1 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_6 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_v77 : Ref sig .tc := ⟨.hbm, 102, rfl⟩
abbrev main_cst_7 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_8 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v100 : Ref sig .tc := ⟨.hbm, 131, rfl⟩
abbrev main_cst_9 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_10 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_11 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v121 : Ref sig .tc := ⟨.hbm, 161, rfl⟩
abbrev main_v122_0 : Ref sig .tc := ⟨.hbm, 162, rfl⟩
abbrev main_v122_1 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F]
-- ==== ReferenceIdeal.lean ====
abbrev S2048x7296 : Shape := ⟨2, ![2048, 7296]⟩
abbrev S2048x128 : Shape := ⟨2, ![2048, 128]⟩
abbrev S2048x1024 : Shape := ⟨2, ![2048, 1024]⟩
abbrev S2048x4x256 : Shape := ⟨3, ![2048, 4, 256]⟩
abbrev S4x2048x256 : Shape := ⟨3, ![4, 2048, 256]⟩
abbrev S2048x4 : Shape := ⟨2, ![2048, 4]⟩
abbrev S4x2048 : Shape := ⟨2, ![4, 2048]⟩
abbrev S4x32x64 : Shape := ⟨3, ![4, 32, 64]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S4x32x1 : Shape := ⟨3, ![4, 32, 1]⟩
abbrev S4x32 : Shape := ⟨2, ![4, 32]⟩
abbrev S4x1x32 : Shape := ⟨3, ![4, 1, 32]⟩
abbrev S_ : Shape := ⟨0, ![]⟩
abbrev S4x32x32 : Shape := ⟨3, ![4, 32, 32]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S4x256x2048 : Shape := ⟨3, ![4, 256, 2048]⟩
abbrev S2048x3072 : Shape := ⟨2, ![2048, 3072]⟩
abbrev S2048x1152 : Shape := ⟨2, ![2048, 1152]⟩
abbrev S4x2048x126 : Shape := ⟨3, ![4, 2048, 126]⟩
abbrev S4x2048x128 : Shape := ⟨3, ![4, 2048, 128]⟩

abbrev nBuf : Space → Nat
  | .hbm => 185
  | .vmem => 0
  | .smem => 0
  | _ => 0

abbrev hbmTy0_0 (i : Nat) : BufTy := match i % 128 with
  | 0 => ⟨S2048x7296, .f32⟩
  | 1 => ⟨S2048x128, .f32⟩
  | 2 => ⟨S2048x1024, .f32⟩
  | 3 => ⟨S2048x7296, .bf16⟩
  | 4 => ⟨S2048x1024, .f32⟩
  | 5 => ⟨S2048x4x256, .f32⟩
  | 6 => ⟨S4x2048x256, .f32⟩
  | 7 => ⟨S2048x1024, .f32⟩
  | 8 => ⟨S2048x4x256, .f32⟩
  | 9 => ⟨S4x2048x256, .f32⟩
  | 10 => ⟨S2048x1024, .f32⟩
  | 11 => ⟨S2048x4x256, .f32⟩
  | 12 => ⟨S4x2048x256, .f32⟩
  | 13 => ⟨S2048x4, .f32⟩
  | 14 => ⟨S4x2048, .f32⟩
  | 15 => ⟨S2048x4, .f32⟩
  | 16 => ⟨S4x2048, .f32⟩
  | 17 => ⟨S4x32x64, .f32⟩
  | 18 => ⟨S32, .i32⟩
  | 19 => ⟨S1x32, .i32⟩
  | 20 => ⟨S32, .i32⟩
  | 21 => ⟨S32x1, .i32⟩
  | 22 => ⟨S32x32, .i32⟩
  | 23 => ⟨S32x32, .i32⟩
  | 24 => ⟨S32x32, .i1⟩
  | 25 => ⟨S4x32x1, .f32⟩
  | 26 => ⟨S4x32, .f32⟩
  | 27 => ⟨S4x1x32, .f32⟩
  | 28 => ⟨S_, .f32⟩
  | 29 => ⟨S_, .f32⟩
  | 30 => ⟨S4x32x32, .i1⟩
  | 31 => ⟨S4x32x32, .f32⟩
  | 32 => ⟨S4x32x32, .f32⟩
  | 33 => ⟨S4x32x32, .f32⟩
  | 34 => ⟨S_, .f32⟩
  | 35 => ⟨S4x32x32, .f32⟩
  | 36 => ⟨S_, .f32⟩
  | 37 => ⟨S4x32, .f32⟩
  | 38 => ⟨S4x32x1, .f32⟩
  | 39 => ⟨S4x32x64, .f32⟩
  | 40 => ⟨S4x32x64, .f32⟩
  | 41 => ⟨S4x2048, .f32⟩
  | 42 => ⟨S2048, .i32⟩
  | 43 => ⟨S2048x1, .i32⟩
  | 44 => ⟨S2048, .i32⟩
  | 45 => ⟨S1x2048, .i32⟩
  | 46 => ⟨S2048x2048, .i32⟩
  | 47 => ⟨S2048x2048, .i32⟩
  | 48 => ⟨S2048x2048, .i1⟩
  | 49 => ⟨S4x2048x1, .f32⟩
  | 50 => ⟨S4x1x2048, .f32⟩
  | 51 => ⟨S4x2048x2048, .f32⟩
  | 52 => ⟨S4x2048x2048, .f32⟩
  | 53 => ⟨S4x2048x2048, .f32⟩
  | 54 => ⟨S4x1x2048, .f32⟩
  | 55 => ⟨S4x2048x2048, .f32⟩
  | 56 => ⟨S4x2048x2048, .f32⟩
  | 57 => ⟨S4x2048x2048, .f32⟩
  | 58 => ⟨S_, .f32⟩
  | 59 => ⟨S_, .f32⟩
  | 60 => ⟨S4x2048x2048, .i1⟩
  | 61 => ⟨S4x2048x2048, .f32⟩
  | 62 => ⟨S4x2048x2048, .f32⟩
  | 63 => ⟨S_, .f32⟩
  | 64 => ⟨S4x2048x2048, .f32⟩
  | 65 => ⟨S_, .f32⟩
  | 66 => ⟨S4x2048x256, .f32⟩
  | 67 => ⟨S4x2048x256, .f32⟩
  | 68 => ⟨S4x2048x2048, .f32⟩
  | 69 => ⟨S4x2048x2048, .f32⟩
  | 70 => ⟨S_, .f32⟩
  | 71 => ⟨S4x2048, .f32⟩
  | 72 => ⟨S4x2048, .f32⟩
  | 73 => ⟨S_, .f32⟩
  | 74 => ⟨S4x2048, .f32⟩
  | 75 => ⟨S4x2048, .i1⟩
  | 76 => ⟨S4x2048x256, .f32⟩
  | 77 => ⟨S_, .f32⟩
  | 78 => ⟨S4x2048, .f32⟩
  | 79 => ⟨S4x2048, .i1⟩
  | 80 => ⟨S_, .f32⟩
  | 81 => ⟨S_, .f32⟩
  | 82 => ⟨S4x2048, .f32⟩
  | 83 => ⟨S4x2048, .f32⟩
  | 84 => ⟨S_, .f32⟩
  | 85 => ⟨S4x2048, .f32⟩
  | 86 => ⟨S4x2048x1, .f32⟩
  | 87 => ⟨S4x2048x256, .f32⟩
  | 88 => ⟨S4x2048x256, .f32⟩
  | 89 => ⟨S4x2048x1, .f32⟩
  | 90 => ⟨S_, .f32⟩
  | 91 => ⟨S4x2048x1, .f32⟩
  | 92 => ⟨S4x2048x1, .f32⟩
  | 93 => ⟨S2048x4x256, .f32⟩
  | 94 => ⟨S4x2048x256, .f32⟩
  | 95 => ⟨S4x2048x256, .f32⟩
  | 96 => ⟨S4x2048x256, .f32⟩
  | 97 => ⟨S4x2048x256, .f32⟩
  | 98 => ⟨S_, .f32⟩
  | 99 => ⟨S4x2048, .f32⟩
  | 100 => ⟨S4x2048x1, .f32⟩
  | 101 => ⟨S4x2048x1, .f32⟩
  | 102 => ⟨S4x2048x256, .f32⟩
  | 103 => ⟨S4x2048x256, .f32⟩
  | 104 => ⟨S_, .f32⟩
  | 105 => ⟨S4x2048, .f32⟩
  | 106 => ⟨S_, .f32⟩
  | 107 => ⟨S4x2048, .f32⟩
  | 108 => ⟨S4x2048, .f32⟩
  | 109 => ⟨S4x256x2048, .f32⟩
  | 110 => ⟨S4x2048x256, .f32⟩
  | 111 => ⟨S4x2048x2048, .f32⟩
  | 112 => ⟨S_, .f32⟩
  | 113 => ⟨S4x2048, .f32⟩
  | 114 => ⟨S4x2048, .f32⟩
  | 115 => ⟨S4x2048, .f32⟩
  | 116 => ⟨S4x2048, .f32⟩
  | 117 => ⟨S4x2048, .f32⟩
  | 118 => ⟨S4x2048x2048, .f32⟩
  | 119 => ⟨S4x2048x2048, .f32⟩
  | 120 => ⟨S4x2048x2048, .f32⟩
  | 121 => ⟨S4x2048x2048, .f32⟩
  | 122 => ⟨S4x2048x256, .f32⟩
  | 123 => ⟨S4x2048x256, .f32⟩
  | 124 => ⟨S_, .f32⟩
  | 125 => ⟨S4x2048x256, .f32⟩
  | 126 => ⟨S4x2048x256, .f32⟩
  | 127 => ⟨S_, .f32⟩
  | _ => ⟨S2048x7296, .f32⟩

abbrev hbmTy0_1 (i : Nat) : BufTy := match i % 128 with
  | 0 => ⟨S4x2048x2048, .f32⟩
  | 1 => ⟨S4x2048x2048, .f32⟩
  | 2 => ⟨S4x2048x2048, .f32⟩
  | 3 => ⟨S_, .f32⟩
  | 4 => ⟨S4x2048, .f32⟩
  | 5 => ⟨S4x1x2048, .f32⟩
  | 6 => ⟨S_, .f32⟩
  | 7 => ⟨S4x2048, .f32⟩
  | 8 => ⟨S_, .f32⟩
  | 9 => ⟨S4x2048, .f32⟩
  | 10 => ⟨S4x2048x1, .f32⟩
  | 11 => ⟨S4x2048x2048, .f32⟩
  | 12 => ⟨S_, .f32⟩
  | 13 => ⟨S4x2048, .f32⟩
  | 14 => ⟨S4x1x2048, .f32⟩
  | 15 => ⟨S_, .f32⟩
  | 16 => ⟨S4x2048, .f32⟩
  | 17 => ⟨S_, .f32⟩
  | 18 => ⟨S4x2048, .f32⟩
  | 19 => ⟨S4x2048, .f32⟩
  | 20 => ⟨S4x32x64, .f32⟩
  | 21 => ⟨S_, .f32⟩
  | 22 => ⟨S4x32, .f32⟩
  | 23 => ⟨S4x32x1, .f32⟩
  | 24 => ⟨S_, .f32⟩
  | 25 => ⟨S4x32, .f32⟩
  | 26 => ⟨S4x32x32, .f32⟩
  | 27 => ⟨S_, .f32⟩
  | 28 => ⟨S4x32x32, .f32⟩
  | 29 => ⟨S4x32x32, .f32⟩
  | 30 => ⟨S_, .f32⟩
  | 31 => ⟨S4x32, .f32⟩
  | 32 => ⟨S4x1x32, .f32⟩
  | 33 => ⟨S_, .f32⟩
  | 34 => ⟨S4x32, .f32⟩
  | 35 => ⟨S4x32x1, .f32⟩
  | 36 => ⟨S_, .f32⟩
  | 37 => ⟨S4x32x64, .f32⟩
  | 38 => ⟨S4x32x64, .f32⟩
  | 39 => ⟨S4x2048, .f32⟩
  | 40 => ⟨S2048x3072, .bf16⟩
  | 41 => ⟨S2048x4x256, .f32⟩
  | 42 => ⟨S2048x1024, .f32⟩
  | 43 => ⟨S2048x1024, .bf16⟩
  | 44 => ⟨S2048x4x256, .f32⟩
  | 45 => ⟨S2048x1024, .f32⟩
  | 46 => ⟨S2048x1024, .bf16⟩
  | 47 => ⟨S2048x4x256, .f32⟩
  | 48 => ⟨S2048x1024, .f32⟩
  | 49 => ⟨S2048x1024, .bf16⟩
  | 50 => ⟨S2048x1152, .bf16⟩
  | 51 => ⟨S2048x7296, .bf16⟩
  | 52 => ⟨S4x2048x1, .f32⟩
  | 53 => ⟨S4x2048x1, .f32⟩
  | 54 => ⟨S_, .f32⟩
  | 55 => ⟨S4x2048x126, .f32⟩
  | 56 => ⟨S4x2048x128, .f32⟩
  | _ => ⟨S2048x7296, .f32⟩

abbrev hbmTy (i : Nat) : BufTy := match i / 128 with
  | 0 => hbmTy0_0 i
  | 1 => hbmTy0_1 i
  | _ => ⟨S2048x7296, .f32⟩

abbrev bufTy : (tb : Table) → Fin (tcTables nBuf tb) → BufTy
  | .hbm, ⟨i, _⟩ => hbmTy i
  | _, _ => ⟨S2048x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_call0_v3 : Ref sig .tc := ⟨.hbm, 32, rfl⟩
abbrev main_v24_0 : Ref sig .tc := ⟨.hbm, 33, rfl⟩
abbrev main_call0_cst : Ref sig .tc := ⟨.hbm, 34, rfl⟩
abbrev main_v24_2 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_call1_v0 : Ref sig .tc := ⟨.hbm, 59, rfl⟩
abbrev main_v46_1 : Ref sig .tc := ⟨.hbm, 60, rfl⟩
abbrev main_call1_v2 : Ref sig .tc := ⟨.hbm, 61, rfl⟩
abbrev main_v46_0 : Ref sig .tc := ⟨.hbm, 62, rfl⟩
abbrev main_call1_cst : Ref sig .tc := ⟨.hbm, 63, rfl⟩
abbrev main_v46_2 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_call2_v0 : Ref sig .tc := ⟨.hbm, 81, rfl⟩
abbrev main_call2_v1 : Ref sig .tc := ⟨.hbm, 82, rfl⟩
abbrev main_v58_0 : Ref sig .tc := ⟨.hbm, 83, rfl⟩
abbrev main_call2_cst : Ref sig .tc := ⟨.hbm, 84, rfl⟩
abbrev main_v58_1 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_7 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_8 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_9 : Ref sig .tc := ⟨.hbm, 104, rfl⟩
abbrev main_v75 : Ref sig .tc := ⟨.hbm, 105, rfl⟩
abbrev main_call3_cst : Ref sig .tc := ⟨.hbm, 106, rfl⟩
abbrev main_call3_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_10 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_11 : Ref sig .tc := ⟨.hbm, 124, rfl⟩
abbrev main_v91 : Ref sig .tc := ⟨.hbm, 125, rfl⟩
abbrev main_v92 : Ref sig .tc := ⟨.hbm, 126, rfl⟩
abbrev main_call4_cst : Ref sig .tc := ⟨.hbm, 127, rfl⟩
abbrev main_call4_v0 : Ref sig .tc := ⟨.hbm, 128, rfl⟩
abbrev main_v93 : Ref sig .tc := ⟨.hbm, 129, rfl⟩
abbrev main_v94 : Ref sig .tc := ⟨.hbm, 130, rfl⟩
abbrev main_cst_12 : Ref sig .tc := ⟨.hbm, 131, rfl⟩
abbrev main_v95 : Ref sig .tc := ⟨.hbm, 132, rfl⟩
abbrev main_v96 : Ref sig .tc := ⟨.hbm, 133, rfl⟩
abbrev main_cst_13 : Ref sig .tc := ⟨.hbm, 134, rfl⟩
abbrev main_v97 : Ref sig .tc := ⟨.hbm, 135, rfl⟩
abbrev main_cst_14 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_15 : Ref sig .tc := ⟨.hbm, 140, rfl⟩
abbrev main_v101 : Ref sig .tc := ⟨.hbm, 141, rfl⟩
abbrev main_v102 : Ref sig .tc := ⟨.hbm, 142, rfl⟩
abbrev main_cst_16 : Ref sig .tc := ⟨.hbm, 143, rfl⟩
abbrev main_v103 : Ref sig .tc := ⟨.hbm, 144, rfl⟩
abbrev main_cst_17 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_18 : Ref sig .tc := ⟨.hbm, 149, rfl⟩
abbrev main_v107 : Ref sig .tc := ⟨.hbm, 150, rfl⟩
abbrev main_v108 : Ref sig .tc := ⟨.hbm, 151, rfl⟩
abbrev main_cst_19 : Ref sig .tc := ⟨.hbm, 152, rfl⟩
abbrev main_v109 : Ref sig .tc := ⟨.hbm, 153, rfl⟩
abbrev main_v110 : Ref sig .tc := ⟨.hbm, 154, rfl⟩
abbrev main_call5_cst : Ref sig .tc := ⟨.hbm, 155, rfl⟩
abbrev main_call5_v0 : Ref sig .tc := ⟨.hbm, 156, rfl⟩
abbrev main_call5_v1 : Ref sig .tc := ⟨.hbm, 157, rfl⟩
abbrev main_call5_cst_0 : Ref sig .tc := ⟨.hbm, 158, rfl⟩
abbrev main_call5_v2 : Ref sig .tc := ⟨.hbm, 159, rfl⟩
abbrev main_v111 : Ref sig .tc := ⟨.hbm, 160, rfl⟩
abbrev main_cst_20 : Ref sig .tc := ⟨.hbm, 161, rfl⟩
abbrev main_v112 : Ref sig .tc := ⟨.hbm, 162, rfl⟩
abbrev main_v113 : Ref sig .tc := ⟨.hbm, 163, rfl⟩
abbrev main_cst_21 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_22 : Ref sig .tc := ⟨.hbm, 182, rfl⟩
abbrev main_v131 : Ref sig .tc := ⟨.hbm, 183, rfl⟩
abbrev main_v132 : Ref sig .tc := ⟨.hbm, 184, rfl⟩

abbrev nD : Nat := 1
abbrev τ : Topo := Topo.v7x

variable {F : FTy → Type} [FloatOps F]
-- ==== UpDw.lean ====
abbrev S2048x2048 : Shape := ⟨2, ![2048, 2048]⟩
abbrev S2048x5632 : Shape := ⟨2, ![2048, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let v_true : BitVec 1 := 1#1
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 1 := Scalar.andi v_true v17
  let v19 : BitVec 32 := Scalar.extui v18
  let c0_i32_5 : BitVec 32 := 0#32
  let v20 : BitVec 1 := Scalar.cmpi .ne v19 c0_i32_5
  v20

def k0_cond2 (i : grid0.Coords) : BitVec 1 :=
  let true_7 : BitVec 1 := 1#1
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_6 : BitVec 32 := 1#32
  let v21 : BitVec 1 := Scalar.cmpi .eq v16 c1_i32_6
  let v22 : BitVec 1 := Scalar.andi true_7 v21
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwRefIdeal.lean ====
abbrev S2048x2048 : Shape := ⟨2, ![2048, 2048]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x11264, .bf16⟩
  | .hbm, ⟨4, _⟩ => ⟨S_, .f32⟩
  | .hbm, ⟨5, _⟩ => ⟨S2048x11264, .f32⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== UpDx.lean ====
abbrev S2048x5632 : Shape := ⟨2, ![2048, 5632]⟩
abbrev S8x2048x1408 : Shape := ⟨3, ![8, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1024, .f32⟩
  | .local _ .vmem, ⟨7, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v_true : BitVec 1 := 1#1
  let v18 : BitVec 1 := Scalar.andi v17 v_true
  let v19 : BitVec 32 := Scalar.extui v18
  let c0_i32_5 : BitVec 32 := 0#32
  let v20 : BitVec 1 := Scalar.cmpi .ne v19 c0_i32_5
  v20

def k0_cond2 (i : grid0.Coords) : BitVec 1 :=
  let arg2 : BitVec 32 := BitVec.ofNat 32 (i 2).val
  let c0_i32_9 : BitVec 32 := 0#32
  let v25 : BitVec 1 := Scalar.cmpi .eq arg2 c0_i32_9
  let v26 : BitVec 32 := Scalar.extui v25
  let c0_i32_10 : BitVec 32 := 0#32
  let v27 : BitVec 1 := Scalar.cmpi .ne v26 c0_i32_10
  v27

def k0_cond3 (i : grid0.Coords) : BitVec 1 :=
  let arg2 : BitVec 32 := BitVec.ofNat 32 (i 2).val
  let c0_i32_11 : BitVec 32 := 0#32
  let v28 : BitVec 1 := Scalar.cmpi .sgt arg2 c0_i32_11
  let v29 : BitVec 32 := Scalar.extui v28
  let c0_i32_12 : BitVec 32 := 0#32
  let v30 : BitVec 1 := Scalar.cmpi .ne v29 c0_i32_12
  v30

def k0_cond4 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_6 : BitVec 32 := 1#32
  let v21 : BitVec 1 := Scalar.cmpi .eq v16 c1_i32_6
  let true_7 : BitVec 1 := 1#1
  let v22 : BitVec 1 := Scalar.andi v21 true_7
  let v23 : BitVec 32 := Scalar.extui v22
  let c0_i32_8 : BitVec 32 := 0#32
  let v24 : BitVec 1 := Scalar.cmpi .ne v23 c0_i32_8
  v24

def k0_cond5 (i : grid0.Coords) : BitVec 1 :=
  let arg2 : BitVec 32 := BitVec.ofNat 32 (i 2).val
  let c0_i32_9 : BitVec 32 := 0#32
  let v25 : BitVec 1 := Scalar.cmpi .eq arg2 c0_i32_9
  let v26 : BitVec 32 := Scalar.extui v25
  let c0_i32_10 : BitVec 32 := 0#32
  let v27 : BitVec 1 := Scalar.cmpi .ne v26 c0_i32_10
  v27

def k0_cond6 (i : grid0.Coords) : BitVec 1 :=
  let arg2 : BitVec 32 := BitVec.ofNat 32 (i 2).val
  let c0_i32_11 : BitVec 32 := 0#32
  let v28 : BitVec 1 := Scalar.cmpi .sgt arg2 c0_i32_11
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S2048x5632 : Shape := ⟨2, ![2048, 5632]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S2048x8x1408, .bf16⟩
  | .hbm, ⟨4, _⟩ => ⟨S2048x11264, .bf16⟩
  | .hbm, ⟨5, _⟩ => ⟨S2048x11264, .bf16⟩
  | .hbm, ⟨6, _⟩ => ⟨S_, .f32⟩
  | .hbm, ⟨7, _⟩ => ⟨S2048x2048, .f32⟩
  | .hbm, ⟨8, _⟩ => ⟨S2048x11264, .f32⟩
  | .hbm, ⟨9, _⟩ => ⟨S2048x11264, .f32⟩
  | .hbm, ⟨10, _⟩ => ⟨S2048x11264, .f32⟩
  | .hbm, ⟨11, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S2x2048x1024 : Shape := ⟨3, ![2, 2048, 1024]⟩
abbrev S2048x2048 : Shape := ⟨2, ![2048, 2048]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .bf16⟩
  | .hbm, ⟨2, _⟩ => ⟨S2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2x2048x1024 : Shape := ⟨3, ![2, 2048, 1024]⟩
abbrev S2048x2048 : Shape := ⟨2, ![2048, 2048]⟩
abbrev S2048x2x1024 : Shape := ⟨3, ![2048, 2, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .bf16⟩
  | .hbm, ⟨2, _⟩ => ⟨S2048x2x1024, .bf16⟩
  | .hbm, ⟨3, _⟩ => ⟨S2048x2048, .bf16⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S2048x7296 : Shape := ⟨2, ![2048, 7296]⟩
abbrev S2048x2048 : Shape := ⟨2, ![2048, 2048]⟩
abbrev S7296x2048 : Shape := ⟨2, ![7296, 2048]⟩
abbrev S2048x2432 : Shape := ⟨2, ![2048, 2432]⟩
abbrev S2048x1024 : Shape := ⟨2, ![2048, 1024]⟩
abbrev S2432x1024 : Shape := ⟨2, ![2432, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x7296, .bf16⟩
  | .hbm, ⟨1, _⟩ => ⟨S2048x2048, .bf16⟩
  | .hbm, ⟨2, _⟩ => ⟨S7296x2048, .bf16⟩
  | .local _ .vmem, ⟨0, _⟩ => ⟨S2048x2432, .bf16⟩
  | .local _ .vmem, ⟨1, _⟩ => ⟨S2048x2432, .bf16⟩
  | .local _ .vmem, ⟨2, _⟩ => ⟨S2048x1024, .bf16⟩
  | .local _ .vmem, ⟨3, _⟩ => ⟨S2048x1024, .bf16⟩
  | .local _ .vmem, ⟨4, _⟩ => ⟨S2432x1024, .bf16⟩
  | .local _ .vmem, ⟨5, _⟩ => ⟨S2432x1024, .bf16⟩
  | _, _ => ⟨S2048x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2432x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S2048x7296 : Shape := ⟨2, ![2048, 7296]⟩
abbrev S2048x2048 : Shape := ⟨2, ![2048, 2048]⟩
abbrev S_ : Shape := ⟨0, ![]⟩
abbrev S7296x2048 : Shape := ⟨2, ![7296, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x7296, .bf16⟩
  | .hbm, ⟨1, _⟩ => ⟨S2048x2048, .bf16⟩
  | .hbm, ⟨2, _⟩ => ⟨S_, .f32⟩
  | .hbm, ⟨3, _⟩ => ⟨S2048x7296, .f32⟩
  | .hbm, ⟨4, _⟩ => ⟨S2048x2048, .f32⟩
  | .hbm, ⟨5, _⟩ => ⟨S2048x7296, .f32⟩
  | .hbm, ⟨6, _⟩ => ⟨S2048x7296, .f32⟩
  | .hbm, ⟨7, _⟩ => ⟨S7296x2048, .f32⟩
  | .hbm, ⟨8, _⟩ => ⟨S2048x7296, .f32⟩
  | .hbm, ⟨9, _⟩ => ⟨S7296x2048, .f32⟩
  | .hbm, ⟨10, _⟩ => ⟨S7296x2048, .bf16⟩
  | _, _ => ⟨S2048x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjDx.lean ====
abbrev S2048x7296 : Shape := ⟨2, ![2048, 7296]⟩
abbrev S7296x2048 : Shape := ⟨2, ![7296, 2048]⟩
abbrev S2048x2048 : Shape := ⟨2, ![2048, 2048]⟩
abbrev S512x7296 : Shape := ⟨2, ![512, 7296]⟩
abbrev S7296x512 : Shape := ⟨2, ![7296, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x7296, .bf16⟩
  | .hbm, ⟨1, _⟩ => ⟨S7296x2048, .bf16⟩
  | .hbm, ⟨2, _⟩ => ⟨S2048x2048, .f32⟩
  | .hbm, ⟨3, _⟩ => ⟨S2048x2048, .f32⟩
  | .local _ .vmem, ⟨0, _⟩ => ⟨S512x7296, .bf16⟩
  | .local _ .vmem, ⟨1, _⟩ => ⟨S512x7296, .bf16⟩
  | .local _ .vmem, ⟨2, _⟩ => ⟨S7296x512, .bf16⟩
  | .local _ .vmem, ⟨3, _⟩ => ⟨S7296x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x7296 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S7296x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDxRefIdeal.lean ====
abbrev S2048x7296 : Shape := ⟨2, ![2048, 7296]⟩
abbrev S7296x2048 : Shape := ⟨2, ![7296, 2048]⟩
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x7296, .bf16⟩
  | .hbm, ⟨1, _⟩ => ⟨S7296x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x7296, .bf16⟩
  | .hbm, ⟨9, _⟩ => ⟨S2048x7296, .f32⟩
  | .hbm, ⟨10, _⟩ => ⟨S2048x7296, .f32⟩
  | .hbm, ⟨11, _⟩ => ⟨S2048x7296, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== ProjFwd.lean ====
abbrev S2048x2048 : Shape := ⟨2, ![2048, 2048]⟩
abbrev S7296x2048 : Shape := ⟨2, ![7296, 2048]⟩
abbrev S2048x7296 : Shape := ⟨2, ![2048, 7296]⟩
abbrev S512x2048 : Shape := ⟨2, ![512, 2048]⟩
abbrev S2432x2048 : Shape := ⟨2, ![2432, 2048]⟩
abbrev S512x2432 : Shape := ⟨2, ![512, 2432]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S7296x2048, .bf16⟩
  | .hbm, ⟨2, _⟩ => ⟨S2048x7296, .f32⟩
  | .local _ .vmem, ⟨0, _⟩ => ⟨S512x2048, .bf16⟩
  | .local _ .vmem, ⟨1, _⟩ => ⟨S512x2048, .bf16⟩
  | .local _ .vmem, ⟨2, _⟩ => ⟨S2432x2048, .bf16⟩
  | .local _ .vmem, ⟨3, _⟩ => ⟨S2432x2048, .bf16⟩
  | .local _ .vmem, ⟨4, _⟩ => ⟨S512x2432, .f32⟩
  | .local _ .vmem, ⟨5, _⟩ => ⟨S512x2432, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwdRefIdeal.lean ====
abbrev S2048x2048 : Shape := ⟨2, ![2048, 2048]⟩
abbrev S7296x2048 : Shape := ⟨2, ![7296, 2048]⟩
abbrev S2048x7296 : Shape := ⟨2, ![2048, 7296]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S7296x2048, .bf16⟩
  | .hbm, ⟨2, _⟩ => ⟨S2048x7296, .bf16⟩
  | .hbm, ⟨3, _⟩ => ⟨S2048x2048, .f32⟩
  | .hbm, ⟨4, _⟩ => ⟨S2048x7296, .f32⟩
  | .hbm, ⟨5, _⟩ => ⟨S2048x7296, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutFwd.lean ====
abbrev S2x2048x1024 : Shape := ⟨3, ![2, 2048, 1024]⟩
abbrev S2048x2048 : Shape := ⟨2, ![2048, 2048]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .bf16⟩
  | .hbm, ⟨2, _⟩ => ⟨S2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S2x2048x1024 : Shape := ⟨3, ![2, 2048, 1024]⟩
abbrev S2048x2048 : Shape := ⟨2, ![2048, 2048]⟩
abbrev S2048x2x1024 : Shape := ⟨3, ![2048, 2, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .bf16⟩
  | .hbm, ⟨2, _⟩ => ⟨S2048x2x1024, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpFwd.lean ====
abbrev S2048x2048 : Shape := ⟨2, ![2048, 2048]⟩
abbrev S8x2048x1408 : Shape := ⟨3, ![8, 2048, 1408]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S2048x2048, .f32⟩
  | .hbm, ⟨5, _⟩ => ⟨S2048x11264, .f32⟩
  | .hbm, ⟨6, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownFwd.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamDown.lean ====
abbrev S4x704x2048 : Shape := ⟨3, ![4, 704, 2048]⟩
abbrev S704x2048 : Shape := ⟨2, ![704, 2048]⟩
abbrev S4x176x2048 : Shape := ⟨3, ![4, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S4x176x2048, .bf16⟩
  | .local _ .vmem, ⟨1, _⟩ => ⟨S4x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamDownRefIdeal.lean ====
abbrev S4x704x2048 : Shape := ⟨3, ![4, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S4x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S4x2048x1408 : Shape := ⟨3, ![4, 2048, 1408]⟩
abbrev S2048x1408 : Shape := ⟨2, ![2048, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamUpRefIdeal.lean ====
abbrev S4x2048x1408 : Shape := ⟨3, ![4, 2048, 1408]⟩
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S4x2048x1408, .f32⟩
  | .hbm, ⟨5, _⟩ => ⟨S_, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamOutRefIdeal.lean ====
abbrev S4x256x2048 : Shape := ⟨3, ![4, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S208x128 : Shape := ⟨2, ![208, 128]⟩

abbrev nBuf : Space → Nat
  | .hbm => 7
  | .vmem => 7
  | .smem => 0
  | _ => 0

abbrev bufTy : (tb : Table) → Fin (tcTables nBuf tb) → BufTy
  | .hbm, ⟨0, _⟩ => ⟨S208x128, .f32⟩
  | .hbm, ⟨1, _⟩ => ⟨S208x128, .f32⟩
  | .hbm, ⟨2, _⟩ => ⟨S208x128, .f32⟩
  | .hbm, ⟨3, _⟩ => ⟨S208x128, .f32⟩
  | .hbm, ⟨4, _⟩ => ⟨S208x128, .f32⟩
  | .hbm, ⟨5, _⟩ => ⟨S208x128, .f32⟩
  | .hbm, ⟨6, _⟩ => ⟨S208x128, .f32⟩
  | .local _ .vmem, ⟨0, _⟩ => ⟨S208x128, .f32⟩
  | .local _ .vmem, ⟨1, _⟩ => ⟨S208x128, .f32⟩
  | .local _ .vmem, ⟨2, _⟩ => ⟨S208x128, .f32⟩
  | .local _ .vmem, ⟨3, _⟩ => ⟨S208x128, .f32⟩
  | .local _ .vmem, ⟨4, _⟩ => ⟨S208x128, .f32⟩
  | .local _ .vmem, ⟨5, _⟩ => ⟨S208x128, .f32⟩
  | .local _ .vmem, ⟨6, _⟩ => ⟨S208x128, .f32⟩
  | _, _ => ⟨S208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S208x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S208x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S208x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S208x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S208x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S208x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamSmallRefIdeal.lean ====
abbrev S208x128 : Shape := ⟨2, ![208, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S208x128, .f32⟩
  | .hbm, ⟨1, _⟩ => ⟨S208x128, .f32⟩
  | .hbm, ⟨2, _⟩ => ⟨S208x128, .f32⟩
  | .hbm, ⟨3, _⟩ => ⟨S208x128, .f32⟩
  | .hbm, ⟨4, _⟩ => ⟨S_, .f32⟩
  | .hbm, ⟨5, _⟩ => ⟨S208x128, .f32⟩
  | .hbm, ⟨6, _⟩ => ⟨S208x128, .f32⟩
  | .hbm, ⟨7, _⟩ => ⟨S_, .f32⟩
  | .hbm, ⟨8, _⟩ => ⟨S208x128, .f32⟩
  | .hbm, ⟨9, _⟩ => ⟨S208x128, .f32⟩
  | .hbm, ⟨10, _⟩ => ⟨S208x128, .f32⟩
  | .hbm, ⟨11, _⟩ => ⟨S_, .f32⟩
  | .hbm, ⟨12, _⟩ => ⟨S208x128, .f32⟩
  | .hbm, ⟨13, _⟩ => ⟨S208x128, .f32⟩
  | .hbm, ⟨14, _⟩ => ⟨S208x128, .f32⟩
  | .hbm, ⟨15, _⟩ => ⟨S_, .f32⟩
  | .hbm, ⟨16, _⟩ => ⟨S208x128, .f32⟩
  | .hbm, ⟨17, _⟩ => ⟨S208x128, .f32⟩
  | .hbm, ⟨18, _⟩ => ⟨S208x128, .f32⟩
  | .hbm, ⟨19, _⟩ => ⟨S_, .f32⟩
  | .hbm, ⟨20, _⟩ => ⟨S208x128, .f32⟩
  | .hbm, ⟨21, _⟩ => ⟨S208x128, .f32⟩
  | .hbm, ⟨22, _⟩ => ⟨S_, .f32⟩
  | .hbm, ⟨23, _⟩ => ⟨S208x128, .f32⟩
  | .hbm, ⟨24, _⟩ => ⟨S208x128, .f32⟩
  | .hbm, ⟨25, _⟩ => ⟨S208x128, .f32⟩
  | .hbm, ⟨26, _⟩ => ⟨S_, .f32⟩
  | .hbm, ⟨27, _⟩ => ⟨S208x128, .f32⟩
  | .hbm, ⟨28, _⟩ => ⟨S208x128, .f32⟩
  | .hbm, ⟨29, _⟩ => ⟨S208x128, .f32⟩
  | .hbm, ⟨30, _⟩ => ⟨S_, .f32⟩
  | .hbm, ⟨31, _⟩ => ⟨S208x128, .f32⟩
  | .hbm, ⟨32, _⟩ => ⟨S208x128, .f32⟩
  | .hbm, ⟨33, _⟩ => ⟨S208x128, .f32⟩
  | .hbm, ⟨34, _⟩ => ⟨S_, .f32⟩
  | .hbm, ⟨35, _⟩ => ⟨S208x128, .f32⟩
  | .hbm, ⟨36, _⟩ => ⟨S208x128, .f32⟩
  | _, _ => ⟨S208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x464x128 : Shape := ⟨3, ![8, 464, 128]⟩
abbrev S464x128 : Shape := ⟨2, ![464, 128]⟩
abbrev S1x464x128 : Shape := ⟨3, ![1, 464, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .local _ .vmem, ⟨0, _⟩ => ⟨S8x464x128, .f32⟩
  | .local _ .vmem, ⟨1, _⟩ => ⟨S464x128, .f32⟩
  | _, _ => ⟨S8x464x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x464x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S464x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x464x128 : Shape := ⟨3, ![8, 464, 128]⟩
abbrev S_ : Shape := ⟨0, ![]⟩
abbrev S464x128 : Shape := ⟨2, ![464, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x464x128, .f32⟩
  | .hbm, ⟨1, _⟩ => ⟨S_, .f32⟩
  | .hbm, ⟨2, _⟩ => ⟨S464x128, .f32⟩
  | _, _ => ⟨S8x464x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamIn.lean ====
abbrev S4x912x2048 : Shape := ⟨3, ![4, 912, 2048]⟩
abbrev S897x2048 : Shape := ⟨2, ![897, 2048]⟩
abbrev S4x912x256 : Shape := ⟨3, ![4, 912, 256]⟩
abbrev S897x256 : Shape := ⟨2, ![897, 256]⟩
abbrev S912x256 : Shape := ⟨2, ![912, 256]⟩
abbrev S1x912x256 : Shape := ⟨3, ![1, 912, 256]⟩

abbrev nBuf : Space → Nat
  | .hbm => 8
  | .vmem => 17
  | .smem => 0
  | _ => 0

abbrev bufTy : (tb : Table) → Fin (tcTables nBuf tb) → BufTy
  | .hbm, ⟨0, _⟩ => ⟨S4x912x2048, .bf16⟩
  | .hbm, ⟨1, _⟩ => ⟨S897x2048, .f32⟩
  | .hbm, ⟨2, _⟩ => ⟨S897x2048, .f32⟩
  | .hbm, ⟨3, _⟩ => ⟨S897x2048, .f32⟩
  | .hbm, ⟨4, _⟩ => ⟨S897x2048, .f32⟩
  | .hbm, ⟨5, _⟩ => ⟨S897x2048, .f32⟩
  | .hbm, ⟨6, _⟩ => ⟨S897x2048, .f32⟩
  | .hbm, ⟨7, _⟩ => ⟨S897x2048, .f32⟩
  | .local _ .vmem, ⟨0, _⟩ => ⟨S4x912x256, .bf16⟩
  | .local _ .vmem, ⟨1, _⟩ => ⟨S4x912x256, .bf16⟩
  | .local _ .vmem, ⟨2, _⟩ => ⟨S897x256, .f32⟩
  | .local _ .vmem, ⟨3, _⟩ => ⟨S897x256, .f32⟩
  | .local _ .vmem, ⟨4, _⟩ => ⟨S897x256, .f32⟩
  | .local _ .vmem, ⟨5, _⟩ => ⟨S897x256, .f32⟩
  | .local _ .vmem, ⟨6, _⟩ => ⟨S897x256, .f32⟩
  | .local _ .vmem, ⟨7, _⟩ => ⟨S897x256, .f32⟩
  | .local _ .vmem, ⟨8, _⟩ => ⟨S897x256, .f32⟩
  | .local _ .vmem, ⟨9, _⟩ => ⟨S897x256, .f32⟩
  | .local _ .vmem, ⟨10, _⟩ => ⟨S897x256, .f32⟩
  | .local _ .vmem, ⟨11, _⟩ => ⟨S897x256, .f32⟩
  | .local _ .vmem, ⟨12, _⟩ => ⟨S897x256, .f32⟩
  | .local _ .vmem, ⟨13, _⟩ => ⟨S897x256, .f32⟩
  | .local _ .vmem, ⟨14, _⟩ => ⟨S897x256, .f32⟩
  | .local _ .vmem, ⟨15, _⟩ => ⟨S897x256, .f32⟩
  | .local _ .vmem, ⟨16, _⟩ => ⟨S912x256, .f32⟩
  | _, _ => ⟨S4x912x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 8
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x912x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S897x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S897x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S897x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S897x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S897x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S897x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S897x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamInRefIdeal.lean ====
abbrev S32x912x2048 : Shape := ⟨3, ![32, 912, 2048]⟩
abbrev S7176x2048 : Shape := ⟨2, ![7176, 2048]⟩
abbrev S8x4x912x2048 : Shape := ⟨4, ![8, 4, 912, 2048]⟩
abbrev S_ : Shape := ⟨0, ![]⟩
abbrev S8x912x2048 : Shape := ⟨3, ![8, 912, 2048]⟩
abbrev S1x897x2048 : Shape := ⟨3, ![1, 897, 2048]⟩
abbrev S897x2048 : Shape := ⟨2, ![897, 2048]⟩

abbrev nBuf : Space → Nat
  | .hbm => 58
  | .vmem => 0
  | .smem => 0
  | _ => 0

abbrev bufTy : (tb : Table) → Fin (tcTables nBuf tb) → BufTy
  | .hbm, ⟨0, _⟩ => ⟨S32x912x2048, .bf16⟩
  | .hbm, ⟨1, _⟩ => ⟨S7176x2048, .f32⟩
  | .hbm, ⟨2, _⟩ => ⟨S7176x2048, .f32⟩
  | .hbm, ⟨3, _⟩ => ⟨S7176x2048, .f32⟩
  | .hbm, ⟨4, _⟩ => ⟨S32x912x2048, .f32⟩
  | .hbm, ⟨5, _⟩ => ⟨S8x4x912x2048, .f32⟩
  | .hbm, ⟨6, _⟩ => ⟨S_, .f32⟩
  | .hbm, ⟨7, _⟩ => ⟨S8x912x2048, .f32⟩
  | .hbm, ⟨8, _⟩ => ⟨S1x897x2048, .f32⟩
  | .hbm, ⟨9, _⟩ => ⟨S897x2048, .f32⟩
  | .hbm, ⟨10, _⟩ => ⟨S1x897x2048, .f32⟩
  | .hbm, ⟨11, _⟩ => ⟨S897x2048, .f32⟩
  | .hbm, ⟨12, _⟩ => ⟨S1x897x2048, .f32⟩
  | .hbm, ⟨13, _⟩ => ⟨S897x2048, .f32⟩
  | .hbm, ⟨14, _⟩ => ⟨S1x897x2048, .f32⟩
  | .hbm, ⟨15, _⟩ => ⟨S897x2048, .f32⟩
  | .hbm, ⟨16, _⟩ => ⟨S1x897x2048, .f32⟩
  | .hbm, ⟨17, _⟩ => ⟨S897x2048, .f32⟩
  | .hbm, ⟨18, _⟩ => ⟨S1x897x2048, .f32⟩
  | .hbm, ⟨19, _⟩ => ⟨S897x2048, .f32⟩
  | .hbm, ⟨20, _⟩ => ⟨S1x897x2048, .f32⟩
  | .hbm, ⟨21, _⟩ => ⟨S897x2048, .f32⟩
  | .hbm, ⟨22, _⟩ => ⟨S1x897x2048, .f32⟩
  | .hbm, ⟨23, _⟩ => ⟨S897x2048, .f32⟩
  | .hbm, ⟨24, _⟩ => ⟨S7176x2048, .f32⟩
  | .hbm, ⟨25, _⟩ => ⟨S_, .f32⟩
  | .hbm, ⟨26, _⟩ => ⟨S7176x2048, .f32⟩
  | .hbm, ⟨27, _⟩ => ⟨S7176x2048, .f32⟩
  | .hbm, ⟨28, _⟩ => ⟨S_, .f32⟩
  | .hbm, ⟨29, _⟩ => ⟨S7176x2048, .f32⟩
  | .hbm, ⟨30, _⟩ => ⟨S7176x2048, .f32⟩
  | .hbm, ⟨31, _⟩ => ⟨S7176x2048, .f32⟩
  | .hbm, ⟨32, _⟩ => ⟨S_, .f32⟩
  | .hbm, ⟨33, _⟩ => ⟨S7176x2048, .f32⟩
  | .hbm, ⟨34, _⟩ => ⟨S7176x2048, .f32⟩
  | .hbm, ⟨35, _⟩ => ⟨S7176x2048, .f32⟩
  | .hbm, ⟨36, _⟩ => ⟨S_, .f32⟩
  | .hbm, ⟨37, _⟩ => ⟨S7176x2048, .f32⟩
  | .hbm, ⟨38, _⟩ => ⟨S7176x2048, .f32⟩
  | .hbm, ⟨39, _⟩ => ⟨S7176x2048, .f32⟩
  | .hbm, ⟨40, _⟩ => ⟨S_, .f32⟩
  | .hbm, ⟨41, _⟩ => ⟨S7176x2048, .f32⟩
  | .hbm, ⟨42, _⟩ => ⟨S7176x2048, .f32⟩
  | .hbm, ⟨43, _⟩ => ⟨S_, .f32⟩
  | .hbm, ⟨44, _⟩ => ⟨S7176x2048, .f32⟩
  | .hbm, ⟨45, _⟩ => ⟨S7176x2048, .f32⟩
  | .hbm, ⟨46, _⟩ => ⟨S7176x2048, .f32⟩
  | .hbm, ⟨47, _⟩ => ⟨S_, .f32⟩
  | .hbm, ⟨48, _⟩ => ⟨S7176x2048, .f32⟩
  | .hbm, ⟨49, _⟩ => ⟨S7176x2048, .f32⟩
  | .hbm, ⟨50, _⟩ => ⟨S7176x2048, .f32⟩
  | .hbm, ⟨51, _⟩ => ⟨S_, .f32⟩
  | .hbm, ⟨52, _⟩ => ⟨S7176x2048, .f32⟩
  | .hbm, ⟨53, _⟩ => ⟨S7176x2048, .f32⟩
  | .hbm, ⟨54, _⟩ => ⟨S7176x2048, .f32⟩
  | .hbm, ⟨55, _⟩ => ⟨S_, .f32⟩
  | .hbm, ⟨56, _⟩ => ⟨S7176x2048, .f32⟩
  | .hbm, ⟨57, _⟩ => ⟨S7176x2048, .f32⟩
  | _, _ => ⟨S32x912x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.Prep.lean ====
/- What is computed before the kernel starts: the output of the forward pass and the states saved at each chunk's
   head, as functions of the arguments. -/
module

public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Prep

open Idealize.ShloMosaic Idealize.ShloMosaic.TcCoe Cert.KernelIdeal Cert.KernelIdeal.Gen

section Defs
variable (a0 : FVec Ideal S2048x7296 .f32) (a1 : FVec Ideal S2048x128 .f32)

/-- The heads of a window of 1024 columns. -/
def heads (x : FVec Ideal S2048x1024 .f32) : FVec Ideal S4x2048x256 .f32 :=
  transpose S4x2048x256 [1, 0, 2] (shapeCast S2048x4x256 x shapeCasts_S2048x1024_S2048x4x256) transposes_S2048x4x256_S4x2048x256_1_0_2
def q : FVec Ideal S4x2048x256 .f32 := heads (extractStridedSlice S2048x1024 ![0, 3072] a0 slices_S2048x7296_S2048x1024_0_3072)
def k : FVec Ideal S4x2048x256 .f32 := heads (extractStridedSlice S2048x1024 ![0, 4096] a0 slices_S2048x7296_S2048x1024_0_4096)
def v : FVec Ideal S4x2048x256 .f32 := heads (extractStridedSlice S2048x1024 ![0, 5120] a0 slices_S2048x7296_S2048x1024_0_5120)
/-- The gates by head, and by chunk, with the input gates first. -/
def gr : FVec Ideal S32x8x64 .f32 :=
  transpose S32x8x64 [1, 0, 2] (shapeCast S8x32x64 (transpose S8x2048 [1, 0]
    (extractStridedSlice S2048x8 ![0, 0] a1 slices_S2048x128_S2048x8_0_0) transposes_S2048x8_S8x2048_1_0)
    shapeCasts_S8x2048_S8x32x64) transposes_S8x32x64_S32x8x64_1_0_2
def i : FVec Ideal S4x2048 .f32 :=
  transpose S4x2048 [1, 0] (extractStridedSlice S2048x4 ![0, 0] a1 slices_S2048x128_S2048x4_0_0) transposes_S2048x4_S4x2048_1_0
def b : FVec Ideal S4x32x64 .f32 :=
  shapeCast S4x32x64 (transpose S4x2048 [1, 0] (extractStridedSlice S2048x4 ![0, 4] a1 slices_S2048x128_S2048x4_0_4)
    transposes_S2048x4_S4x2048_1_0) shapeCasts_S4x2048_S4x32x64
def earlier : IVec S32x32 1 :=
  cmpi .slt (broadcastInDim S32x32 ![0, 1] bcast_S1x32_S32x32_0_1 (broadcastInDim S1x32 ![1] bcast_S32_S1x32_1 (iotaInDim S32 32 0)))
    (broadcastInDim S32x32 ![0, 1] bcast_S32x1_S32x32_0_1 (broadcastInDim S32x1 ![0] bcast_S32_S32x1_0 (iotaInDim S32 32 0)))
def lasts : FVec Ideal S4x32x32 .f32 :=
  select (broadcastInDim S4x32x32 ![1, 2] bcast_S32x32_S4x32x32_1_2 earlier)
    (broadcastInDim S4x32x32 ![0, 1, 2] bcast_S4x1x32_S4x32x32_0_1_2 (broadcastInDim S4x1x32 ![0, 2] bcast_S4x32_S4x1x32_0_2
      (shapeCast S4x32 (extractStridedSlice S4x32x1 ![0, 0, 63] (b a1) slices_S4x32x64_S4x32x1_0_0_63) shapeCasts_S4x32x1_S4x32)))
    (broadcastInDim S4x32x32 ![] bcast_S_S4x32x32 (constant S_ .f32 0x00000000#32))
def G : FVec Ideal S4x32 .f32 :=
  Host.reduceAdd (lasts a1) (constant S_ .f32 0x00000000#32) reducesTo_S4x32x32_S4x32_d2 h_S_
def B : FVec Ideal S4x2048 .f32 :=
  shapeCast S4x2048 (addf (b a1) (broadcastInDim S4x32x64 ![0, 1, 2] bcast_S4x32x1_S4x32x64_0_1_2
    (broadcastInDim S4x32x1 ![0, 1] bcast_S4x32_S4x32x1_0_1 (G a1)))) shapeCasts_S4x32x64_S4x2048
def causal : IVec S2048x2048 1 :=
  cmpi .sge (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))
def expo : FVec Ideal S4x2048x2048 .f32 :=
  addf (subf (broadcastInDim S4x2048x2048 ![0, 1, 2] bcast_S4x2048x1_S4x2048x2048_0_1_2 (broadcastInDim S4x2048x1 ![0, 1] bcast_S4x2048_S4x2048x1_0_1 (B a1)))
    (broadcastInDim S4x2048x2048 ![0, 1, 2] bcast_S4x1x2048_S4x2048x2048_0_1_2 (broadcastInDim S4x1x2048 ![0, 2] bcast_S4x2048_S4x1x2048_0_2 (B a1))))
    (broadcastInDim S4x2048x2048 ![0, 1, 2] bcast_S4x1x2048_S4x2048x2048_0_1_2 (broadcastInDim S4x1x2048 ![0, 2] bcast_S4x2048_S4x1x2048_0_2 (i a1)))
def D : FVec Ideal S4x2048x2048 .f32 :=
  select (broadcastInDim S4x2048x2048 ![1, 2] bcast_S2048x2048_S4x2048x2048_1_2 causal) (Host.exp (expo a1))
    (broadcastInDim S4x2048x2048 ![] bcast_S_S4x2048x2048 (constant S_ .f32 0x00000000#32))
def S : FVec Ideal S4x2048x2048 .f32 :=
  mulf (Host.dotGeneral dot_S4x2048x256_S4x2048x256_S4x2048x2048_2_2_1_1_0_0 none
    (mulf (q a0) (broadcastInDim S4x2048x256 ![] bcast_S_S4x2048x256 (constant S_ .f32 0x3D800000#32))) (k a0)) (D a1)
def den : FVec Ideal S4x2048 .f32 :=
  Host.absf (Host.reduceAdd (S a0 a1) (constant S_ .f32 0x00000000#32) reducesTo_S4x2048x2048_S4x2048_d2 h_S_)
def M : FVec Ideal S4x2048 .f32 :=
  select (cmpf .ogt (den a0 a1) (broadcastInDim S4x2048 ![] bcast_S_S4x2048 (constant S_ .f32 0x3F800000#32))) (den a0 a1)
    (broadcastInDim S4x2048 ![] bcast_S_S4x2048 (constant S_ .f32 0x3F800000#32))
def num : FVec Ideal S4x2048x256 .f32 :=
  Host.dotGeneral dot_S4x2048x2048_S4x2048x256_S4x2048x256_2_1_1_2_0_0 none (S a0 a1) (v a0)
def out : FVec Ideal S4x2048x256 .f32 :=
  Host.divf (num a0 a1) (broadcastInDim S4x2048x256 ![0, 1, 2] bcast_S4x2048x1_S4x2048x256_0_1_2
    (broadcastInDim S4x2048x1 ![0, 1] bcast_S4x2048_S4x2048x1_0_1 (M a0 a1)))
def h : FVec Ideal S2048x1024 .f32 :=
  shapeCast S2048x1024 (transpose S2048x4x256 [1, 0, 2] (out a0 a1) transposes_S4x2048x256_S2048x4x256_1_0_2) shapeCasts_S2048x4x256_S2048x1024

def past : IVec S32x2048 1 :=
  cmpi .slt (broadcastInDim S32x2048 ![0, 1] bcast_S1x2048_S32x2048_0_1 (broadcastInDim S1x2048 ![1] bcast_S2048_S1x2048_1 (iotaInDim S2048 32 0)))
    (broadcastInDim S32x2048 ![0, 1] bcast_S32x1_S32x2048_0_1 (muli (broadcastInDim S32x1 ![] bcast_S_S32x1 (constantI S_ 32 64#32))
      (broadcastInDim S32x1 ![0] bcast_S32_S32x1_0 (iotaInDim S32 32 0))))
def lw : FVec Ideal S4x32x2048 .f32 :=
  addf (subf (broadcastInDim S4x32x2048 ![0, 1, 2] bcast_S4x32x1_S4x32x2048_0_1_2 (broadcastInDim S4x32x1 ![0, 1] bcast_S4x32_S4x32x1_0_1 (G a1)))
    (broadcastInDim S4x32x2048 ![0, 1, 2] bcast_S4x1x2048_S4x32x2048_0_1_2 (broadcastInDim S4x1x2048 ![0, 2] bcast_S4x2048_S4x1x2048_0_2 (B a1))))
    (broadcastInDim S4x32x2048 ![0, 1, 2] bcast_S4x1x2048_S4x32x2048_0_1_2 (broadcastInDim S4x1x2048 ![0, 2] bcast_S4x2048_S4x1x2048_0_2 (i a1)))
def mx : FVec Ideal S4x32 .f32 :=
  maximumf (G a1) (Host.reduce FloatOps.maximumf (select (broadcastInDim S4x32x2048 ![1, 2] bcast_S32x2048_S4x32x2048_1_2 past) (lw a1)
    (broadcastInDim S4x32x2048 ![] bcast_S_S4x32x2048 (constant S_ .f32 0xFF800000#32)))
    (constant S_ .f32 0xFF800000#32) reducesTo_S4x32x2048_S4x32_d2 h_S_)
def wt : FVec Ideal S4x32x2048 .f32 :=
  select (broadcastInDim S4x32x2048 ![1, 2] bcast_S32x2048_S4x32x2048_1_2 past)
    (Host.exp (subf (lw a1) (broadcastInDim S4x32x2048 ![0, 1, 2] bcast_S4x32x1_S4x32x2048_0_1_2 (broadcastInDim S4x32x1 ![0, 1] bcast_S4x32_S4x32x1_0_1 (mx a1)))))
    (broadcastInDim S4x32x2048 ![] bcast_S_S4x32x2048 (constant S_ .f32 0x00000000#32))
def C : FVec Ideal S4x32x256x256 .f32 :=
  Host.dotGeneral dot_S4x32x2048x256_S4x2048x256_S4x32x256x256_2_1_13_2_0_0 none
    (mulf (broadcastInDim S4x32x2048x256 ![0, 1, 2, 3] bcast_S4x32x2048x1_S4x32x2048x256_0_1_2_3
        (broadcastInDim S4x32x2048x1 ![0, 1, 2] bcast_S4x32x2048_S4x32x2048x1_0_1_2 (wt a1)))
      (broadcastInDim S4x32x2048x256 ![0, 1, 2, 3] bcast_S4x1x2048x256_S4x32x2048x256_0_1_2_3
        (broadcastInDim S4x1x2048x256 ![0, 2, 3] bcast_S4x2048x256_S4x1x2048x256_0_2_3 (k a0)))) (v a0)
def n : FVec Ideal S4x32x256 .f32 :=
  Host.dotGeneral dot_S4x32x2048_S4x2048x256_S4x32x256_2_1_1_2_0_0 none (wt a1) (k a0)
def ns : FVec Ideal S4x32x8x256 .f32 :=
  select (broadcastInDim S4x32x8x256 ![0, 1, 2, 3] bcast_S1x1x8x1_S4x32x8x256_0_1_2_3
      (cmpi .eq (broadcastInDim S1x1x8x1 ![2] bcast_S8_S1x1x8x1_2 (iotaInDim S8 32 0)) (broadcastInDim S1x1x8x1 ![] bcast_S_S1x1x8x1 (constantI S_ 32 1#32))))
    (broadcastInDim S4x32x8x256 ![0, 1, 2, 3] bcast_S4x32x1x1_S4x32x8x256_0_1_2_3 (broadcastInDim S4x32x1x1 ![0, 1] bcast_S4x32_S4x32x1x1_0_1 (mx a1)))
    (broadcastInDim S4x32x8x256 ![0, 1, 2, 3] bcast_S4x32x1x256_S4x32x8x256_0_1_2_3 (broadcastInDim S4x32x1x256 ![0, 1, 3] bcast_S4x32x256_S4x32x1x256_0_1_3 (n a0 a1)))

end Defs

variable (m : (ℓ : Loc nD τ sig) → Buf (Elt Ideal) ℓ) (c : Dev nD)

set_option maxHeartbeats 4000000 in
theorem V_h : V m c main_v65 = h (m (c, Proc.tc.devRef main_arg0)) (m (c, Proc.tc.devRef main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  entry_read
  simp only [StableHlo.TRef.ofBuf_toBuf, StableHlo.TRef.toBuf, StableHlo.TRef.ofBuf, cast_eq, id]
  rfl

set_option maxHeartbeats 4000000 in
theorem V_ns : V m c main_v121 = ns (m (c, Proc.tc.devRef main_arg0)) (m (c, Proc.tc.devRef main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  entry_read
  simp only [StableHlo.TRef.ofBuf_toBuf, StableHlo.TRef.toBuf, StableHlo.TRef.ofBuf, cast_eq, id]
  rfl

set_option maxHeartbeats 4000000 in
theorem V_C : V m c main_v113 = C (m (c, Proc.tc.devRef main_arg0)) (m (c, Proc.tc.devRef main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  entry_read
  simp only [StableHlo.TRef.ofBuf_toBuf, StableHlo.TRef.toBuf, StableHlo.TRef.ofBuf, cast_eq, id]
  rfl

set_option maxHeartbeats 4000000 in
theorem V_gr : V m c main_v3 = gr (m (c, Proc.tc.devRef main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  entry_read
  rfl

set_option maxHeartbeats 4000000 in
theorem V_out : V m c main_v122_0 = m (c, Proc.tc.devRef main_arg3) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  entry_read
  rfl

end Cert.KernelIdeal.Prep

end
-- ==== Proof.Mlstm.lean ====
/- The mLSTM mixer's gradient over the real numbers: the sums over the whole sequence, what one chunk of 64
   positions computes from the states saved and carried at its two ends, and that the two agree. -/
module

public import Idealize.ShloMosaic.Lib.Pipeline.ValueKit

@[expose] public section

noncomputable section

namespace Cert.Mlstm

open Finset Real

/-- One head's sequence: scaled queries, keys, values, the cotangent of the output, the input gates' logarithms, and
    the forget gates' logarithms summed within each chunk. -/
structure Sq where
  q : ℕ → Fin 256 → ℝ
  k : ℕ → Fin 256 → ℝ
  v : ℕ → Fin 256 → ℝ
  o : ℕ → Fin 256 → ℝ
  i : ℕ → ℝ
  b : ℕ → ℝ

namespace Sq
variable (z : Sq)

/-- The forget gates' sum before chunk `c`. -/
def G (c : ℕ) : ℝ := ∑ e ∈ range c, z.b (64 * e + 63)
/-- The forget gates' sum up to position `t`. -/
def B (t : ℕ) : ℝ := z.G (t / 64) + z.b t
/-- The weight of position `s` at position `t`. -/
def D (t s : ℕ) : ℝ := if s ≤ t then exp (z.B t - z.B s + z.i s) else 0
/-- The query at `t` against the key at `s`. -/
def W (t s : ℕ) : ℝ := ∑ d, z.q t d * z.k s d
def S (t s : ℕ) : ℝ := z.W t s * z.D t s
def den (t : ℕ) : ℝ := ∑ s ∈ range 2048, z.S t s
def M (t : ℕ) : ℝ := if 1 < |z.den t| then |z.den t| else 1
def num (t : ℕ) (d : Fin 256) : ℝ := ∑ s ∈ range 2048, z.S t s * z.v s d
/-- The mixer's output. -/
def h (t : ℕ) (d : Fin 256) : ℝ := z.num t d / z.M t
/-- The numerator's cotangent. -/
def u (t : ℕ) (d : Fin 256) : ℝ := z.o t d / z.M t
/-- The denominator's cotangent. -/
def w (t : ℕ) : ℝ :=
  if 1 < |z.den t| then (-∑ d, z.o t d * z.h t d) / z.M t * (if z.den t < 0 then -1 else 1) else 0
def P (t s : ℕ) : ℝ := (∑ d, z.u t d * z.v s d) + z.w t
def gd (t s : ℕ) : ℝ := z.P t s * z.D t s
def E (t s : ℕ) : ℝ := z.gd t s * z.W t s
def dq (t : ℕ) (d : Fin 256) : ℝ := ∑ s ∈ range 2048, z.gd t s * z.k s d
def dk (s : ℕ) (d : Fin 256) : ℝ := ∑ t ∈ range 2048, z.gd t s * z.q t d
def dv (s : ℕ) (d : Fin 256) : ℝ := ∑ t ∈ range 2048, z.S t s * z.u t d
def di (s : ℕ) : ℝ := ∑ t ∈ range 2048, z.E t s
def dB (t : ℕ) : ℝ := ∑ s ∈ range 2048, z.E t s - ∑ τ ∈ range 2048, z.E τ t
/-- The cotangent of the within-chunk sums: a chunk's last sum also enters every later chunk. -/
def db (t : ℕ) : ℝ := z.dB t + if t % 64 = 63 then ∑ τ ∈ Ico (64 * (t / 64 + 1)) 2048, z.dB τ else 0

/-- The running stabiliser at the head of chunk `c`. -/
def m : ℕ → ℝ
  | 0 => 0
  | c + 1 => max (z.b (64 * c + 63) + m c)
      (univ.sup' univ_nonempty fun r : Fin 64 => z.b (64 * c + 63) - z.b (64 * c + r) + z.i (64 * c + r))

/-- The weight of position `s` in the state saved at the head of chunk `c`. -/
def wt (c s : ℕ) : ℝ := exp (z.G c - z.B s + z.i s - z.m c)
/-- The weight of position `t` in the cotangent carried back to the head of chunk `c`. -/
def bk (c t : ℕ) : ℝ := exp (z.B t - z.G c + z.m c)

end Sq

/-- What one chunk reads of a head. -/
structure Bk where
  q : Fin 64 → Fin 256 → ℝ
  k : Fin 64 → Fin 256 → ℝ
  v : Fin 64 → Fin 256 → ℝ
  o : Fin 64 → Fin 256 → ℝ
  h : Fin 64 → Fin 256 → ℝ
  i : Fin 64 → ℝ
  b : Fin 64 → ℝ
  mp : ℝ
  np : Fin 256 → ℝ
  dn : Fin 256 → ℝ
  cp : Fin 256 → Fin 256 → ℝ
  dc : Fin 256 → Fin 256 → ℝ

namespace Bk
variable (x : Bk)

/-- The row maximum that keeps one position's weights below one. -/
def mt (r : Fin 64) : ℝ :=
  (max ((x.b r + x.mp : ℝ) : EReal)
    (univ.fold max ⊥ fun s : Fin 64 => if s ≤ r then ((x.b r - x.b s + x.i s : ℝ) : EReal) else ⊥)).toReal
def mn : ℝ := max (x.b 63 + x.mp) (univ.sup' univ_nonempty fun r : Fin 64 => x.b 63 - x.b r + x.i r)
def qk (r s : Fin 64) : ℝ := ∑ d, x.q r d * x.k s d
def dw (r s : Fin 64) : ℝ := if s ≤ r then exp (x.b r - x.b s + x.i s - x.mt r) else 0
def iw (r : Fin 64) : ℝ := exp (x.b r + x.mp - x.mt r)
def wcol (r : Fin 64) : ℝ := exp (x.b 63 - x.b r + x.i r - x.mn)
def decay : ℝ := exp (x.b 63 + x.mp - x.mn)
def s (r s : Fin 64) : ℝ := x.qk r s * x.dw r s
def den (r : Fin 64) : ℝ := (∑ s, x.s r s) + x.iw r * ∑ d, x.q r d * x.np d
def emt (r : Fin 64) : ℝ := exp (-x.mt r)
def rr (r : Fin 64) : ℝ := 1 / max |x.den r| (x.emt r)
def dnum (r : Fin 64) (d : Fin 256) : ℝ := x.o r d * x.rr r
def sg (r : Fin 64) : ℝ :=
  if x.emt r < |x.den r| then (if 0 < |x.den r| then (if x.den r < 0 then -1 else 1) else x.den r) else 0
def dden (r : Fin 64) : ℝ := (-∑ d, x.o r d * x.h r d) * x.rr r * x.sg r
def gd (r s : Fin 64) : ℝ := ((∑ d, x.dnum r d * x.v s d) + x.dden r) * x.dw r s
def dqi (r : Fin 64) (d : Fin 256) : ℝ := x.iw r * ((∑ e, x.dnum r e * x.cp d e) + x.dden r * x.np d)
def dki (r : Fin 64) (d : Fin 256) : ℝ := x.wcol r * ((∑ e, x.v r e * x.dc d e) + x.dn d)
def dq (r : Fin 64) (d : Fin 256) : ℝ := (∑ s, x.gd r s * x.k s d) + x.dqi r d
def dk (s : Fin 64) (d : Fin 256) : ℝ := (∑ r, x.gd r s * x.q r d) + x.dki s d
def dv (s : Fin 64) (e : Fin 256) : ℝ := (∑ r, x.s r s * x.dnum r e) + ∑ d, (x.wcol s * x.k s d) * x.dc d e
def dc' (d e : Fin 256) : ℝ := x.decay * x.dc d e + ∑ r, (x.iw r * x.q r d) * x.dnum r e
def dn' (d : Fin 256) : ℝ := x.decay * x.dn d + ∑ r, (x.iw r * x.q r d) * x.dden r
def e (r s : Fin 64) : ℝ := x.gd r s * x.qk r s
def kint (r : Fin 64) : ℝ := ∑ d, x.k r d * x.dki r d
def rq (r : Fin 64) : ℝ := (∑ s, x.e r s) + ∑ d, x.q r d * x.dqi r d
def rk (r : Fin 64) : ℝ := (∑ t, x.e t r) + x.kint r
def jdec : ℝ := x.decay * ((∑ d, ∑ e, x.dc d e * x.cp d e) + ∑ d, x.dn d * x.np d)
def db (r : Fin 64) : ℝ := x.rq r - x.rk r + if r = 63 then (∑ r, x.kint r) + x.jdec else 0

end Bk

namespace Sq
variable (z : Sq)

/-- Chunk `c` of the sequence, with the states saved before it and carried back from after it. -/
def blk (c : ℕ) : Bk where
  q r := z.q (64 * c + r)
  k r := z.k (64 * c + r)
  v r := z.v (64 * c + r)
  o r := z.o (64 * c + r)
  h r := z.h (64 * c + r)
  i r := z.i (64 * c + r)
  b r := z.b (64 * c + r)
  mp := z.m c
  np d := ∑ s ∈ range (64 * c), z.wt c s * z.k s d
  cp d e := ∑ s ∈ range (64 * c), z.wt c s * z.k s d * z.v s e
  dn d := ∑ t ∈ Ico (64 * (c + 1)) 2048, z.bk (c + 1) t * z.q t d * z.w t
  dc d e := ∑ t ∈ Ico (64 * (c + 1)) 2048, z.bk (c + 1) t * z.q t d * z.u t e

variable {z} {c : ℕ}

theorem bq (r : Fin 64) (d : Fin 256) : (z.blk c).q r d = z.q (64 * c + r) d := rfl
theorem bk_ (r : Fin 64) (d : Fin 256) : (z.blk c).k r d = z.k (64 * c + r) d := rfl
theorem bv (r : Fin 64) (d : Fin 256) : (z.blk c).v r d = z.v (64 * c + r) d := rfl
theorem bo (r : Fin 64) (d : Fin 256) : (z.blk c).o r d = z.o (64 * c + r) d := rfl
theorem bh (r : Fin 64) (d : Fin 256) : (z.blk c).h r d = z.h (64 * c + r) d := rfl
theorem bi (r : Fin 64) : (z.blk c).i r = z.i (64 * c + r) := rfl
theorem bb (r : Fin 64) : (z.blk c).b r = z.b (64 * c + r) := rfl
theorem bmp : (z.blk c).mp = z.m c := rfl
theorem bnp (d : Fin 256) : (z.blk c).np d = ∑ s ∈ range (64 * c), z.wt c s * z.k s d := rfl
theorem bdn (d : Fin 256) :
    (z.blk c).dn d = ∑ t ∈ Ico (64 * (c + 1)) 2048, z.bk (c + 1) t * z.q t d * z.w t := by simp only [blk]
theorem bcp (d e : Fin 256) : (z.blk c).cp d e = ∑ s ∈ range (64 * c), z.wt c s * z.k s d * z.v s e := rfl
theorem bdc (d e : Fin 256) :
    (z.blk c).dc d e = ∑ t ∈ Ico (64 * (c + 1)) 2048, z.bk (c + 1) t * z.q t d * z.u t e := by simp only [blk]

theorem G_succ : z.G (c + 1) = z.G c + z.b (64 * c + 63) := by simp [G, sum_range_succ]

theorem B_at (r : Fin 64) : z.B (64 * c + r) = z.G c + z.b (64 * c + r) := by
  have : (64 * c + (r : ℕ)) / 64 = c := by omega
  simp [B, this]

theorem mn_blk : (z.blk c).mn = z.m (c + 1) := rfl

theorem dw_blk (r s : Fin 64) : (z.blk c).dw r s = exp (-(z.blk c).mt r) * z.D (64 * c + r) (64 * c + s) := by
  unfold Bk.dw D
  by_cases h : s ≤ r
  · rw [if_pos h, if_pos (by omega), B_at, B_at, ← exp_add]
    congr 1; simp only [bq, bk_, bv, bo, bh, bi, bb, bmp, bnp, bdn, bcp, bdc]; ring
  · rw [if_neg h, if_neg (by omega), mul_zero]

theorem iw_wt (r : Fin 64) {s : ℕ} (hs : s < 64 * c) :
    (z.blk c).iw r * z.wt c s = exp (-(z.blk c).mt r) * z.D (64 * c + r) s := by
  unfold Bk.iw wt D
  rw [if_pos (by omega), B_at, ← exp_add, ← exp_add]
  congr 1; simp only [bq, bk_, bv, bo, bh, bi, bb, bmp, bnp, bdn, bcp, bdc]; ring

theorem wcol_bk (r : Fin 64) {t : ℕ} (ht : 64 * (c + 1) ≤ t) :
    (z.blk c).wcol r * z.bk (c + 1) t = z.D t (64 * c + r) := by
  unfold Bk.wcol bk D
  rw [if_pos (by omega), B_at, ← exp_add, mn_blk, G_succ]
  congr 1; simp only [bq, bk_, bv, bo, bh, bi, bb, bmp, bnp, bdn, bcp, bdc, show ((63 : Fin 64) : ℕ) = 63 from rfl]; ring

theorem decay_bk (t : ℕ) : (z.blk c).decay * z.bk (c + 1) t = z.bk c t := by
  unfold Bk.decay bk
  rw [← exp_add, mn_blk, G_succ]
  congr 1; simp only [bq, bk_, bv, bo, bh, bi, bb, bmp, bnp, bdn, bcp, bdc, show ((63 : Fin 64) : ℕ) = 63 from rfl]; ring

theorem decay_bk_wt {s t : ℕ} (hs : s < 64 * c) (ht : 64 * (c + 1) ≤ t) :
    (z.blk c).decay * z.bk (c + 1) t * z.wt c s = z.D t s := by
  rw [decay_bk]; unfold bk wt D
  rw [if_pos (by omega), ← exp_add]
  congr 1; ring

theorem iw_mt (r : Fin 64) : (z.blk c).iw r * exp ((z.blk c).mt r) = z.bk c (64 * c + r) := by
  unfold Bk.iw bk
  rw [B_at, ← exp_add]
  congr 1; simp only [bq, bk_, bv, bo, bh, bi, bb, bmp, bnp, bdn, bcp, bdc]; ring

/-! ## Sums over the sequence, cut at a chunk -/

theorem sum_cut (hc : c < 32) (f : ℕ → ℝ) : ∑ s ∈ range 2048, f s
    = ∑ s ∈ range (64 * c), f s + ∑ r : Fin 64, f (64 * c + r) + ∑ s ∈ Ico (64 * (c + 1)) 2048, f s := by
  rw [← sum_range_add_sum_Ico f (by omega : 64 * (c + 1) ≤ 2048), Nat.mul_succ, sum_range_add,
    Fin.sum_univ_eq_sum_range (fun r => f (64 * c + r)) 64]

theorem D_zero {t s : ℕ} (h : t < s) : z.D t s = 0 := by unfold D; rw [if_neg (by omega)]

theorem sum_past (hc : c < 32) (r : Fin 64) (f : ℕ → ℝ) : ∑ s ∈ range 2048, z.D (64 * c + r) s * f s
    = ∑ s ∈ range (64 * c), z.D (64 * c + r) s * f s + ∑ s : Fin 64, z.D (64 * c + r) (64 * c + s) * f (64 * c + s) := by
  rw [sum_cut hc, sum_eq_zero (s := Ico _ _), add_zero]
  intro s hs
  rw [mem_Ico] at hs
  rw [D_zero (by omega), zero_mul]

theorem sum_future (hc : c < 32) (r : Fin 64) (f : ℕ → ℝ) : ∑ t ∈ range 2048, z.D t (64 * c + r) * f t
    = ∑ t : Fin 64, z.D (64 * c + t) (64 * c + r) * f (64 * c + t)
      + ∑ t ∈ Ico (64 * (c + 1)) 2048, z.D t (64 * c + r) * f t := by
  rw [sum_cut hc, sum_eq_zero (s := range _), zero_add]
  intro s hs
  rw [mem_range] at hs
  rw [D_zero (by omega), zero_mul]

theorem qk_blk (r s : Fin 64) : (z.blk c).qk r s = z.W (64 * c + r) (64 * c + s) := rfl

theorem s_blk (r s : Fin 64) : (z.blk c).s r s = exp (-(z.blk c).mt r) * z.S (64 * c + r) (64 * c + s) := by
  unfold Bk.s S; rw [qk_blk, dw_blk]; ring

theorem den_blk (hc : c < 32) (r : Fin 64) : (z.blk c).den r = exp (-(z.blk c).mt r) * z.den (64 * c + r) := by
  have h1 : (z.blk c).iw r * ∑ d, (z.blk c).q r d * (z.blk c).np d
      = ∑ s ∈ range (64 * c), exp (-(z.blk c).mt r) * (z.D (64 * c + r) s * z.W (64 * c + r) s) := by
    simp only [bq, bk_, bv, bo, bh, bi, bb, bmp, bnp, bdn, bcp, bdc, mul_sum]
    rw [sum_comm]
    refine sum_congr rfl fun s hs => ?_
    rw [← mul_assoc, ← iw_wt r (mem_range.1 hs), W, mul_sum]
    exact sum_congr rfl fun d _ => by ring
  unfold Bk.den
  rw [h1]
  simp only [s_blk, den, S]
  rw [show (fun s => z.W (64 * c + r) s * z.D (64 * c + r) s) = fun s => z.D (64 * c + r) s * z.W (64 * c + r) s from
    funext fun s => mul_comm _ _, sum_past hc, mul_add, mul_sum, mul_sum, add_comm]
  congr 1
  exact sum_congr rfl fun s _ => by ring

theorem rr_blk (hc : c < 32) (r : Fin 64) : (z.blk c).rr r = exp ((z.blk c).mt r) / z.M (64 * c + r) := by
  unfold Bk.rr Bk.emt M
  rw [den_blk hc, abs_mul, abs_of_pos (exp_pos _)]
  have hp := exp_pos (-(z.blk c).mt r)
  have : max (exp (-(z.blk c).mt r) * |z.den (64 * c + r)|) (exp (-(z.blk c).mt r))
      = exp (-(z.blk c).mt r) * (if 1 < |z.den (64 * c + r)| then |z.den (64 * c + r)| else 1) := by
    split
    · rename_i h; rw [max_eq_left]; nlinarith
    · rename_i h; rw [max_eq_right, mul_one]; nlinarith
  rw [this, exp_neg, one_div, mul_inv, inv_inv, div_eq_mul_inv]

theorem dnum_blk (hc : c < 32) (r : Fin 64) (d : Fin 256) :
    (z.blk c).dnum r d = exp ((z.blk c).mt r) * z.u (64 * c + r) d := by
  unfold Bk.dnum u; rw [rr_blk hc]; simp only [bq, bk_, bv, bo, bh, bi, bb, bmp, bnp, bdn, bcp, bdc]; ring

theorem sg_blk (hc : c < 32) (r : Fin 64) : (z.blk c).sg r
    = if 1 < |z.den (64 * c + r)| then (if z.den (64 * c + r) < 0 then -1 else 1) else 0 := by
  unfold Bk.sg Bk.emt
  rw [den_blk hc, abs_mul, abs_of_pos (exp_pos _)]
  have hp := exp_pos (-(z.blk c).mt r)
  have h1 : exp (-(z.blk c).mt r) < exp (-(z.blk c).mt r) * |z.den (64 * c + r)| ↔ 1 < |z.den (64 * c + r)| :=
    lt_mul_iff_one_lt_right hp
  simp only [h1]
  split
  · rename_i h
    rw [if_pos (by positivity)]
    have h2 : exp (-(z.blk c).mt r) * z.den (64 * c + r) < 0 ↔ z.den (64 * c + r) < 0 := by
      constructor
      · intro h; by_contra h'; rw [not_lt] at h'; exact absurd (mul_nonneg hp.le h') (not_le.2 h)
      · exact fun h => mul_neg_of_pos_of_neg hp h
    simp only [h2]
  · rfl

theorem dden_blk (hc : c < 32) (r : Fin 64) : (z.blk c).dden r = exp ((z.blk c).mt r) * z.w (64 * c + r) := by
  unfold Bk.dden w
  rw [sg_blk hc, rr_blk hc]
  split
  · simp only [bq, bk_, bv, bo, bh, bi, bb, bmp, bnp, bdn, bcp, bdc]; ring
  · ring

theorem exp_mt (x : ℝ) : exp x * exp (-x) = 1 := by rw [← exp_add]; simp

theorem gd_blk (hc : c < 32) (r s : Fin 64) : (z.blk c).gd r s = z.gd (64 * c + r) (64 * c + s) := by
  unfold Bk.gd gd P
  rw [dw_blk, dden_blk hc]
  simp only [dnum_blk hc, mul_assoc]
  rw [← mul_sum, ← mul_add]
  simp only [bq, bk_, bv, bo, bh, bi, bb, bmp, bnp, bdn, bcp, bdc]
  rw [show ∀ a b c' d : ℝ, a * b * (c' * d) = a * c' * (b * d) from fun _ _ _ _ => by ring, exp_mt, one_mul]

theorem dqi_blk (hc : c < 32) (r : Fin 64) (d : Fin 256) :
    (z.blk c).dqi r d = ∑ s ∈ range (64 * c), z.gd (64 * c + r) s * z.k s d := by
  unfold Bk.dqi
  rw [dden_blk hc]
  simp only [dnum_blk hc]
  have h1 : ∑ e, exp ((z.blk c).mt r) * z.u (64 * c + r) e * (z.blk c).cp d e
      = ∑ s ∈ range (64 * c), exp ((z.blk c).mt r) * z.wt c s * z.k s d * ∑ e, z.u (64 * c + r) e * z.v s e := by
    simp only [bq, bk_, bv, bo, bh, bi, bb, bmp, bnp, bdn, bcp, bdc, mul_sum]
    rw [sum_comm]
    exact sum_congr rfl fun s _ => sum_congr rfl fun e _ => by ring
  rw [h1]
  have h2 : exp ((z.blk c).mt r) * z.w (64 * c + r) * (z.blk c).np d
      = ∑ s ∈ range (64 * c), exp ((z.blk c).mt r) * z.wt c s * z.k s d * z.w (64 * c + r) := by
    simp only [bq, bk_, bv, bo, bh, bi, bb, bmp, bnp, bdn, bcp, bdc, mul_sum]
    exact sum_congr rfl fun s _ => by ring
  rw [h2, ← sum_add_distrib, mul_sum]
  refine sum_congr rfl fun s hs => ?_
  unfold gd P
  have h3 := iw_wt (z := z) r (mem_range.1 hs)
  have h4 := exp_mt ((z.blk c).mt r)
  rw [← mul_add]
  calc _ = ((z.blk c).iw r * z.wt c s) * exp ((z.blk c).mt r) * z.k s d
        * (∑ e, z.u (64 * c + r) e * z.v s e + z.w (64 * c + r)) := by ring
    _ = (exp ((z.blk c).mt r) * exp (-(z.blk c).mt r)) * z.D (64 * c + r) s * z.k s d
        * (∑ e, z.u (64 * c + r) e * z.v s e + z.w (64 * c + r)) := by rw [h3]; ring
    _ = _ := by rw [h4]; ring

theorem dki_blk (hc : c < 32) (r : Fin 64) (d : Fin 256) :
    (z.blk c).dki r d = ∑ t ∈ Ico (64 * (c + 1)) 2048, z.gd t (64 * c + r) * z.q t d := by
  unfold Bk.dki
  have h1 : ∑ e, (z.blk c).v r e * (z.blk c).dc d e
      = ∑ t ∈ Ico (64 * (c + 1)) 2048, z.bk (c + 1) t * z.q t d * ∑ e, z.u t e * z.v (64 * c + r) e := by
    simp only [bq, bk_, bv, bo, bh, bi, bb, bmp, bnp, bdn, bcp, bdc, mul_sum]
    rw [sum_comm]
    exact sum_congr rfl fun s _ => sum_congr rfl fun e _ => by ring
  rw [h1, bdn,
    ← sum_add_distrib, mul_sum]
  refine sum_congr rfl fun t ht => ?_
  unfold gd P
  rw [← wcol_bk r (mem_Ico.1 ht).1]
  ring

theorem dq_blk (hc : c < 32) (r : Fin 64) (d : Fin 256) : (z.blk c).dq r d = z.dq (64 * c + r) d := by
  unfold Bk.dq dq
  rw [dqi_blk hc]
  simp only [gd_blk hc, gd]
  rw [show (fun s => z.P (64 * c + r) s * z.D (64 * c + r) s * z.k s d)
    = fun s => z.D (64 * c + r) s * (z.P (64 * c + r) s * z.k s d) from funext fun s => by ring, sum_past hc, add_comm]
  congr 1
  exact sum_congr rfl fun s _ => by simp only [bq, bk_, bv, bo, bh, bi, bb, bmp, bnp, bdn, bcp, bdc]; ring

theorem dk_blk (hc : c < 32) (r : Fin 64) (d : Fin 256) : (z.blk c).dk r d = z.dk (64 * c + r) d := by
  unfold Bk.dk dk
  rw [dki_blk hc]
  simp only [gd_blk hc, gd]
  rw [show (fun t => z.P t (64 * c + r) * z.D t (64 * c + r) * z.q t d)
    = fun t => z.D t (64 * c + r) * (z.P t (64 * c + r) * z.q t d) from funext fun s => by ring, sum_future hc]
  congr 1
  exact sum_congr rfl fun s _ => by simp only [bq, bk_, bv, bo, bh, bi, bb, bmp, bnp, bdn, bcp, bdc]; ring

theorem dv_blk (hc : c < 32) (r : Fin 64) (d : Fin 256) : (z.blk c).dv r d = z.dv (64 * c + r) d := by
  unfold Bk.dv dv
  have h1 : ∑ e, (z.blk c).wcol r * (z.blk c).k r e * (z.blk c).dc e d
      = ∑ t ∈ Ico (64 * (c + 1)) 2048, z.D t (64 * c + r) * (z.W t (64 * c + r) * z.u t d) := by
    simp only [bdc, mul_sum]
    rw [sum_comm]
    refine sum_congr rfl fun t ht => ?_
    rw [← wcol_bk r (mem_Ico.1 ht).1, W, sum_mul, mul_sum]
    exact sum_congr rfl fun e _ => by simp only [bq, bk_, bv, bo, bh, bi, bb, bmp, bnp, bdn, bcp, bdc]; ring
  rw [h1]
  simp only [S]
  rw [show (fun t => z.W t (64 * c + r) * z.D t (64 * c + r) * z.u t d)
    = fun t => z.D t (64 * c + r) * (z.W t (64 * c + r) * z.u t d) from funext fun s => by ring, sum_future hc]
  congr 1
  refine sum_congr rfl fun t _ => ?_
  rw [s_blk, dnum_blk hc, S]
  have h4 := exp_mt ((z.blk c).mt t)
  calc _ = (exp ((z.blk c).mt t) * exp (-(z.blk c).mt t)) * (z.W (64 * c + t) (64 * c + r) * z.D (64 * c + t) (64 * c + r)
          * z.u (64 * c + t) d) := by ring
    _ = _ := by rw [h4]; ring

theorem carry_cut (hc : c < 32) (f : ℕ → ℝ) : ∑ t ∈ Ico (64 * c) 2048, f t
    = ∑ t ∈ Ico (64 * (c + 1)) 2048, f t + ∑ r : Fin 64, f (64 * c + r) := by
  have h1 := sum_cut hc f
  rw [← sum_range_add_sum_Ico f (by omega : 64 * c ≤ 2048)] at h1
  linarith

theorem dc_blk (hc : c < 32) (d e : Fin 256) :
    (z.blk c).dc' d e = ∑ t ∈ Ico (64 * c) 2048, z.bk c t * z.q t d * z.u t e := by
  unfold Bk.dc'
  rw [carry_cut hc]
  congr 1
  · rw [bdc, mul_sum]
    exact sum_congr rfl fun t _ => by rw [← decay_bk (c := c) t]; ring
  · refine sum_congr rfl fun r _ => ?_
    rw [dnum_blk hc, ← iw_mt r]; simp only [bq, bk_, bv, bo, bh, bi, bb, bmp, bnp, bdn, bcp, bdc]; ring

theorem dn_blk (hc : c < 32) (d : Fin 256) :
    (z.blk c).dn' d = ∑ t ∈ Ico (64 * c) 2048, z.bk c t * z.q t d * z.w t := by
  unfold Bk.dn'
  rw [carry_cut hc]
  congr 1
  · rw [bdn, mul_sum]
    exact sum_congr rfl fun t _ => by rw [← decay_bk (c := c) t]; ring
  · refine sum_congr rfl fun r _ => ?_
    rw [dden_blk hc, ← iw_mt r]; simp only [bq, bk_, bv, bo, bh, bi, bb, bmp, bnp, bdn, bcp, bdc]; ring

theorem E_zero {t s : ℕ} (h : t < s) : z.E t s = 0 := by unfold E gd; rw [D_zero h]; ring

theorem e_blk (hc : c < 32) (r s : Fin 64) : (z.blk c).e r s = z.E (64 * c + r) (64 * c + s) := by
  unfold Bk.e E; rw [gd_blk hc, qk_blk]

theorem kint_blk (hc : c < 32) (r : Fin 64) :
    (z.blk c).kint r = ∑ t ∈ Ico (64 * (c + 1)) 2048, z.E t (64 * c + r) := by
  unfold Bk.kint
  simp only [dki_blk hc, mul_sum]
  rw [sum_comm]
  refine sum_congr rfl fun t _ => ?_
  rw [E, W, mul_sum]
  exact sum_congr rfl fun d _ => by simp only [bq, bk_, bv, bo, bh, bi, bb, bmp, bnp, bdn, bcp, bdc]; ring

theorem rq_blk (hc : c < 32) (r : Fin 64) : (z.blk c).rq r = ∑ s ∈ range 2048, z.E (64 * c + r) s := by
  unfold Bk.rq
  simp only [dqi_blk hc, mul_sum, e_blk hc]
  rw [sum_cut hc, sum_eq_zero (s := Ico _ _), add_zero, add_comm]
  · congr 1
    rw [sum_comm]
    refine sum_congr rfl fun s _ => ?_
    rw [E, W, mul_sum]
    exact sum_congr rfl fun d _ => by simp only [bq, bk_, bv, bo, bh, bi, bb, bmp, bnp, bdn, bcp, bdc]; ring
  · intro s hs
    rw [mem_Ico] at hs
    exact E_zero (by omega)

theorem rk_blk (hc : c < 32) (r : Fin 64) : (z.blk c).rk r = z.di (64 * c + r) := by
  unfold Bk.rk di
  rw [kint_blk hc]
  simp only [e_blk hc]
  rw [sum_cut hc, sum_eq_zero (s := range _), zero_add]
  intro s hs
  rw [mem_range] at hs
  exact E_zero (by omega)

theorem sum_comm4 (A A' : Finset ℕ) (f : Fin 256 → Fin 256 → ℕ → ℕ → ℝ) :
    ∑ d, ∑ e, ∑ t ∈ A, ∑ s ∈ A', f d e t s = ∑ s ∈ A', ∑ t ∈ A, ∑ d, ∑ e, f d e t s := by
  calc _ = ∑ d, ∑ s ∈ A', ∑ t ∈ A, ∑ e, f d e t s := sum_congr rfl fun d _ => by
        rw [sum_comm, sum_comm (s := A')]
        refine sum_congr rfl fun t _ => ?_
        rw [sum_comm]
    _ = _ := by
        rw [sum_comm]
        exact sum_congr rfl fun s _ => sum_comm

theorem sum_comm3 (A A' : Finset ℕ) (f : Fin 256 → ℕ → ℕ → ℝ) :
    ∑ d, ∑ t ∈ A, ∑ s ∈ A', f d t s = ∑ s ∈ A', ∑ t ∈ A, ∑ d, f d t s := by
  rw [sum_comm, sum_comm (s := A')]
  exact sum_congr rfl fun t _ => sum_comm

theorem jdec_blk : (z.blk c).jdec = ∑ s ∈ range (64 * c), ∑ t ∈ Ico (64 * (c + 1)) 2048, z.E t s := by
  unfold Bk.jdec
  have h1 : ∑ d, ∑ e, (z.blk c).dc d e * (z.blk c).cp d e
      = ∑ s ∈ range (64 * c), ∑ t ∈ Ico (64 * (c + 1)) 2048,
        z.bk (c + 1) t * z.wt c s * (z.W t s * ∑ e, z.u t e * z.v s e) := by
    simp only [bdc, bcp, sum_mul_sum]
    rw [sum_comm4]
    refine sum_congr rfl fun s _ => sum_congr rfl fun t _ => ?_
    simp only [W, sum_mul_sum]
    rw [mul_sum]
    refine sum_congr rfl fun d _ => ?_
    rw [mul_sum]
    exact sum_congr rfl fun e _ => by ring
  have h2 : ∑ d, (z.blk c).dn d * (z.blk c).np d
      = ∑ s ∈ range (64 * c), ∑ t ∈ Ico (64 * (c + 1)) 2048, z.bk (c + 1) t * z.wt c s * (z.W t s * z.w t) := by
    simp only [bdn, bnp, sum_mul_sum]
    rw [sum_comm3]
    refine sum_congr rfl fun s _ => sum_congr rfl fun t _ => ?_
    rw [W, sum_mul, mul_sum]
    exact sum_congr rfl fun e _ => by ring
  rw [h1, h2, ← sum_add_distrib, mul_sum]
  refine sum_congr rfl fun s hs => ?_
  rw [← sum_add_distrib, mul_sum]
  refine sum_congr rfl fun t ht => ?_
  rw [E, gd, P, ← decay_bk_wt (mem_range.1 hs) (mem_Ico.1 ht).1]
  ring

theorem tail_dB (hc : c < 32) : ∑ τ ∈ Ico (64 * (c + 1)) 2048, z.dB τ
    = ∑ s ∈ range (64 * (c + 1)), ∑ t ∈ Ico (64 * (c + 1)) 2048, z.E t s := by
  have hX : 64 * (c + 1) ≤ 2048 := by omega
  simp only [dB, sum_sub_distrib]
  have h1 : ∑ x ∈ Ico (64 * (c + 1)) 2048, ∑ s ∈ range 2048, z.E x s
      = ∑ x ∈ Ico (64 * (c + 1)) 2048, ∑ s ∈ range (64 * (c + 1)), z.E x s
        + ∑ x ∈ Ico (64 * (c + 1)) 2048, ∑ s ∈ Ico (64 * (c + 1)) 2048, z.E x s := by
    rw [← sum_add_distrib]
    exact sum_congr rfl fun x _ => (sum_range_add_sum_Ico _ hX).symm
  have h2 : ∑ x ∈ Ico (64 * (c + 1)) 2048, ∑ s ∈ range 2048, z.E s x
      = ∑ x ∈ Ico (64 * (c + 1)) 2048, ∑ s ∈ Ico (64 * (c + 1)) 2048, z.E s x := by
    refine sum_congr rfl fun x hx => ?_
    rw [← sum_range_add_sum_Ico _ hX, sum_eq_zero, zero_add]
    intro s hs
    rw [mem_range] at hs; rw [mem_Ico] at hx
    exact E_zero (by omega)
  rw [h1, h2, sum_comm (s := Ico (64 * (c + 1)) 2048) (t := Ico (64 * (c + 1)) 2048), add_sub_cancel_right, sum_comm]

theorem db_blk (hc : c < 32) (r : Fin 64) : (z.blk c).db r = z.db (64 * c + r) := by
  unfold Bk.db db dB
  rw [rq_blk hc, rk_blk hc, di]
  congr 1
  have h1 : (64 * c + (r : ℕ)) / 64 = c := by omega
  have h2 : (64 * c + (r : ℕ)) % 64 = 63 ↔ r = 63 := by
    constructor
    · intro h; ext; simp; omega
    · rintro rfl; simp
  simp only [h1, h2]
  split
  · rw [show (fun τ => ∑ s ∈ range 2048, z.E τ s - ∑ τ' ∈ range 2048, z.E τ' τ) = z.dB from rfl, tail_dB hc, jdec_blk]
    simp only [kint_blk hc]
    rw [show 64 * (c + 1) = 64 * c + 64 from by ring, sum_range_add, add_comm,
      Fin.sum_univ_eq_sum_range (fun r => ∑ t ∈ Ico (64 * c + 64) 2048, z.E t (64 * c + r)) 64]
  · rfl

/-- The stabiliser is the least real number above its terms. -/
theorem m_le (c : ℕ) (y : ℝ) : z.m c ≤ y ↔ z.G c ≤ y ∧ ∀ s < 64 * c, z.G c - z.B s + z.i s ≤ y := by
  induction c generalizing y with
  | zero => simp [m, G]
  | succ c ih =>
    rw [m, max_le_iff, sup'_le_iff, show z.b (64 * c + 63) + z.m c ≤ y ↔ z.m c ≤ y - z.b (64 * c + 63) from by
      constructor <;> intro h <;> linarith, ih, G_succ]
    constructor
    · rintro ⟨⟨h1, h2⟩, h3⟩
      refine ⟨by linarith, fun s hs => ?_⟩
      by_cases h : s < 64 * c
      · have := h2 s h; linarith
      · have := h3 ⟨s - 64 * c, by omega⟩ (mem_univ _)
        have hB := B_at (z := z) (c := c) ⟨s - 64 * c, by omega⟩
        have e : 64 * c + (s - 64 * c) = s := by omega
        simp only [e] at this hB
        rw [hB]; linarith
    · rintro ⟨h1, h2⟩
      refine ⟨⟨by linarith, fun s hs => by have := h2 s (by omega); linarith⟩, fun r _ => ?_⟩
      have := h2 (64 * c + r) (by omega)
      rw [B_at] at this; linarith

end Sq

end Cert.Mlstm

end
-- ==== Proof.Head.lean ====
/- One head of one chunk of the mLSTM's backward pass: the vector operations of the body, named step by step over what
   the head reads. -/
module

public import proofs.«01_k».proof.Proof.Gen.KernelIdeal.Skeleton
public import proofs.«01_k».proof.Proof.Mlstm
public import Idealize.ShloMosaic.Lib.Pipeline.ValueKit

@[expose] public section

set_option maxRecDepth 16384

noncomputable section

namespace Cert.KernelIdeal.Head

open Idealize.ShloMosaic Cert.KernelIdeal Cert.KernelIdeal.Gen

/-- What a head reads at one chunk. -/
structure Blk (F : FTy → Type) [FloatOps F] where
  q : FVec F S64x256 .f32
  k : FVec F S64x256 .f32
  v : FVec F S64x256 .f32
  o : FVec F S64x256 .f32
  h : FVec F S64x256 .f32
  ic : FVec F S64x1 .f32
  bc : FVec F S64x1 .f32
  ir : FVec F S1x64 .f32
  br : FVec F S1x64 .f32
  mp : FVec F S1x1 .f32
  np : FVec F S1x256 .f32
  cp : FVec F S256x256 .f32
  dc : FVec F S256x256 .f32
  d8 : FVec F S8x256 .f32

/-- Head `h`'s reading of the loaded vectors: its gate columns and rows are `h` and `h' = h + 4`. -/
def mk {F : FTy → Type} [FloatOps F] (h h' : ℕ) (p1 : S64x128.Slices ![0, h] S64x1) (p2 : S64x128.Slices ![0, h'] S64x1)
    (p3 : S8x64.Slices ![h, 0] S1x64) (p4 : S8x64.Slices ![h', 0] S1x64)
    (q k v o hv : FVec F S64x256 .f32) (gc : FVec F S64x128 .f32) (gr : FVec F S1x8x64 .f32)
    (ns : FVec F S1x1x8x256 .f32) (cs : FVec F S1x1x256x256 .f32) (dc : FVec F S1x256x256 .f32)
    (dn : FVec F S1x8x256 .f32) : Blk F where
  q := q
  k := k
  v := v
  o := o
  h := shapeCast S64x256 hv shapeCasts_S64x256_S64x256
  ic := extractStridedSlice S64x1 ![0, h] gc p1
  bc := extractStridedSlice S64x1 ![0, h'] gc p2
  ir := extractStridedSlice S1x64 ![h, 0] (shapeCast S8x64 gr shapeCasts_S1x8x64_S8x64) p3
  br := extractStridedSlice S1x64 ![h', 0] (shapeCast S8x64 gr shapeCasts_S1x8x64_S8x64) p4
  mp := extractStridedSlice S1x1 ![1, 0] (shapeCast S8x256 ns shapeCasts_S1x1x8x256_S8x256) slices_S8x256_o1_0_S1x1
  np := extractStridedSlice S1x256 ![0, 0] (shapeCast S8x256 ns shapeCasts_S1x1x8x256_S8x256) slices_S8x256_o0_0_S1x256
  cp := shapeCast S256x256 cs shapeCasts_S1x1x256x256_S256x256
  dc := shapeCast S256x256 dc shapeCasts_S1x256x256_S256x256
  d8 := shapeCast S8x256 dn shapeCasts_S1x8x256_S8x256

namespace Blk
variable {F : FTy → Type} [FloatOps F] (x : Blk F)

def zero (s : Shape) : FVec F s .f32 := broadcast s (Scalar.ofBits .f32 0x00000000#32)
def rowSum64 (a : FVec F S64x64 .f32) : FVec F S64x1 .f32 :=
  shapeCast S64x1 (multiReduction .add [1] S64 a 0x00000000#32 reduces_S64x64_S64 (.inl rfl) rfl) shapeCasts_S64_S64x1
def rowSum256 (a : FVec F S64x256 .f32) : FVec F S64x1 .f32 :=
  shapeCast S64x1 (multiReduction .add [1] S64 a 0x00000000#32 reduces_S64x256_S64 (.inl rfl) rfl) shapeCasts_S64_S64x1
def wide (a : FVec F S64x1 .f32) : FVec F S64x256 .f32 := broadcastTo S64x256 a broadcasts_S64x1_S64x256
def h16 {s : Shape} (a : FVec F s .f32) : FVec F s .bf16 := truncf .bf16 a bitsLt_bf16_f32

def qs : FVec F S64x256 .f32 := mulf x.q (broadcast S64x256 (Scalar.ofBits .f32 0x3D800000#32))
def qk : FVec F S64x64 .f32 :=
  matmul dot_S64x256_S64x256_S64x64_1_1_0_0_n_n none (h16 x.qs) (h16 x.k) (constant S64x64 .f32 0x00000000#32)
def logd : FVec F S64x64 .f32 :=
  select (cmpi .sge (iota .tc S64x64 32 [0] iota_S64x64_d0_w32) (iota .tc S64x64 32 [1] iota_S64x64_d1_w32))
    (addf (subf (broadcastTo S64x64 x.bc broadcasts_S64x1_S64x64) (broadcastTo S64x64 x.br broadcasts_S1x64_S64x64))
      (broadcastTo S64x64 x.ir broadcasts_S1x64_S64x64))
    (broadcast S64x64 (Scalar.ofBits .f32 0xFF800000#32))
def inter : FVec F S64x1 .f32 := addf x.bc (broadcastTo S64x1 x.mp broadcasts_S1x1_S64x1)
def mt : FVec F S64x1 .f32 :=
  maximumf x.inter (shapeCast S64x1 (multiReduction .maximumf [1] S64 x.logd 0xFF800000#32 reduces_S64x64_S64 (.inl rfl) rfl)
    shapeCasts_S64_S64x1)
def dw : FVec F S64x64 .f32 := exp (subf x.logd (broadcastTo S64x64 x.mt broadcasts_S64x1_S64x64))
def iw : FVec F S64x1 .f32 := exp (subf x.inter x.mt)
def g : FVec F S1x1 .f32 := extractStridedSlice S1x1 ![0, 63] x.br slices_S1x64_o0_63_S1x1
def mn : FVec F S1x1 .f32 :=
  maximumf (addf x.g x.mp) (shapeCast S1x1 (multiReduction .maximumf [1] S1
    (addf (subf (broadcastTo S1x64 x.g broadcasts_S1x1_S1x64) x.br) x.ir) 0xFF800000#32 reduces_S1x64_S1 (.inl rfl) rfl)
    shapeCasts_S1_S1x1)
def wcol : FVec F S64x1 .f32 :=
  exp (subf (addf (subf (broadcastTo S64x1 x.g broadcasts_S1x1_S64x1) x.bc) x.ic) (broadcastTo S64x1 x.mn broadcasts_S1x1_S64x1))
def decay : FVec F S1x1 .f32 := exp (subf (addf x.g x.mp) x.mn)
def s : FVec F S64x64 .f32 := mulf x.qk x.dw
def den : FVec F S64x1 .f32 :=
  addf (rowSum64 x.s) (mulf x.iw (rowSum256 (mulf x.qs (broadcastTo S64x256 x.np broadcasts_S1x256_S64x256))))
def emt : FVec F S64x1 .f32 := exp (subf (zero S64x1) x.mt)
def rr : FVec F S64x1 .f32 := divf (broadcast S64x1 (Scalar.ofBits .f32 0x3F800000#32)) (maximumf (absf x.den) x.emt)
def dnum : FVec F S64x256 .f32 := mulf x.o (wide x.rr)
def sg : FVec F S64x1 .f32 :=
  select (cmpf .ogt (absf x.den) x.emt)
    (select (cmpf .ogt (absf x.den) (zero S64x1))
      (select (cmpf .olt x.den (constant S64x1 .f32 0x00000000#32)) (constant S64x1 .f32 0xBF800000#32)
        (constant S64x1 .f32 0x3F800000#32)) x.den) (zero S64x1)
def dden : FVec F S64x1 .f32 := mulf (mulf (subf (zero S64x1) (rowSum256 (mulf x.o x.h))) x.rr) x.sg
def graw : FVec F S64x64 .f32 :=
  matmul dot_S64x256_S64x256_S64x64_1_1_0_0_n_n none (h16 x.dnum) (h16 x.v) (constant S64x64 .f32 0x00000000#32)
def gd : FVec F S64x64 .f32 := mulf (addf x.graw (broadcastTo S64x64 x.dden broadcasts_S64x1_S64x64)) x.dw
def qint : FVec F S64x256 .f32 :=
  matmul dot_S64x256_S256x256_S64x256_1_1_0_0_n_n none (h16 x.dnum) (h16 x.cp) (constant S64x256 .f32 0x00000000#32)
def dqi : FVec F S64x256 .f32 :=
  mulf (wide x.iw) (addf x.qint (mulf (wide x.dden) (broadcastTo S64x256 x.np broadcasts_S1x256_S64x256)))
def kraw : FVec F S64x256 .f32 :=
  matmul dot_S64x256_S256x256_S64x256_1_1_0_0_n_n none (h16 x.v) (h16 x.dc) (constant S64x256 .f32 0x00000000#32)
def dn : FVec F S1x256 .f32 := extractStridedSlice S1x256 ![0, 0] x.d8 slices_S8x256_o0_0_S1x256
def dki : FVec F S64x256 .f32 :=
  mulf (wide x.wcol) (addf x.kraw (broadcastTo S64x256 x.dn broadcasts_S1x256_S64x256))
def wk : FVec F S64x256 .f32 := mulf (wide x.wcol) x.k
def iq : FVec F S64x256 .f32 := mulf (wide x.iw) x.qs
def dq : FVec F S64x256 .f32 :=
  mulf (addf (matmul dot_S64x64_S64x256_S64x256_1_0_0_1_n_n none (h16 x.gd) (h16 x.k) (constant S64x256 .f32 0x00000000#32))
    x.dqi) (broadcast S64x256 (Scalar.ofBits .f32 0x3D800000#32))
def dk : FVec F S64x256 .f32 :=
  addf (matmul dot_S64x64_S64x256_S64x256_0_0_1_1_n_n none (h16 x.gd) (h16 x.qs) (constant S64x256 .f32 0x00000000#32)) x.dki
def dv : FVec F S64x256 .f32 :=
  addf (matmul dot_S64x64_S64x256_S64x256_0_0_1_1_n_n none (h16 x.s) (h16 x.dnum) (constant S64x256 .f32 0x00000000#32))
    (matmul dot_S64x256_S256x256_S64x256_1_0_0_1_n_n none (h16 x.wk) (h16 x.dc) (constant S64x256 .f32 0x00000000#32))
def dc' : FVec F S256x256 .f32 :=
  addf (mulf (broadcastTo S256x256 x.decay broadcasts_S1x1_S256x256) x.dc)
    (matmul dot_S64x256_S64x256_S256x256_0_0_1_1_n_n none (h16 x.iq) (h16 x.dnum) (constant S256x256 .f32 0x00000000#32))
def d8' : FVec F S8x256 .f32 :=
  addf (mulf (broadcastTo S8x256 x.decay broadcasts_S1x1_S8x256) x.d8)
    (broadcastTo S8x256 (shapeCast S1x256 (multiReduction .add [0] S256 (mulf x.iq (wide x.dden)) 0x00000000#32
      reduces_S64x256_S256 (.inl rfl) rfl) shapeCasts_S256_S1x256) broadcasts_S1x256_S8x256)
def e : FVec F S64x64 .f32 := mulf x.gd x.qk
def ecol : FVec F S64x1 .f32 :=
  rowSum64 (select (cmpi .eq (iota .tc S64x64 32 [0] iota_S64x64_d0_w32) (iota .tc S64x64 32 [1] iota_S64x64_d1_w32))
    (broadcastTo S64x64 (shapeCast S1x64 (shapeCast S1x64 (multiReduction .add [0] S64 x.e 0x00000000#32
      reduces_S64x64_S64_2 (.inl rfl) rfl) shapeCasts_S64_S1x64) shapeCasts_S1x64_S1x64) broadcasts_S1x64_S64x64)
    (zero S64x64))
def kint : FVec F S64x1 .f32 := rowSum256 (mulf x.k x.dki)
def rk : FVec F S64x1 .f32 := addf x.ecol x.kint
def rq : FVec F S64x1 .f32 := addf (rowSum64 x.e) (rowSum256 (mulf x.qs x.dqi))
def hsum : FVec F S1x1 .f32 :=
  shapeCast S1x1 (multiReduction .add [0] S1 x.kint 0x00000000#32 reduces_S64x1_S1 (.inl rfl) rfl) shapeCasts_S1_S1x1
def jdec : FVec F S1x1 .f32 :=
  mulf x.decay (addf (shapeCast S1x1 (multiReduction .add [0] S1 (shapeCast S256x1 (multiReduction .add [1] S256
      (mulf x.dc x.cp) 0x00000000#32 reduces_S256x256_S256 (.inl rfl) rfl) shapeCasts_S256_S256x1) 0x00000000#32
      reduces_S256x1_S1 (.inl rfl) rfl) shapeCasts_S1_S1x1)
    (shapeCast S1x1 (multiReduction .add [1] S1 (mulf x.dn x.np) 0x00000000#32 reduces_S1x256_S1 (.inl rfl) rfl) shapeCasts_S1_S1x1))
def db : FVec F S64x1 .f32 :=
  addf (subf x.rq x.rk) (select (cmpi .eq (iota .tc S64x1 32 [0] iota_S64x1_d0_w32) (broadcast S64x1 63#32))
    (broadcastTo S64x1 (shapeCast S1x1 (addf x.hsum x.jdec) shapeCasts_S1x1_S1x1) broadcasts_S1x1_S64x1) (zero S64x1))
def gate : FVec F S64x128 .f32 :=
  select (cmpi .eq (iota .tc S64x128 32 [1] iota_S64x128_d1_w32) (broadcast S64x128 0#32))
    (broadcastTo S64x128 (shapeCast S64x1 x.rk shapeCasts_S64x1_S64x1) broadcasts_S64x1_S64x128)
    (select (cmpi .eq (iota .tc S64x128 32 [1] iota_S64x128_d1_w32) (broadcast S64x128 1#32))
      (broadcastTo S64x128 (shapeCast S64x1 x.db shapeCasts_S64x1_S64x1) broadcasts_S64x1_S64x128)
      (zero S64x128))

end Blk

end Cert.KernelIdeal.Head

end
-- ==== Proof.HeadReal.lean ====
/- Over the reals, one head's vector operations at one chunk compute the chunk's formulas. -/
module

public import proofs.«01_k».proof.Proof.Head

@[expose] public section

set_option maxRecDepth 16384

noncomputable section

namespace Cert.KernelIdeal.Head

open Idealize.ShloMosaic Cert.KernelIdeal Cert.KernelIdeal.Gen Cert.Mlstm
open Idealize.ShloMosaic.Pipeline Finset

/-- The queries' scale. -/
abbrev sc : EReal := Ideal.ofBits .f32 0x3D800000#32

theorem sc_eq : sc = ((1 / 16 : ℝ) : EReal) := by
  simp [sc, Ideal.ofBits, Ideal.ieee]
  rw [← EReal.coe_mul]
  norm_num
theorem ofBits_bot : Ideal.ofBits .f32 0xFF800000#32 = ⊥ := by simp [Ideal.ofBits, Ideal.ieee]
theorem ofBits_neg : Ideal.ofBits .f32 0xBF800000#32 = ((-1 : ℝ) : EReal) := by
  simp [Ideal.ofBits, Ideal.ieee]
  rw [← EReal.coe_mul]
  norm_num

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]
theorem exp_coe (a : ℝ) : Ideal.exp (a : EReal) = ((Real.exp a : ℝ) : EReal) := rfl
theorem exp_bot : Ideal.exp ⊥ = 0 := rfl
theorem div_coe (a : ℝ) {b : ℝ} (hb : b ≠ 0) : Ideal.div (a : EReal) (b : EReal) = ((a / b : ℝ) : EReal) := by
  have h : ((b : ℝ) : EReal) ≠ 0 := by exact_mod_cast hb
  simp [Ideal.div, h, div_eq_mul_inv, EReal.coe_mul, EReal.coe_inv]
theorem max_coe (a b : ℝ) : max (a : EReal) (b : EReal) = ((max a b : ℝ) : EReal) :=
  (EReal.coe_strictMono.monotone.map_max).symm
theorem abs_coe (a : ℝ) : FloatOps.absf (F := Ideal) (φ := .f32) (a : EReal) = ((|a| : ℝ) : EReal) := by
  show max (a : EReal) (-(a : EReal)) = _
  rw [← EReal.coe_neg, max_coe]; rfl

theorem select_ge {α : Type} (r s : Fin 64) (a b : α) :
    Scalar.select (IntOp.cmpi .sge (BitVec.ofNat 32 r) (BitVec.ofNat 32 s)) a b = if s ≤ r then a else b := by
  have h : IntOp.cmpi .sge (BitVec.ofNat 32 r) (BitVec.ofNat 32 s) = if s ≤ r then 1#1 else 0#1 := by
    revert r s; decide +kernel
  rw [h]; split <;> rfl
theorem select_eq {α : Type} (r s : Fin 64) (a b : α) :
    Scalar.select (IntOp.cmpi .eq (BitVec.ofNat 32 r) (BitVec.ofNat 32 s)) a b = if s = r then a else b := by
  have h : IntOp.cmpi .eq (BitVec.ofNat 32 r) (BitVec.ofNat 32 s) = if s = r then 1#1 else 0#1 := by
    revert r s; decide +kernel
  rw [h]; split <;> rfl
theorem select_63 {α : Type} (r : Fin 64) (a b : α) :
    Scalar.select (IntOp.cmpi .eq (BitVec.ofNat 32 r) 63#32) a b = if r = 63 then a else b := by
  have h : IntOp.cmpi .eq (BitVec.ofNat 32 r) 63#32 = if r = 63 then 1#1 else 0#1 := by
    revert r; decide +kernel
  rw [h]; split <;> rfl
theorem select_0 {α : Type} (l : Fin 128) (a b : α) :
    Scalar.select (IntOp.cmpi .eq (BitVec.ofNat 32 l) 0#32) a b = if l = 0 then a else b := by
  have h : IntOp.cmpi .eq (BitVec.ofNat 32 l) 0#32 = if l = 0 then 1#1 else 0#1 := by
    revert l; decide +kernel
  rw [h]; split <;> rfl
theorem select_1 {α : Type} (l : Fin 128) (a b : α) :
    Scalar.select (IntOp.cmpi .eq (BitVec.ofNat 32 l) 1#32) a b = if l = 1 then a else b := by
  have h : IntOp.cmpi .eq (BitVec.ofNat 32 l) 1#32 = if l = 1 then 1#1 else 0#1 := by
    revert l; decide +kernel
  rw [h]; split <;> rfl

theorem fold_max_coe {ι : Type*} (s : Finset ι) (hs : s.Nonempty) (f : ι → ℝ) :
    s.fold max (⊥ : EReal) (fun i => (f i : EReal)) = ((s.sup' hs f : ℝ) : EReal) := by
  show s.sup (fun i => (f i : EReal)) = _
  rw [← sup'_eq_sup hs, comp_sup'_eq_sup'_comp hs (fun a : ℝ => (a : EReal)) (fun a b => (max_coe a b).symm)]
  rfl

/-- The head's reading, entry by entry, is the chunk `b`. -/
structure Is (x : Blk Ideal) (b : Bk) : Prop where
  q : ∀ r d, x.q (ix2 r d) * sc = (b.q r d : EReal)
  k : ∀ r d, x.k (ix2 r d) = (b.k r d : EReal)
  v : ∀ r d, x.v (ix2 r d) = (b.v r d : EReal)
  o : ∀ r d, x.o (ix2 r d) = (b.o r d : EReal)
  h : ∀ r d, x.h (ix2 r d) = (b.h r d : EReal)
  ic : ∀ r, x.ic (ix2 r (0 : Fin 1)) = (b.i r : EReal)
  bc : ∀ r, x.bc (ix2 r (0 : Fin 1)) = (b.b r : EReal)
  ir : ∀ r, x.ir (ix2 (0 : Fin 1) r) = (b.i r : EReal)
  br : ∀ r, x.br (ix2 (0 : Fin 1) r) = (b.b r : EReal)
  mp : x.mp (ix2 (0 : Fin 1) (0 : Fin 1)) = (b.mp : EReal)
  np : ∀ d, x.np (ix2 (0 : Fin 1) d) = (b.np d : EReal)
  cp : ∀ d e, x.cp (ix2 d e) = (b.cp d e : EReal)
  dc : ∀ d e, x.dc (ix2 d e) = (b.dc d e : EReal)
  d8 : ∀ d, x.d8 (ix2 (0 : Fin 8) d) = (b.dn d : EReal)

namespace Is
open Blk
variable {x : Blk Ideal} {b : Bk} (hx : Is x b)
include hx

theorem qs (r : Fin 64) (d : Fin 256) : x.qs (ix2 r d) = (b.q r d : EReal) := by
  pointwise [Blk.qs]
  exact hx.q r d
theorem qk (r s : Fin 64) : x.qk (ix2 r s) = (b.qk r s : EReal) := by
  pointwise [Blk.qk, h16]
  simp only [hx.qs, hx.k, Bk.qk, coe_sum, EReal.coe_mul, zero_add]
theorem logd (r s : Fin 64) :
    x.logd (ix2 r s) = if s ≤ r then ((b.b r - b.b s + b.i s : ℝ) : EReal) else ⊥ := by
  pointwise [Blk.logd]
  rw [select_ge, ofBits_bot, hx.bc, hx.br, hx.ir, EReal.coe_add, EReal.coe_sub]
theorem inter (r : Fin 64) : x.inter (ix2 r (0 : Fin 1)) = ((b.b r + b.mp : ℝ) : EReal) := by
  pointwise [Blk.inter]
  rw [hx.bc, hx.mp, EReal.coe_add]
theorem mt (r : Fin 64) : x.mt (ix2 r (0 : Fin 1)) = (b.mt r : EReal) := by
  pointwise [Blk.mt]
  rw [hx.inter, ofBits_bot]
  simp only [hx.logd]
  rw [Bk.mt, EReal.coe_toReal]
  · apply ne_of_lt
    refine max_lt (EReal.coe_lt_top _) ?_
    rw [fold_max_lt]
    refine ⟨bot_lt_top, fun s _ => ?_⟩
    split
    · exact EReal.coe_lt_top _
    · exact bot_lt_top
  · exact ne_of_gt (lt_of_lt_of_le (EReal.bot_lt_coe _) (le_max_left _ _))
theorem dw (r s : Fin 64) : x.dw (ix2 r s) = (b.dw r s : EReal) := by
  pointwise [Blk.dw]
  rw [hx.logd, hx.mt, Bk.dw]
  split
  · rw [← EReal.coe_sub, exp_coe]
  · rw [EReal.bot_sub, exp_bot, EReal.coe_zero]
theorem iw (r : Fin 64) : x.iw (ix2 r (0 : Fin 1)) = (b.iw r : EReal) := by
  pointwise [Blk.iw]
  rw [hx.inter, hx.mt, ← EReal.coe_sub, exp_coe, Bk.iw]
theorem g : x.g (ix2 (0 : Fin 1) (0 : Fin 1)) = (b.b 63 : EReal) := by
  pointwise [Blk.g]
  exact hx.br 63
theorem mn : x.mn (ix2 (0 : Fin 1) (0 : Fin 1)) = (b.mn : EReal) := by
  pointwise [Blk.mn]
  simp only [hx.g, hx.mp, hx.br, hx.ir, ofBits_bot]
  simp only [← EReal.coe_sub, ← EReal.coe_add]
  rw [fold_max_coe _ univ_nonempty, max_coe, Bk.mn]
theorem wcol (r : Fin 64) : x.wcol (ix2 r (0 : Fin 1)) = (b.wcol r : EReal) := by
  pointwise [Blk.wcol]
  rw [hx.g, hx.bc, hx.ic, hx.mn, ← EReal.coe_sub, ← EReal.coe_add, ← EReal.coe_sub, exp_coe, Bk.wcol]
theorem decay : x.decay (ix2 (0 : Fin 1) (0 : Fin 1)) = (b.decay : EReal) := by
  pointwise [Blk.decay]
  rw [hx.g, hx.mp, hx.mn, ← EReal.coe_add, ← EReal.coe_sub, exp_coe, Bk.decay]
theorem s (r s : Fin 64) : x.s (ix2 r s) = (b.s r s : EReal) := by
  pointwise [Blk.s]
  rw [hx.qk, hx.dw, Bk.s, EReal.coe_mul]
theorem den (r : Fin 64) : x.den (ix2 r (0 : Fin 1)) = (b.den r : EReal) := by
  pointwise [Blk.den, rowSum64, rowSum256]
  simp only [hx.s, hx.iw, hx.qs, hx.np, Bk.den, coe_sum, EReal.coe_mul, EReal.coe_add, zero_add]
theorem emt (r : Fin 64) : x.emt (ix2 r (0 : Fin 1)) = (b.emt r : EReal) := by
  pointwise [Blk.emt, zero]
  rw [hx.mt, zero_sub, ← EReal.coe_neg, exp_coe, Bk.emt]
theorem rr (r : Fin 64) : x.rr (ix2 r (0 : Fin 1)) = (b.rr r : EReal) := by
  pointwise [Blk.rr]
  have h : max |b.den r| (b.emt r) ≠ 0 := ne_of_gt (lt_of_lt_of_le (Real.exp_pos _) (le_max_right _ _))
  rw [hx.den, hx.emt, abs_coe, max_coe, ← EReal.coe_one, div_coe _ h, Bk.rr]
theorem dnum (r : Fin 64) (d : Fin 256) : x.dnum (ix2 r d) = (b.dnum r d : EReal) := by
  pointwise [Blk.dnum, wide]
  rw [hx.o, hx.rr, Bk.dnum, EReal.coe_mul]
theorem sg (r : Fin 64) : x.sg (ix2 r (0 : Fin 1)) = (b.sg r : EReal) := by
  pointwise [Blk.sg, zero]
  rw [hx.den, hx.emt, abs_coe, ofBits_neg, Bk.sg, ← EReal.coe_zero, ← EReal.coe_one]
  simp only [EReal.coe_lt_coe_iff]
  split <;> [(split <;> [(split <;> rfl); rfl]); rfl]
theorem dden (r : Fin 64) : x.dden (ix2 r (0 : Fin 1)) = (b.dden r : EReal) := by
  pointwise [Blk.dden, zero, rowSum256]
  simp only [hx.o, hx.h, hx.rr, hx.sg, Bk.dden, coe_sum, EReal.coe_mul, EReal.coe_neg, zero_sub, zero_add]
theorem graw (r s : Fin 64) : x.graw (ix2 r s) = ((∑ d, b.dnum r d * b.v s d : ℝ) : EReal) := by
  pointwise [Blk.graw, h16]
  simp only [hx.dnum, hx.v, coe_sum, EReal.coe_mul, zero_add]
theorem gd (r s : Fin 64) : x.gd (ix2 r s) = (b.gd r s : EReal) := by
  pointwise [Blk.gd]
  rw [hx.graw, hx.dden, hx.dw, Bk.gd, EReal.coe_mul, EReal.coe_add]
theorem qint (r : Fin 64) (d : Fin 256) : x.qint (ix2 r d) = ((∑ e, b.dnum r e * b.cp d e : ℝ) : EReal) := by
  pointwise [Blk.qint, h16]
  simp only [hx.dnum, hx.cp, coe_sum, EReal.coe_mul, zero_add]
theorem dqi (r : Fin 64) (d : Fin 256) : x.dqi (ix2 r d) = (b.dqi r d : EReal) := by
  pointwise [Blk.dqi, wide]
  rw [hx.iw, hx.qint, hx.dden, hx.np, Bk.dqi, EReal.coe_mul, EReal.coe_add, EReal.coe_mul]
theorem kraw (r : Fin 64) (d : Fin 256) : x.kraw (ix2 r d) = ((∑ e, b.v r e * b.dc d e : ℝ) : EReal) := by
  pointwise [Blk.kraw, h16]
  simp only [hx.v, hx.dc, coe_sum, EReal.coe_mul, zero_add]
theorem dn (d : Fin 256) : x.dn (ix2 (0 : Fin 1) d) = (b.dn d : EReal) := by
  pointwise [Blk.dn]
  exact hx.d8 d
theorem dki (r : Fin 64) (d : Fin 256) : x.dki (ix2 r d) = (b.dki r d : EReal) := by
  pointwise [Blk.dki, wide]
  rw [hx.wcol, hx.kraw, hx.dn, Bk.dki, EReal.coe_mul, EReal.coe_add]
theorem wk (r : Fin 64) (d : Fin 256) : x.wk (ix2 r d) = ((b.wcol r * b.k r d : ℝ) : EReal) := by
  pointwise [Blk.wk, wide]
  rw [hx.wcol, hx.k, EReal.coe_mul]
theorem iq (r : Fin 64) (d : Fin 256) : x.iq (ix2 r d) = ((b.iw r * b.q r d : ℝ) : EReal) := by
  pointwise [Blk.iq, wide]
  rw [hx.iw, hx.qs, EReal.coe_mul]
theorem dq (r : Fin 64) (d : Fin 256) : x.dq (ix2 r d) = (b.dq r d : EReal) * sc := by
  pointwise [Blk.dq, h16]
  simp only [hx.gd, hx.k, hx.dqi, Bk.dq, coe_sum, EReal.coe_mul, EReal.coe_add, zero_add]
theorem dk (r : Fin 64) (d : Fin 256) : x.dk (ix2 r d) = (b.dk r d : EReal) := by
  pointwise [Blk.dk, h16]
  simp only [hx.gd, hx.qs, hx.dki, Bk.dk, coe_sum, EReal.coe_mul, EReal.coe_add, zero_add]
theorem dv (r : Fin 64) (d : Fin 256) : x.dv (ix2 r d) = (b.dv r d : EReal) := by
  pointwise [Blk.dv, h16]
  simp only [hx.s, hx.dnum, hx.wk, hx.dc, Bk.dv, coe_sum, EReal.coe_mul, EReal.coe_add, zero_add]
theorem dc' (d e : Fin 256) : x.dc' (ix2 d e) = (b.dc' d e : EReal) := by
  pointwise [Blk.dc', h16]
  simp only [hx.decay, hx.dc, hx.iq, hx.dnum, Bk.dc', coe_sum, EReal.coe_mul, EReal.coe_add, zero_add]
theorem d8' (d : Fin 256) : x.d8' (ix2 (0 : Fin 8) d) = (b.dn' d : EReal) := by
  pointwise [Blk.d8', wide]
  simp only [hx.decay, hx.d8, hx.iq, hx.dden, Bk.dn', coe_sum, EReal.coe_mul, EReal.coe_add, zero_add]
theorem e (r s : Fin 64) : x.e (ix2 r s) = (b.e r s : EReal) := by
  pointwise [Blk.e]
  rw [hx.gd, hx.qk, Bk.e, EReal.coe_mul]
theorem ecol (r : Fin 64) : x.ecol (ix2 r (0 : Fin 1)) = ((∑ t, b.e t r : ℝ) : EReal) := by
  pointwise [Blk.ecol, zero, rowSum64]
  simp only [select_eq, hx.e, coe_sum, zero_add, sum_ite_eq', sum_ite_eq, mem_univ, if_true]
theorem kint (r : Fin 64) : x.kint (ix2 r (0 : Fin 1)) = (b.kint r : EReal) := by
  pointwise [Blk.kint, rowSum256]
  simp only [hx.k, hx.dki, Bk.kint, coe_sum, EReal.coe_mul, zero_add]
theorem rk (r : Fin 64) : x.rk (ix2 r (0 : Fin 1)) = (b.rk r : EReal) := by
  pointwise [Blk.rk]
  rw [hx.ecol, hx.kint, Bk.rk, EReal.coe_add]
theorem rq (r : Fin 64) : x.rq (ix2 r (0 : Fin 1)) = (b.rq r : EReal) := by
  pointwise [Blk.rq, rowSum64, rowSum256]
  simp only [hx.e, hx.qs, hx.dqi, Bk.rq, coe_sum, EReal.coe_mul, EReal.coe_add, zero_add]
theorem hsum : x.hsum (ix2 (0 : Fin 1) (0 : Fin 1)) = ((∑ r, b.kint r : ℝ) : EReal) := by
  pointwise [Blk.hsum]
  simp only [hx.kint, coe_sum, zero_add]
theorem jdec : x.jdec (ix2 (0 : Fin 1) (0 : Fin 1)) = (b.jdec : EReal) := by
  pointwise [Blk.jdec]
  simp only [hx.decay, hx.dc, hx.cp, hx.dn, hx.np, Bk.jdec, coe_sum, EReal.coe_mul, EReal.coe_add, zero_add]
theorem db (r : Fin 64) : x.db (ix2 r (0 : Fin 1)) = (b.db r : EReal) := by
  pointwise [Blk.db, zero]
  rw [select_63, hx.rq, hx.rk, hx.hsum, hx.jdec, Bk.db, EReal.coe_add, EReal.coe_sub]
  split
  · rw [EReal.coe_add]
  · rw [EReal.coe_zero]
theorem gate (r : Fin 64) (l : Fin 128) : x.gate (ix2 r l) =
    if l = 0 then (b.rk r : EReal) else if l = 1 then (b.db r : EReal) else 0 := by
  pointwise [Blk.gate, zero]
  rw [select_0, select_1, hx.rk, hx.db]

end Is

end Cert.KernelIdeal.Head

end
-- ==== Proof.PrepReal.lean ====
/- The forward pass's output and its saved states are real numbers: the sums over the whole sequence. -/
module

public import proofs.«01_k».proof.Proof.Prep
public import proofs.«01_k».proof.Proof.HeadReal

@[expose] public section

set_option maxRecDepth 16384

noncomputable section

namespace Cert.KernelIdeal.Prep

open Idealize.ShloMosaic Idealize.ShloMosaic.TcCoe Cert.KernelIdeal Cert.KernelIdeal.Gen Cert.KernelIdeal.Head Cert.Mlstm

/-- An entry as a real number. -/
def rd {n k : ℕ} (a : (⟨2, ![n, k]⟩ : Shape).Idx → EReal) (i j : ℕ) : ℝ :=
  if h : i < n ∧ j < k then (a (ix2 ⟨i, h.1⟩ ⟨j, h.2⟩)).toReal else 0

/-- The head's sequence in the arguments. -/
def sq (a0 : FVec Ideal S2048x7296 .f32) (a1 : FVec Ideal S2048x128 .f32) (a2 : FVec Ideal S2048x1024 .f32) (h : ℕ) : Sq where
  q t d := rd a0 t (3072 + (256 * h + d)) * (1 / 16)
  k t d := rd a0 t (4096 + (256 * h + d))
  v t d := rd a0 t (5120 + (256 * h + d))
  o t d := rd a2 t (256 * h + d)
  i t := rd a1 t h
  b t := rd a1 t (4 + h)

/-- The entries that are read are real. -/
structure Reals (a0 : FVec Ideal S2048x7296 .f32) (a1 : FVec Ideal S2048x128 .f32) (a2 : FVec Ideal S2048x1024 .f32) : Prop where
  p : ∀ (t : Fin 2048) (j : Fin 7296), 3072 ≤ j.val → j.val < 6144 → a0 (ix2 t j) = ((rd a0 t j : ℝ) : EReal)
  g : ∀ (t : Fin 2048) (j : Fin 128), j.val < 8 → a1 (ix2 t j) = ((rd a1 t j : ℝ) : EReal)
  o : ∀ (t : Fin 2048) (j : Fin 1024), a2 (ix2 t j) = ((rd a2 t j : ℝ) : EReal)

theorem cmp_lt {a b : ℕ} (ha : a < 2 ^ 31) (hb : b < 2 ^ 31) :
    IntOp.cmpi .slt (BitVec.ofNat 32 a) (BitVec.ofNat 32 b) = if a < b then 1#1 else 0#1 := by
  have e (n : ℕ) (h : n < 2 ^ 31) : (BitVec.ofNat 32 n).toInt = n := by
    rw [BitVec.toInt_ofNat', Int.bmod_def]; omega
  simp only [IntOp.cmpi, BitVec.slt, e a ha, e b hb, Nat.cast_lt]
  by_cases h : a < b <;> simp [h]
theorem cmp_ge {a b : ℕ} (ha : a < 2 ^ 31) (hb : b < 2 ^ 31) :
    IntOp.cmpi .sge (BitVec.ofNat 32 a) (BitVec.ofNat 32 b) = if b ≤ a then 1#1 else 0#1 := by
  have e (n : ℕ) (h : n < 2 ^ 31) : (BitVec.ofNat 32 n).toInt = n := by
    rw [BitVec.toInt_ofNat', Int.bmod_def]; omega
  simp only [IntOp.cmpi, BitVec.sle, e a ha, e b hb, Nat.cast_le]
  by_cases h : b ≤ a <;> simp [h]
theorem select_if {α : Type} (p : Prop) [Decidable p] (a b : α) :
    Scalar.select (if p then 1#1 else 0#1) a b = if p then a else b := by split <;> rfl
theorem select_lt {α : Type} {a b : ℕ} (ha : a < 2 ^ 31) (hb : b < 2 ^ 31) (x y : α) :
    Scalar.select (IntOp.cmpi .slt (BitVec.ofNat 32 a) (BitVec.ofNat 32 b)) x y = if a < b then x else y := by
  rw [cmp_lt ha hb, select_if]
theorem select_le {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [cmp_ge ha hb, select_if]
theorem select_past {α : Type} (s : Fin 2048) (c : Fin 32) (x y : α) :
    Scalar.select (IntOp.cmpi .slt (BitVec.ofNat 32 s) (IntOp.muli 64#32 (BitVec.ofNat 32 c))) x y
      = if s.val < 64 * c.val then x else y := by
  have : IntOp.muli 64#32 (BitVec.ofNat 32 c) = BitVec.ofNat 32 (64 * c) := by revert c; decide +kernel
  rw [this, select_lt (by omega) (by omega)]
theorem coe_ite (p : Prop) [Decidable p] (a b : ℝ) :
    (if p then (a : EReal) else (b : EReal)) = ((if p then a else b : ℝ) : EReal) := by split <;> rfl
theorem coe_ite0 (p : Prop) [Decidable p] (a : ℝ) :
    (if p then (a : EReal) else 0) = ((if p then a else 0 : ℝ) : EReal) := by split <;> simp
theorem M_pos (z : Sq) (t : ℕ) : 0 < z.M t := by unfold Sq.M; split <;> linarith

/-- A sum over a head's positions up to chunk `c`. -/
theorem sum_masked (c : Fin 32) (f : ℕ → ℝ) :
    ∑ x : Fin 2048, (if x.val < 64 * c.val then f x else 0) = ∑ s ∈ Finset.range (64 * c.val), f s := by
  rw [Fin.sum_univ_eq_sum_range (fun x => if x < 64 * c.val then f x else 0) 2048, ← Finset.sum_filter]
  congr 1; ext x; simp only [Finset.mem_filter, Finset.mem_range]; omega

section
variable {a0 : FVec Ideal S2048x7296 .f32} {a1 : FVec Ideal S2048x128 .f32} {a2 : FVec Ideal S2048x1024 .f32} (R : Reals a0 a1 a2)
include R

theorem p_at {t : Fin 2048} {j : Fin 7296} (n : ℕ) (h : j.val = n) (h1 : 3072 ≤ n) (h2 : n < 6144) :
    a0 (ix2 t j) = ((rd a0 t n : ℝ) : EReal) := by subst h; exact R.p t j h1 h2
theorem g_at {t : Fin 2048} {j : Fin 128} (s n : ℕ) (hs : t.val = s) (h : j.val = n) (h2 : n < 8) :
    a1 (ix2 t j) = ((rd a1 s n : ℝ) : EReal) := by subst h hs; exact R.g t j h2

theorem q_at (h : Fin 4) (t : Fin 2048) (d : Fin 256) : q a0 (ix3 h t d) * sc = (((sq a0 a1 a2 h).q t d : ℝ) : EReal) := by
  pointwise [q, heads]
  rw [p_at R (3072 + (256 * h + d)) (by dsimp only; omega) (by omega) (by omega), sc_eq, ← EReal.coe_mul]; rfl
theorem k_at (h : Fin 4) (t : Fin 2048) (d : Fin 256) : k a0 (ix3 h t d) = (((sq a0 a1 a2 h).k t d : ℝ) : EReal) := by
  pointwise [k, heads]
  exact p_at R (4096 + (256 * h + d)) (by dsimp only; omega) (by omega) (by omega)
theorem v_at (h : Fin 4) (t : Fin 2048) (d : Fin 256) : v a0 (ix3 h t d) = (((sq a0 a1 a2 h).v t d : ℝ) : EReal) := by
  pointwise [v, heads]
  exact p_at R (5120 + (256 * h + d)) (by dsimp only; omega) (by omega) (by omega)
theorem i_at (h : Fin 4) (t : Fin 2048) : i a1 (ix2 h t) = (((sq a0 a1 a2 h).i t : ℝ) : EReal) := by
  pointwise [i]
  exact g_at R t h rfl rfl (by omega)
theorem b_at (h : Fin 4) (c : Fin 32) (r : Fin 64) : b a1 (ix3 h c r) = (((sq a0 a1 a2 h).b (64 * c + r) : ℝ) : EReal) := by
  pointwise [b]
  exact g_at R (64 * c + r) (4 + h) (by dsimp only; omega) rfl (by omega)
theorem gr_at (c : Fin 32) (h : Fin 8) (r : Fin 64) : gr a1 (ix3 c h r) = ((rd a1 (64 * c + r) h : ℝ) : EReal) := by
  pointwise [gr]
  exact g_at R (64 * c + r) h (by dsimp only; omega) rfl (by omega)
theorem G_at (h : Fin 4) (c : Fin 32) : G a1 (ix2 h c) = (((sq a0 a1 a2 h).G c : ℝ) : EReal) := by
  pointwise [G, lasts, earlier]
  have e (x : Fin 32) : Scalar.select (IntOp.cmpi .slt (BitVec.ofNat 32 x) (BitVec.ofNat 32 c)) (b a1 (ix3 h x 63)) 0
      = ((if x.val < c.val then (sq a0 a1 a2 h).b (64 * x + 63) else 0 : ℝ) : EReal) := by
    rw [select_lt (by omega) (by omega), b_at R, coe_ite0]; rfl
  rw [Finset.sum_congr rfl fun x _ => e x, ← coe_sum,
    Fin.sum_univ_eq_sum_range (fun x => if x < c.val then (sq a0 a1 a2 h).b (64 * x + 63) else 0) 32, ← Finset.sum_filter, Sq.G]
  congr 2; ext x; simp only [Finset.mem_filter, Finset.mem_range]; omega
theorem B_at (h : Fin 4) (t : Fin 2048) : B a1 (ix2 h t) = (((sq a0 a1 a2 h).B t : ℝ) : EReal) := by
  pointwise [B]
  rw [b_at R, G_at R, ← EReal.coe_add, Sq.B, add_comm]
  dsimp only; rw [Nat.div_add_mod]
theorem D_at (h : Fin 4) (t s : Fin 2048) : D a1 (ix3 h t s) = (((sq a0 a1 a2 h).D t s : ℝ) : EReal) := by
  pointwise [D, expo, causal]
  rw [select_le (by omega) (by omega), B_at R, B_at R, i_at R, ← EReal.coe_sub, ← EReal.coe_add, exp_coe, coe_ite0]; rfl
theorem S_at (h : Fin 4) (t s : Fin 2048) : S a0 a1 (ix3 h t s) = (((sq a0 a1 a2 h).S t s : ℝ) : EReal) := by
  pointwise [S]
  simp only [show Ideal.ofBits .f32 0x3D800000#32 = sc from rfl, q_at R, k_at R, D_at R, ← EReal.coe_mul, ← coe_sum]; rfl
theorem den_at (h : Fin 4) (t : Fin 2048) : den a0 a1 (ix2 h t) = ((|(sq a0 a1 a2 h).den t| : ℝ) : EReal) := by
  pointwise [den]
  simp only [S_at R, ← coe_sum]
  rw [abs_coe, Fin.sum_univ_eq_sum_range (fun s => (sq a0 a1 a2 h).S t s) 2048]; rfl
theorem M_at (h : Fin 4) (t : Fin 2048) : M a0 a1 (ix2 h t) = (((sq a0 a1 a2 h).M t : ℝ) : EReal) := by
  pointwise [M]
  rw [den_at R, Sq.M, ← coe_ite]
  simp only [EReal.coe_one, ← EReal.coe_lt_coe_iff]
theorem num_at (h : Fin 4) (t : Fin 2048) (d : Fin 256) : num a0 a1 (ix3 h t d) = (((sq a0 a1 a2 h).num t d : ℝ) : EReal) := by
  pointwise [num]
  simp only [S_at R, v_at R, ← EReal.coe_mul, ← coe_sum]
  rw [Fin.sum_univ_eq_sum_range (fun s => (sq a0 a1 a2 h).S t s * (sq a0 a1 a2 h).v s d) 2048]; rfl
theorem out_at (h : Fin 4) (t : Fin 2048) (d : Fin 256) : out a0 a1 (ix3 h t d) = (((sq a0 a1 a2 h).h t d : ℝ) : EReal) := by
  pointwise [out]
  rw [num_at R, M_at R, div_coe _ (M_pos _ _).ne']; rfl
theorem h_at (t : Fin 2048) (h : Fin 4) (d : Fin 256) (e : Fin 1024) (he : e.val = 256 * h + d) :
    Prep.h a0 a1 (ix2 t e) = (((sq a0 a1 a2 h).h t d : ℝ) : EReal) := by
  pointwise [Prep.h]
  have e1 : (⟨e.val / 256, by omega⟩ : Fin 4) = h := by ext; dsimp only; omega
  have e2 : (⟨e.val % 256, by omega⟩ : Fin 256) = d := by ext; dsimp only; omega
  rw [e1, e2, out_at R]
theorem lw_at (h : Fin 4) (c : Fin 32) (s : Fin 2048) : lw a1 (ix3 h c s)
    = (((sq a0 a1 a2 h).G c - (sq a0 a1 a2 h).B s + (sq a0 a1 a2 h).i s : ℝ) : EReal) := by
  pointwise [lw]
  rw [G_at R, B_at R, i_at R, ← EReal.coe_sub, ← EReal.coe_add]
theorem mx_at (h : Fin 4) (c : Fin 32) : mx a1 (ix2 h c) = (((sq a0 a1 a2 h).m c : ℝ) : EReal) := by
  pointwise [mx, past]
  simp only [select_past, ofBits_bot, G_at R, lw_at R]
  generalize sq a0 a1 a2 h = z
  generalize hf : Finset.fold max (⊥ : EReal) (fun x : Fin 2048 => if x.val < 64 * c.val
    then ((z.G c - z.B x + z.i x : ℝ) : EReal) else ⊥) Finset.univ = f
  have hle (y : EReal) : f ≤ y ↔ ∀ x : Fin 2048, (if x.val < 64 * c.val
      then ((z.G c - z.B x + z.i x : ℝ) : EReal) else ⊥) ≤ y := by
    rw [← hf]
    simp [Finset.fold_max_le]
  have hm := (z.m_le c (z.m c)).1 le_rfl
  have h1 : max ((z.G c : ℝ) : EReal) f ≤ ((z.m c : ℝ) : EReal) := by
    refine max_le (EReal.coe_le_coe_iff.2 hm.1) ((hle _).2 fun x => ?_)
    split
    · exact EReal.coe_le_coe_iff.2 (hm.2 _ ‹_›)
    · exact bot_le
  refine le_antisymm h1 ?_
  have hb : max ((z.G c : ℝ) : EReal) f ≠ ⊥ := ((EReal.bot_lt_coe _).trans_le (le_max_left _ _)).ne'
  have ht : max ((z.G c : ℝ) : EReal) f ≠ ⊤ := (h1.trans_lt (EReal.coe_lt_top _)).ne
  obtain ⟨r, hr⟩ : ∃ r : ℝ, max ((z.G c : ℝ) : EReal) f = r := ⟨_, (EReal.coe_toReal ht hb).symm⟩
  rw [hr]
  have hl := hr.le
  rw [max_le_iff, hle] at hl
  refine EReal.coe_le_coe_iff.2 ((z.m_le c r).2 ⟨EReal.coe_le_coe_iff.1 hl.1, fun s hs => ?_⟩)
  have := hl.2 ⟨s, by omega⟩
  rw [if_pos hs] at this
  exact EReal.coe_le_coe_iff.1 this
theorem wt_at (h : Fin 4) (c : Fin 32) (s : Fin 2048) : wt a1 (ix3 h c s)
    = ((if s.val < 64 * c.val then (sq a0 a1 a2 h).wt c s else 0 : ℝ) : EReal) := by
  pointwise [wt, past]
  rw [select_past, lw_at R, mx_at R, ← EReal.coe_sub, exp_coe, coe_ite0]; rfl
theorem C_at (h : Fin 4) (c : Fin 32) (d e : Fin 256) : C a0 a1 (ix4 h c d e)
    = ((∑ s ∈ Finset.range (64 * c), (sq a0 a1 a2 h).wt c s * (sq a0 a1 a2 h).k s d * (sq a0 a1 a2 h).v s e : ℝ) : EReal) := by
  pointwise [C]
  simp only [wt_at R, k_at R, v_at R, ← EReal.coe_mul, ← coe_sum, ite_mul, zero_mul]
  rw [sum_masked c fun s => (sq a0 a1 a2 h).wt c s * (sq a0 a1 a2 h).k s d * (sq a0 a1 a2 h).v s e]
theorem n_at (h : Fin 4) (c : Fin 32) (d : Fin 256) : n a0 a1 (ix3 h c d)
    = ((∑ s ∈ Finset.range (64 * c), (sq a0 a1 a2 h).wt c s * (sq a0 a1 a2 h).k s d : ℝ) : EReal) := by
  pointwise [n]
  simp only [wt_at R, k_at R, ← EReal.coe_mul, ← coe_sum, ite_mul, zero_mul]
  rw [sum_masked c fun s => (sq a0 a1 a2 h).wt c s * (sq a0 a1 a2 h).k s d]
theorem ns_zero (h : Fin 4) (c : Fin 32) (d : Fin 256) : ns a0 a1 (ix4 h c 0 d)
    = ((∑ s ∈ Finset.range (64 * c), (sq a0 a1 a2 h).wt c s * (sq a0 a1 a2 h).k s d : ℝ) : EReal) := by
  pointwise [ns]
  exact n_at R h c d
theorem ns_one (h : Fin 4) (c : Fin 32) (d : Fin 256) : ns a0 a1 (ix4 h c 1 d) = (((sq a0 a1 a2 h).m c : ℝ) : EReal) := by
  pointwise [ns]
  exact mx_at R h c
end

end Cert.KernelIdeal.Prep

end
-- ==== Proof.Target.lean ====
/- The gradients the program returns, as sums over the whole sequence. -/
module

public import proofs.«01_k».proof.Proof.PrepReal

@[expose] public section

set_option maxRecDepth 16384

noncomputable section

namespace Cert.Target

open Idealize.ShloMosaic Idealize.ShloMosaic.TcCoe Cert.KernelIdeal Cert.KernelIdeal.Head Cert.KernelIdeal.Prep Cert.Mlstm

variable (a0 : FVec Ideal S2048x7296 .f32) (a1 : FVec Ideal S2048x128 .f32) (a2 : FVec Ideal S2048x1024 .f32)
    (a3 : FVec Ideal S2048x7296 .bf16)

/-- The head that column `j` of the projections belongs to. -/
def head (j : ℕ) : ℕ := (j - 3072) % 1024 / 256
/-- The place within its head of column `j`. -/
def place (j : ℕ) : Fin 256 := ⟨(j - 3072) % 256, by omega⟩

/-- The gradient of the projections: the mixer's columns are replaced, the others stay. -/
def dProj (y : S2048x7296.Idx) : EReal :=
  if (y 1).val < 3072 then a3 y
  else if (y 1).val < 4096 then (((sq a0 a1 a2 (head (y 1))).dq (y 0) (place (y 1)) : ℝ) : EReal) * sc
  else if (y 1).val < 5120 then (((sq a0 a1 a2 (head (y 1))).dk (y 0) (place (y 1)) : ℝ) : EReal)
  else if (y 1).val < 6144 then (((sq a0 a1 a2 (head (y 1))).dv (y 0) (place (y 1)) : ℝ) : EReal)
  else a3 y

/-- The gradient of the gates: the input gate's and the forget gate's, in the first two of 128 columns. -/
def dGate (y : S4x2048x128.Idx) : EReal :=
  if (y 2).val = 0 then (((sq a0 a1 a2 (y 0)).di (y 1) : ℝ) : EReal)
  else if (y 2).val = 1 then (((sq a0 a1 a2 (y 0)).db (y 1) : ℝ) : EReal) else 0

end Cert.Target

end
-- ==== Proof.Tiles.lean ====
/- What one grid point leaves in the output blocks and in the carried states, head by head. -/
module

public import proofs.«01_k».proof.Proof.HeadReal
public import proofs.«01_k».proof.Proof.Gen.KernelIdeal.Value
public import Idealize.ShloMosaic.Lib.Pipeline.ReadBack

@[expose] public section

set_option maxRecDepth 16384

noncomputable section

namespace Cert.KernelIdeal.Tiles

open Idealize.ShloMosaic Idealize.ShloMosaic.TcCoe Cert.KernelIdeal Cert.KernelIdeal.Gen Cert.KernelIdeal.Head
open Idealize.ShloMosaic.Pipeline

/-- Head `h`'s reading of a point's blocks and of the two carried states. -/
def hd {F : FTy → Type} [FloatOps F] (h : Fin 4) (x0 x1 x2 : Vec F S64x1024 .f32) (x3 : Vec F S64x128 .f32)
    (x4 : Vec F S1x8x64 .f32) (x5 x6 : Vec F S64x1024 .f32) (x7 : Vec F S4x1x256x256 .f32)
    (x8 : Vec F S4x1x8x256 .f32) (s0 : Vec F S4x256x256 .f32) (s1 : Vec F S4x8x256 .f32) : Blk F :=
  have p : ∀ h : Fin 4, ∀ a, (![0, 256 * h.val] : Fin _ → ℕ) a + (![64, 256] : Fin _ → ℕ) a ≤ S64x1024.size a := by decide +kernel
  mk h.val (h.val + 4) ((by decide +kernel : ∀ h : Fin 4, S64x128.Slices ![0, h.val] S64x1) h)
    ((by decide +kernel : ∀ h : Fin 4, S64x128.Slices ![0, h.val + 4] S64x1) h)
    ((by decide +kernel : ∀ h : Fin 4, S8x64.Slices ![h.val, 0] S1x64) h)
    ((by decide +kernel : ∀ h : Fin 4, S8x64.Slices ![h.val + 4, 0] S1x64) h)
    (View.ld x0 (Rect.unit ![0, 256 * h.val] ![64, 256] (p h))) (View.ld x1 (Rect.unit ![0, 256 * h.val] ![64, 256] (p h)))
    (View.ld x2 (Rect.unit ![0, 256 * h.val] ![64, 256] (p h))) (View.ld x6 (Rect.unit ![0, 256 * h.val] ![64, 256] (p h)))
    (View.ld x5 (Rect.unit ![0, 256 * h.val] ![64, 256] (p h))) x3 x4
    (View.ld x8 (Rect.unit ![h.val, 0, 0, 0] ![1, 1, 8, 256]
      ((by decide +kernel : ∀ h : Fin 4, ∀ a, (![h.val, 0, 0, 0] : Fin _ → ℕ) a + (![1, 1, 8, 256] : Fin _ → ℕ) a ≤ S4x1x8x256.size a) h)))
    (View.ld x7 (Rect.unit ![h.val, 0, 0, 0] ![1, 1, 256, 256]
      ((by decide +kernel : ∀ h : Fin 4, ∀ a, (![h.val, 0, 0, 0] : Fin _ → ℕ) a + (![1, 1, 256, 256] : Fin _ → ℕ) a ≤ S4x1x256x256.size a) h)))
    (View.ld s0 (Rect.unit ![h.val, 0, 0] ![1, 256, 256]
      ((by decide +kernel : ∀ h : Fin 4, ∀ a, (![h.val, 0, 0] : Fin _ → ℕ) a + (![1, 256, 256] : Fin _ → ℕ) a ≤ S4x256x256.size a) h)))
    (View.ld s1 (Rect.unit ![h.val, 0, 0] ![1, 8, 256]
      ((by decide +kernel : ∀ h : Fin 4, ∀ a, (![h.val, 0, 0] : Fin _ → ℕ) a + (![1, 8, 256] : Fin _ → ℕ) a ≤ S4x8x256.size a) h)))

/-- Head `h`'s reading at a grid point, over given carried states. -/
abbrev at_ (m : (ℓ : Loc nD τ sig) → Buf (Elt Ideal) ℓ) (c : Dev nD) (t : Fin cfg0.N) (s0 : Vec Ideal S4x256x256 .f32)
    (s1 : Vec Ideal S4x8x256 .f32) (h : Fin 4) : Blk Ideal :=
  hd h (X0_0 m c t) (X0_1 m c t) (X0_2 m c t) (iblk m c 3 t) (iblk m c 4 t) (iblk m c 5 t) (iblk m c 6 t) (iblk m c 7 t)
    (iblk m c 8 t) s0 s1

/-- What a point leaves, over the blocks it reads and the carried states `s0`, `s1`. -/
structure Leaves (x : Fin 4 → Blk Ideal) (o9 : S64x3072.Idx → EReal) (o10 : S4x64x128.Idx → EReal)
    (s0 : S4x256x256.Idx → EReal) (s1 : S4x8x256.Idx → EReal) : Prop where
  out9 : ∀ G : S64x3072.Idx → EReal,
    (∀ (y : S64x3072.Idx) (h : Fin 4) (r : Fin 64) (d : Fin 256), (y 0).val = r.val → (y 1).val = 256 * h.val + d.val →
      Blk.h16 (x h).dq (ix2 r d) = G y) →
    (∀ (y : S64x3072.Idx) (h : Fin 4) (r : Fin 64) (d : Fin 256), (y 0).val = r.val →
      (y 1).val = 1024 + 256 * h.val + d.val → Blk.h16 (x h).dk (ix2 r d) = G y) →
    (∀ (y : S64x3072.Idx) (h : Fin 4) (r : Fin 64) (d : Fin 256), (y 0).val = r.val →
      (y 1).val = 2048 + 256 * h.val + d.val → Blk.h16 (x h).dv (ix2 r d) = G y) → o9 = G
  out10 : ∀ G : S4x64x128.Idx → EReal,
    (∀ (y : S4x64x128.Idx) (h : Fin 4) (z : Fin 1) (r : Fin 64) (l : Fin 128), (y 0).val = h.val + z.val → (y 1).val = r.val →
      (y 2).val = l.val → shapeCast S1x64x128 (x h).gate shapeCasts_S64x128_S1x64x128 (ix3 z r l) = G y) → o10 = G
  st0 : ∀ G : S4x256x256.Idx → EReal,
    (∀ (y : S4x256x256.Idx) (h : Fin 4) (z : Fin 1) (d e : Fin 256), (y 0).val = h.val + z.val → (y 1).val = d.val → (y 2).val = e.val →
      shapeCast S1x256x256 (x h).dc' shapeCasts_S256x256_S1x256x256 (ix3 z d e) = G y) → s0 = G
  st1 : ∀ G : S4x8x256.Idx → EReal,
    (∀ (y : S4x8x256.Idx) (h : Fin 4) (z : Fin 1) (r : Fin 8) (d : Fin 256), (y 0).val = h.val + z.val → (y 1).val = r.val →
      (y 2).val = d.val → shapeCast S1x8x256 (x h).d8' shapeCasts_S8x256_S1x8x256 (ix3 z r d) = G y) → s1 = G

end Cert.KernelIdeal.Tiles

end
-- ==== Proof.Read.lean ====
/- What the kernel reads at a grid point: point `t` takes chunk `31 - t`. -/
module

public import proofs.«01_k».proof.Proof.PrepReal
public import proofs.«01_k».proof.Proof.Tiles

@[expose] public section

set_option maxRecDepth 16384

noncomputable section

namespace Cert.KernelIdeal.Tiles

open Idealize.ShloMosaic Idealize.ShloMosaic.TcCoe Cert.KernelIdeal Cert.KernelIdeal.Gen Cert.KernelIdeal.Head
open Idealize.ShloMosaic.Pipeline Cert.Mlstm

/-- Head `h` reads a chunk, when the blocks and the carried states hold it. -/
theorem is_hd (h : Fin 4) {x0 x1 x2 : Vec Ideal S64x1024 .f32} {x3 : Vec Ideal S64x128 .f32}
    {x4 : Vec Ideal S1x8x64 .f32} {x5 x6 : Vec Ideal S64x1024 .f32} {x7 : Vec Ideal S4x1x256x256 .f32}
    {x8 : Vec Ideal S4x1x8x256 .f32} {s0 : Vec Ideal S4x256x256 .f32} {s1 : Vec Ideal S4x8x256 .f32} {b : Bk}
    (hq : ∀ (r : Fin 64) (d : Fin 256) (e : Fin 1024), e.val = 256 * h.val + d.val → x0 (ix2 r e) * sc = (b.q r d : EReal))
    (hk : ∀ (r : Fin 64) (d : Fin 256) (e : Fin 1024), e.val = 256 * h.val + d.val → x1 (ix2 r e) = (b.k r d : EReal))
    (hv : ∀ (r : Fin 64) (d : Fin 256) (e : Fin 1024), e.val = 256 * h.val + d.val → x2 (ix2 r e) = (b.v r d : EReal))
    (hi : ∀ (r : Fin 64) (l : Fin 128), l.val = h.val → x3 (ix2 r l) = (b.i r : EReal))
    (hb : ∀ (r : Fin 64) (l : Fin 128), l.val = h.val + 4 → x3 (ix2 r l) = (b.b r : EReal))
    (hi' : ∀ (l : Fin 8) (r : Fin 64), l.val = h.val → x4 (ix3 0 l r) = (b.i r : EReal))
    (hb' : ∀ (l : Fin 8) (r : Fin 64), l.val = h.val + 4 → x4 (ix3 0 l r) = (b.b r : EReal))
    (hh : ∀ (r : Fin 64) (d : Fin 256) (e : Fin 1024), e.val = 256 * h.val + d.val → x5 (ix2 r e) = (b.h r d : EReal))
    (ho : ∀ (r : Fin 64) (d : Fin 256) (e : Fin 1024), e.val = 256 * h.val + d.val → x6 (ix2 r e) = (b.o r d : EReal))
    (hc : ∀ d e : Fin 256, x7 (ix4 h 0 d e) = (b.cp d e : EReal))
    (hm : x8 (ix4 h 0 1 0) = (b.mp : EReal))
    (hn : ∀ d : Fin 256, x8 (ix4 h 0 0 d) = (b.np d : EReal))
    (h0 : ∀ d e : Fin 256, s0 (ix3 h d e) = (b.dc d e : EReal))
    (h1 : ∀ d : Fin 256, s1 (ix3 h 0 d) = (b.dn d : EReal)) :
    Is (hd h x0 x1 x2 x3 x4 x5 x6 x7 x8 s0 s1) b where
  q r d := by pointwise [hd, mk]; exact hq _ _ _ rfl
  k r d := by pointwise [hd, mk]; exact hk _ _ _ rfl
  v r d := by pointwise [hd, mk]; exact hv _ _ _ rfl
  o r d := by pointwise [hd, mk]; exact ho _ _ _ rfl
  h r d := by pointwise [hd, mk]; exact hh _ _ _ rfl
  ic r := by pointwise [hd, mk]; exact hi _ _ rfl
  bc r := by pointwise [hd, mk]; exact hb _ _ rfl
  ir r := by pointwise [hd, mk]; exact hi' _ _ rfl
  br r := by pointwise [hd, mk]; exact hb' _ _ rfl
  mp := by pointwise [hd, mk]; exact hm
  np d := by pointwise [hd, mk]; exact hn d
  cp d e := by pointwise [hd, mk]; exact hc d e
  dc d e := by pointwise [hd, mk]; exact h0 d e
  d8 d := by pointwise [hd, mk]; exact h1 d

variable (m : (ℓ : Loc nD τ sig) → Buf (Elt Ideal) ℓ) (c : Dev nD)

/-- Where each window's block lies. -/
theorem at0 : ∀ t : Fin cfg0.N, win0_0.index t = ![31 - t.val, 3] ∧ win0_1.index t = ![31 - t.val, 4]
    ∧ win0_2.index t = ![31 - t.val, 5] ∧ win0_3.index t = ![31 - t.val, 0] ∧ win0_4.index t = ![31 - t.val, 0, 0]
    ∧ win0_5.index t = ![31 - t.val, 0] ∧ win0_6.index t = ![31 - t.val, 0] ∧ win0_7.index t = ![0, 31 - t.val, 0, 0]
    ∧ win0_8.index t = ![0, 31 - t.val, 0, 0] ∧ win0_9.index t = ![31 - t.val, 1] ∧ win0_10.index t = ![0, 31 - t.val, 0] :=
  (by decide +kernel : ∀ t : Fin grid0.N, _)

theorem x0_at (t : Fin cfg0.N) (r : Fin 64) (e : Fin 1024) (s : Fin 2048) (j : Fin 7296) (hs : s.val = 64 * (31 - t.val) + r.val)
    (hj : j.val = 3072 + e.val) : X0_0 m c t (ix2 r e) = m (c, Proc.tc.devRef main_arg0) (ix2 s j) := by
  show (cfg0.win 0).fill _ _ _ (ix2 r e) = _
  unfold Pipeline.Window.fill
  rw [dif_pos (moved0_0 t _)]
  have e0 := (at0 t).1
  unfold iblk; blk_simp; rw [V_main_arg0]; blk_ext [e0]
theorem x1_at (t : Fin cfg0.N) (r : Fin 64) (e : Fin 1024) (s : Fin 2048) (j : Fin 7296) (hs : s.val = 64 * (31 - t.val) + r.val)
    (hj : j.val = 4096 + e.val) : X0_1 m c t (ix2 r e) = m (c, Proc.tc.devRef main_arg0) (ix2 s j) := by
  show (cfg0.win 1).fill _ _ _ (ix2 r e) = _
  unfold Pipeline.Window.fill
  rw [dif_pos (moved0_1 t _)]
  have e0 := (at0 t).2.1
  unfold iblk; blk_simp; rw [V_main_arg0]; blk_ext [e0]
theorem x2_at (t : Fin cfg0.N) (r : Fin 64) (e : Fin 1024) (s : Fin 2048) (j : Fin 7296) (hs : s.val = 64 * (31 - t.val) + r.val)
    (hj : j.val = 5120 + e.val) : X0_2 m c t (ix2 r e) = m (c, Proc.tc.devRef main_arg0) (ix2 s j) := by
  show (cfg0.win 2).fill _ _ _ (ix2 r e) = _
  unfold Pipeline.Window.fill
  rw [dif_pos (moved0_2 t _)]
  have e0 := (at0 t).2.2.1
  unfold iblk; blk_simp; rw [V_main_arg0]; blk_ext [e0]
theorem x3_at (t : Fin cfg0.N) (r : Fin 64) (e : Fin 128) (s : Fin 2048) (hs : s.val = 64 * (31 - t.val) + r.val) :
    iblk m c 3 t (ix2 r e) = m (c, Proc.tc.devRef main_arg1) (ix2 s e) := by
  have e0 := (at0 t).2.2.2.1
  unfold iblk; blk_simp; rw [V_main_arg1]; blk_ext [e0]
theorem x4_at (t : Fin cfg0.N) (l : Fin 8) (r : Fin 64) (s : Fin 32) (hs : s.val = 31 - t.val) :
    iblk m c 4 t (ix3 0 l r) = Prep.gr (m (c, Proc.tc.devRef main_arg1)) (ix3 s l r) := by
  have e0 := (at0 t).2.2.2.2.1
  rw [← Prep.V_gr]; blk_ext [iblk, e0]
theorem x5_at (t : Fin cfg0.N) (r : Fin 64) (e : Fin 1024) (s : Fin 2048) (hs : s.val = 64 * (31 - t.val) + r.val) :
    iblk m c 5 t (ix2 r e) = Prep.h (m (c, Proc.tc.devRef main_arg0)) (m (c, Proc.tc.devRef main_arg1)) (ix2 s e) := by
  have e0 := (at0 t).2.2.2.2.2.1
  rw [← Prep.V_h]; blk_ext [iblk, e0]
theorem x6_at (t : Fin cfg0.N) (r : Fin 64) (e : Fin 1024) (s : Fin 2048) (hs : s.val = 64 * (31 - t.val) + r.val) :
    iblk m c 6 t (ix2 r e) = m (c, Proc.tc.devRef main_arg2) (ix2 s e) := by
  have e0 := (at0 t).2.2.2.2.2.2.1
  unfold iblk; blk_simp; rw [V_main_arg2]; blk_ext [e0]
theorem x7_at (t : Fin cfg0.N) (h : Fin 4) (d e : Fin 256) (s : Fin 32) (hs : s.val = 31 - t.val) :
    iblk m c 7 t (ix4 h 0 d e) = Prep.C (m (c, Proc.tc.devRef main_arg0)) (m (c, Proc.tc.devRef main_arg1)) (ix4 h s d e) := by
  have e0 := (at0 t).2.2.2.2.2.2.2.1
  rw [← Prep.V_C]; blk_ext [iblk, e0]
theorem x8_at (t : Fin cfg0.N) (h : Fin 4) (l : Fin 8) (d : Fin 256) (s : Fin 32) (hs : s.val = 31 - t.val) :
    iblk m c 8 t (ix4 h 0 l d) = Prep.ns (m (c, Proc.tc.devRef main_arg0)) (m (c, Proc.tc.devRef main_arg1)) (ix4 h s l d) := by
  have e0 := (at0 t).2.2.2.2.2.2.2.2.1
  rw [← Prep.V_ns]; blk_ext [iblk, e0]

/-- The head's sequence in the arguments a device holds. -/
abbrev seq (h : ℕ) : Sq := Prep.sq (m (c, Proc.tc.devRef main_arg0)) (m (c, Proc.tc.devRef main_arg1)) (m (c, Proc.tc.devRef main_arg2)) h

/-- At point `t` head `h` reads chunk `31 - t` of its sequence. -/
theorem is_at (R : Prep.Reals (m (c, Proc.tc.devRef main_arg0)) (m (c, Proc.tc.devRef main_arg1)) (m (c, Proc.tc.devRef main_arg2)))
    (t : Fin cfg0.N) (h : Fin 4) {s0 : Vec Ideal S4x256x256 .f32} {s1 : Vec Ideal S4x8x256 .f32}
    (h0 : ∀ d e : Fin 256, s0 (ix3 h d e) = (((seq m c h).blk (31 - t.val)).dc d e : EReal))
    (h1 : ∀ d : Fin 256, s1 (ix3 h 0 d) = (((seq m c h).blk (31 - t.val)).dn d : EReal)) :
    Is (at_ m c t s0 s1 h) ((seq m c h).blk (31 - t.val)) := by
  have hN : t.val < 32 := t.isLt
  have at_s (r : Fin 64) : 64 * (31 - t.val) + r.val < 2048 := by omega
  refine is_hd h (fun r d e he => ?_) (fun r d e he => ?_) (fun r d e he => ?_) (fun r l hl => ?_) (fun r l hl => ?_) (fun l r hl => ?_)
    (fun l r hl => ?_) (fun r d e he => ?_) (fun r d e he => ?_) (fun d e => ?_) ?_ (fun d => ?_) h0 h1
  · rw [x0_at m c t r e ⟨_, at_s r⟩ ⟨3072 + e.val, by omega⟩ rfl rfl,
      Prep.p_at R (3072 + (256 * h.val + d.val)) (by dsimp only; omega) (by omega) (by omega), sc_eq, ← EReal.coe_mul]; rfl
  · rw [x1_at m c t r e ⟨_, at_s r⟩ ⟨4096 + e.val, by omega⟩ rfl rfl]
    exact Prep.p_at R (4096 + (256 * h.val + d.val)) (by dsimp only; omega) (by omega) (by omega)
  · rw [x2_at m c t r e ⟨_, at_s r⟩ ⟨5120 + e.val, by omega⟩ rfl rfl]
    exact Prep.p_at R (5120 + (256 * h.val + d.val)) (by dsimp only; omega) (by omega) (by omega)
  · rw [x3_at m c t r l ⟨_, at_s r⟩ rfl]
    exact Prep.g_at R _ h rfl hl (by omega)
  · rw [x3_at m c t r l ⟨_, at_s r⟩ rfl]
    exact Prep.g_at R _ (4 + h.val) rfl (by omega) (by omega)
  · rw [x4_at m c t l r ⟨31 - t.val, by omega⟩ rfl, Prep.gr_at R, hl]; rfl
  · rw [x4_at m c t l r ⟨31 - t.val, by omega⟩ rfl, Prep.gr_at R, hl, Nat.add_comm h.val]; rfl
  · rw [x5_at m c t r e ⟨_, at_s r⟩ rfl]
    exact Prep.h_at R _ h d e he
  · rw [x6_at m c t r e ⟨_, at_s r⟩ rfl, R.o, he]; rfl
  · rw [x7_at m c t h d e ⟨31 - t.val, by omega⟩ rfl]; exact Prep.C_at R _ _ _ _
  · rw [x8_at m c t h 1 0 ⟨31 - t.val, by omega⟩ rfl]; exact Prep.ns_one R _ _ _
  · rw [x8_at m c t h 0 d ⟨31 - t.val, by omega⟩ rfl]; exact Prep.ns_zero R _ _ _

end Cert.KernelIdeal.Tiles

end
-- ==== Proof.TilesA.lean ====
/- The first point: what it leaves over states filled with zeros. -/
module

public import proofs.«01_k».proof.Proof.Tiles
public import Idealize.ShloMosaic.Lib.Pipeline.ReadBack

@[expose] public section

set_option maxRecDepth 16384

noncomputable section

namespace Cert.KernelIdeal.Tiles

open Idealize.ShloMosaic Idealize.ShloMosaic.TcCoe Cert.KernelIdeal Cert.KernelIdeal.Gen Cert.KernelIdeal.Head
open Idealize.ShloMosaic.Pipeline

variable (m : (ℓ : Loc nD τ sig) → Buf (Elt Ideal) ℓ) (c : Dev nD)

set_option maxHeartbeats 4000000 in
theorem leaves_A (t : Fin cfg0.N) (h0 : t.val % 32 = 0) :
    Leaves (at_ m c t (k0_pay2 (F := Ideal))
      (k0_pay3 (F := Ideal)))
      (outsAt0 m c t.val t.isLt).1 (outsAt0 m c t.val t.isLt).2.1 (outsAt0 m c t.val t.isLt).2.2.1
      (outsAt0 m c t.val t.isLt).2.2.2 := by
  rw [outsAt0_A m c t h0]
  unfold at_
  generalize X0_0 m c t = x0
  generalize X0_1 m c t = x1
  generalize X0_2 m c t = x2
  generalize iblk m c 3 t = x3
  generalize iblk m c 4 t = x4
  generalize iblk m c 5 t = x5
  generalize iblk m c 6 t = x6
  generalize iblk m c 7 t = x7
  generalize iblk m c 8 t = x8
  refine ⟨fun G hq hk hv => ?_, fun G hg => ?_, fun G hg => ?_, fun G hg => ?_⟩ <;> funext y <;> dsimp only
  · frame_open
    simp (disch := decide) only [↓ View.readCov_skip, ↓ View.readCov_cons_toLoadRect, ↓ View.readCov_fill]
    frame_out
    canon_tiles y h <;> idx_vars y
    · exact hv _ 3 _ _ h0 h1
    · exact hk _ 3 _ _ h0 h1
    · exact hq _ 3 _ _ h0 h1
    · exact hv _ 2 _ _ h0 h1
    · exact hk _ 2 _ _ h0 h1
    · exact hq _ 2 _ _ h0 h1
    · exact hv _ 1 _ _ h0 h1
    · exact hk _ 1 _ _ h0 h1
    · exact hq _ 1 _ _ h0 h1
    · exact hv _ 0 _ _ h0 h1
    · exact hk _ 0 _ _ h0 h1
    · exact hq _ 0 _ _ h0 (by simpa using h1)
  · frame_open
    simp (disch := decide) only [↓ View.readCov_skip, ↓ View.readCov_cons_toLoadRect, ↓ View.readCov_fill]
    frame_out
    canon_tiles y h <;> idx_vars y
    · exact hg _ 3 _ _ _ h0 h1 h2
    · exact hg _ 2 _ _ _ h0 h1 h2
    · exact hg _ 1 _ _ _ h0 h1 h2
    · exact hg _ 0 _ _ _ (by simpa using h0) h1 h2
  · frame_open
    simp (disch := decide) only [↓ View.readCov_skip, ↓ View.readCov_cons_toLoadRect, ↓ View.readCov_fill]
    frame_out
    refine View.canon_append_of_piecesOf (Val := Elt Ideal) (e := .f32) G [_] [_, _, _, _] ⟨fun x => ?_, fun x => ?_, fun x => ?_, fun x => ?_, trivial⟩ y ?_
    · idx_vars x
      exact hg _ 3 _ _ _ (ValueKit.rect_emb_unit_val ..) ((ValueKit.rect_emb_unit_val ..).trans (Nat.zero_add _)) ((ValueKit.rect_emb_unit_val ..).trans (Nat.zero_add _))
    · idx_vars x
      exact hg _ 2 _ _ _ (ValueKit.rect_emb_unit_val ..) ((ValueKit.rect_emb_unit_val ..).trans (Nat.zero_add _)) ((ValueKit.rect_emb_unit_val ..).trans (Nat.zero_add _))
    · idx_vars x
      exact hg _ 1 _ _ _ (ValueKit.rect_emb_unit_val ..) ((ValueKit.rect_emb_unit_val ..).trans (Nat.zero_add _)) ((ValueKit.rect_emb_unit_val ..).trans (Nat.zero_add _))
    · idx_vars x
      exact hg _ 0 _ _ _ (ValueKit.rect_emb_unit_val ..) ((ValueKit.rect_emb_unit_val ..).trans (Nat.zero_add _)) ((ValueKit.rect_emb_unit_val ..).trans (Nat.zero_add _))
    · idx_vars y
      have h3 : y0.val = 3 ∨ y0.val = 2 ∨ y0.val = 1 ∨ y0.val = 0 := by omega
      have g (k : ℕ) (h : y0.val = k) : ∀ a : Fin 3, ![k, 0, 0] a ≤ (ix3 y0 y1 y2 a).val ∧
          (ix3 y0 y1 y2 a).val < ![k, 0, 0] a + ![1, 256, 256] a := by
        intro a
        fin_cases a
        · exact ⟨h.ge, by show y0.val < k + 1; omega⟩
        · exact ⟨Nat.zero_le _, by show y1.val < 0 + 256; omega⟩
        · exact ⟨Nat.zero_le _, by show y2.val < 0 + 256; omega⟩
      rcases h3 with h | h | h | h
      · refine ⟨_, .head _, ?_⟩; exact (Rect.mem_set_unit (inb := inb_S4x256x256_S1x256x256_3_0_0)).2 (g 3 h)
      · refine ⟨_, .tail _ (.head _), ?_⟩; exact (Rect.mem_set_unit (inb := inb_S4x256x256_S1x256x256_2_0_0)).2 (g 2 h)
      · refine ⟨_, .tail _ (.tail _ (.head _)), ?_⟩; exact (Rect.mem_set_unit (inb := inb_S4x256x256_S1x256x256_1_0_0)).2 (g 1 h)
      · refine ⟨_, .tail _ (.tail _ (.tail _ (.head _))), ?_⟩; exact (Rect.mem_set_unit (inb := inb_S4x256x256_S1x256x256_0_0_0)).2 (g 0 h)
  · frame_open
    simp (disch := decide) only [↓ View.readCov_skip, ↓ View.readCov_cons_toLoadRect, ↓ View.readCov_fill]
    frame_out
    refine View.canon_append_of_piecesOf (Val := Elt Ideal) (e := .f32) G [_] [_, _, _, _] ⟨fun x => ?_, fun x => ?_, fun x => ?_, fun x => ?_, trivial⟩ y ?_
    · idx_vars x
      exact hg _ 3 _ _ _ (ValueKit.rect_emb_unit_val ..) ((ValueKit.rect_emb_unit_val ..).trans (Nat.zero_add _)) ((ValueKit.rect_emb_unit_val ..).trans (Nat.zero_add _))
    · idx_vars x
      exact hg _ 2 _ _ _ (ValueKit.rect_emb_unit_val ..) ((ValueKit.rect_emb_unit_val ..).trans (Nat.zero_add _)) ((ValueKit.rect_emb_unit_val ..).trans (Nat.zero_add _))
    · idx_vars x
      exact hg _ 1 _ _ _ (ValueKit.rect_emb_unit_val ..) ((ValueKit.rect_emb_unit_val ..).trans (Nat.zero_add _)) ((ValueKit.rect_emb_unit_val ..).trans (Nat.zero_add _))
    · idx_vars x
      exact hg _ 0 _ _ _ (ValueKit.rect_emb_unit_val ..) ((ValueKit.rect_emb_unit_val ..).trans (Nat.zero_add _)) ((ValueKit.rect_emb_unit_val ..).trans (Nat.zero_add _))
    · idx_vars y
      have h3 : y0.val = 3 ∨ y0.val = 2 ∨ y0.val = 1 ∨ y0.val = 0 := by omega
      have g (k : ℕ) (h : y0.val = k) : ∀ a : Fin 3, ![k, 0, 0] a ≤ (ix3 y0 y1 y2 a).val ∧
          (ix3 y0 y1 y2 a).val < ![k, 0, 0] a + ![1, 8, 256] a := by
        intro a
        fin_cases a
        · exact ⟨h.ge, by show y0.val < k + 1; omega⟩
        · exact ⟨Nat.zero_le _, by show y1.val < 0 + 8; omega⟩
        · exact ⟨Nat.zero_le _, by show y2.val < 0 + 256; omega⟩
      rcases h3 with h | h | h | h
      · refine ⟨_, .head _, ?_⟩; exact (Rect.mem_set_unit (inb := inb_S4x8x256_S1x8x256_3_0_0)).2 (g 3 h)
      · refine ⟨_, .tail _ (.head _), ?_⟩; exact (Rect.mem_set_unit (inb := inb_S4x8x256_S1x8x256_2_0_0)).2 (g 2 h)
      · refine ⟨_, .tail _ (.tail _ (.head _)), ?_⟩; exact (Rect.mem_set_unit (inb := inb_S4x8x256_S1x8x256_1_0_0)).2 (g 1 h)
      · refine ⟨_, .tail _ (.tail _ (.tail _ (.head _))), ?_⟩; exact (Rect.mem_set_unit (inb := inb_S4x8x256_S1x8x256_0_0_0)).2 (g 0 h)

end Cert.KernelIdeal.Tiles

end
-- ==== Proof.TilesB.lean ====
/- A point after the first: what it leaves over what the point before left. -/
module

public import proofs.«01_k».proof.Proof.Tiles
public import Idealize.ShloMosaic.Lib.Pipeline.ReadBack

@[expose] public section

set_option maxRecDepth 16384

noncomputable section

namespace Cert.KernelIdeal.Tiles

open Idealize.ShloMosaic Idealize.ShloMosaic.TcCoe Cert.KernelIdeal Cert.KernelIdeal.Gen Cert.KernelIdeal.Head
open Idealize.ShloMosaic.Pipeline

variable (m : (ℓ : Loc nD τ sig) → Buf (Elt Ideal) ℓ) (c : Dev nD)

set_option maxHeartbeats 4000000 in
theorem leaves_B (t : Fin cfg0.N) (h0 : ¬t.val % 32 = 0) :
    Leaves (at_ m c t (outsAt0 m c (t.val - 1) (Nat.lt_of_le_of_lt (Nat.sub_le _ _) t.isLt)).2.2.1
      (outsAt0 m c (t.val - 1) (Nat.lt_of_le_of_lt (Nat.sub_le _ _) t.isLt)).2.2.2)
      (outsAt0 m c t.val t.isLt).1 (outsAt0 m c t.val t.isLt).2.1 (outsAt0 m c t.val t.isLt).2.2.1
      (outsAt0 m c t.val t.isLt).2.2.2 := by
  rw [outsAt0_B m c t h0]
  generalize (outsAt0 m c (t.val - 1) (Nat.lt_of_le_of_lt (Nat.sub_le _ _) t.isLt)).2.2.1 = z0
  generalize (outsAt0 m c (t.val - 1) (Nat.lt_of_le_of_lt (Nat.sub_le _ _) t.isLt)).2.2.2 = z1
  unfold at_
  generalize X0_0 m c t = x0
  generalize X0_1 m c t = x1
  generalize X0_2 m c t = x2
  generalize iblk m c 3 t = x3
  generalize iblk m c 4 t = x4
  generalize iblk m c 5 t = x5
  generalize iblk m c 6 t = x6
  generalize iblk m c 7 t = x7
  generalize iblk m c 8 t = x8
  refine ⟨fun G hq hk hv => ?_, fun G hg => ?_, fun G hg => ?_, fun G hg => ?_⟩ <;> funext y <;> dsimp only
  · frame_out
    simp only [read_unread_whole]
    canon_tiles y h <;> idx_vars y
    · exact hv _ 3 _ _ h0 h1
    · exact hk _ 3 _ _ h0 h1
    · exact hq _ 3 _ _ h0 h1
    · exact hv _ 2 _ _ h0 h1
    · exact hk _ 2 _ _ h0 h1
    · exact hq _ 2 _ _ h0 h1
    · exact hv _ 1 _ _ h0 h1
    · exact hk _ 1 _ _ h0 h1
    · exact hq _ 1 _ _ h0 h1
    · exact hv _ 0 _ _ h0 h1
    · exact hk _ 0 _ _ h0 h1
    · exact hq _ 0 _ _ h0 (by simpa using h1)
  · frame_out
    simp only [read_unread_whole]
    canon_tiles y h <;> idx_vars y
    · exact hg _ 3 _ _ _ h0 h1 h2
    · exact hg _ 2 _ _ _ h0 h1 h2
    · exact hg _ 1 _ _ _ h0 h1 h2
    · exact hg _ 0 _ _ _ (by simpa using h0) h1 h2
  · frame_out
    simp only [read_unread_whole]
    canon_tiles y h <;> idx_vars y
    · exact hg _ 3 _ _ _ h0 h1 h2
    · exact hg _ 2 _ _ _ h0 h1 h2
    · exact hg _ 1 _ _ _ h0 h1 h2
    · exact hg _ 0 _ _ _ (by simpa using h0) h1 h2
  · frame_out
    simp only [read_unread_whole]
    canon_tiles y h <;> idx_vars y
    · exact hg _ 3 _ _ _ h0 h1 h2
    · exact hg _ 2 _ _ _ h0 h1 h2
    · exact hg _ 1 _ _ _ h0 h1 h2
    · exact hg _ 0 _ _ _ (by simpa using h0) h1 h2

end Cert.KernelIdeal.Tiles

end
-- ==== Proof.Carry.lean ====
/- The states carried from chunk to chunk, and what every point leaves. -/
module

public import proofs.«01_k».proof.Proof.Read
public import proofs.«01_k».proof.Proof.TilesA
public import proofs.«01_k».proof.Proof.TilesB

@[expose] public section

set_option maxRecDepth 16384

noncomputable section

namespace Cert.KernelIdeal.Tiles

open Idealize.ShloMosaic Idealize.ShloMosaic.TcCoe Cert.KernelIdeal Cert.KernelIdeal.Gen Cert.KernelIdeal.Head
open Idealize.ShloMosaic.Pipeline Cert.Mlstm

namespace Leaves
variable {x : Fin 4 → Blk Ideal} {o9 : S64x3072.Idx → EReal} {o10 : S4x64x128.Idx → EReal}
    {s0 : S4x256x256.Idx → EReal} {s1 : S4x8x256.Idx → EReal} (L : Leaves x o9 o10 s0 s1)
include L

theorem s0_at (h : Fin 4) (d e : Fin 256) : s0 (ix3 h d e) = (x h).dc' (ix2 d e) := by
  have := L.st0 (fun y => (x (y 0)).dc' (ix2 (y 1) (y 2))) fun y h z d e h0 h1 h2 => by
    have e0 : y 0 = h := Fin.ext (by have := z.isLt; omega)
    have e1 : y 1 = d := Fin.ext h1
    have e2 : y 2 = e := Fin.ext h2
    rw [e0, e1, e2]; pointwise
  rw [this]; rfl
theorem s1_at (h : Fin 4) (r : Fin 8) (d : Fin 256) : s1 (ix3 h r d) = (x h).d8' (ix2 r d) := by
  have := L.st1 (fun y => (x (y 0)).d8' (ix2 (y 1) (y 2))) fun y h z d e h0 h1 h2 => by
    have e0 : y 0 = h := Fin.ext (by have := z.isLt; omega)
    have e1 : y 1 = d := Fin.ext h1
    have e2 : y 2 = e := Fin.ext h2
    rw [e0, e1, e2]; pointwise
  rw [this]; rfl
theorem gate_at (h : Fin 4) (r : Fin 64) (l : Fin 128) : o10 (ix3 h r l) = (x h).gate (ix2 r l) := by
  have := L.out10 (fun y => (x (y 0)).gate (ix2 (y 1) (y 2))) fun y h z d e h0 h1 h2 => by
    have e0 : y 0 = h := Fin.ext (by have := z.isLt; omega)
    have e1 : y 1 = d := Fin.ext h1
    have e2 : y 2 = e := Fin.ext h2
    rw [e0, e1, e2]; pointwise
  rw [this]; rfl
/-- The three gradients, side by side. -/
theorem out_at (r : Fin 64) (j : Fin 3072) (w : ℕ) (h : Fin 4) (d : Fin 256) (hj : j.val = 1024 * w + (256 * h.val + d.val)) :
    o9 (ix2 r j) = if w = 0 then (x h).dq (ix2 r d) else if w = 1 then (x h).dk (ix2 r d) else (x h).dv (ix2 r d) := by
  have := L.out9 (fun y =>
      let h : Fin 4 := ⟨(y 1).val % 1024 / 256, by omega⟩
      let d : Fin 256 := ⟨(y 1).val % 256, by omega⟩
      if (y 1).val / 1024 = 0 then (x h).dq (ix2 (y 0) d) else if (y 1).val / 1024 = 1 then (x h).dk (ix2 (y 0) d)
        else (x h).dv (ix2 (y 0) d))
    (fun y h r d h0 h1 => by
      have e0 : y 0 = r := Fin.ext h0
      have e1 : (⟨(y 1).val % 1024 / 256, by omega⟩ : Fin 4) = h := Fin.ext (by dsimp only; omega)
      have e2 : (⟨(y 1).val % 256, by omega⟩ : Fin 256) = d := Fin.ext (by dsimp only; omega)
      dsimp only; rw [if_pos (by omega), e0, e1, e2]; pointwise [Blk.h16])
    (fun y h r d h0 h1 => by
      have e0 : y 0 = r := Fin.ext h0
      have e1 : (⟨(y 1).val % 1024 / 256, by omega⟩ : Fin 4) = h := Fin.ext (by dsimp only; omega)
      have e2 : (⟨(y 1).val % 256, by omega⟩ : Fin 256) = d := Fin.ext (by dsimp only; omega)
      dsimp only; rw [if_neg (by omega), if_pos (by omega), e0, e1, e2]; pointwise [Blk.h16])
    (fun y h r d h0 h1 => by
      have e0 : y 0 = r := Fin.ext h0
      have e1 : (⟨(y 1).val % 1024 / 256, by omega⟩ : Fin 4) = h := Fin.ext (by dsimp only; omega)
      have e2 : (⟨(y 1).val % 256, by omega⟩ : Fin 256) = d := Fin.ext (by dsimp only; omega)
      dsimp only; rw [if_neg (by omega), if_neg (by omega), e0, e1, e2]; pointwise [Blk.h16])
  rw [this]
  have e1 : (⟨j.val % 1024 / 256, by omega⟩ : Fin 4) = h := Fin.ext (by dsimp only; omega)
  have e2 : (⟨j.val % 256, by omega⟩ : Fin 256) = d := Fin.ext (by dsimp only; omega)
  have e3 : j.val / 1024 = w := by omega
  show (if j.val / 1024 = 0 then (x ⟨j.val % 1024 / 256, _⟩).dq (ix2 r ⟨j.val % 256, _⟩) else
    if j.val / 1024 = 1 then (x ⟨j.val % 1024 / 256, _⟩).dk (ix2 r ⟨j.val % 256, _⟩) else
      (x ⟨j.val % 1024 / 256, _⟩).dv (ix2 r ⟨j.val % 256, _⟩)) = _
  rw [e3, e1, e2]
end Leaves

variable (m : (ℓ : Loc nD τ sig) → Buf (Elt Ideal) ℓ) (c : Dev nD)
    (R : Prep.Reals (m (c, Proc.tc.devRef main_arg0)) (m (c, Proc.tc.devRef main_arg1)) (m (c, Proc.tc.devRef main_arg2)))
include R

/-- What every point leaves: each head reads its chunk of the sequence. -/
theorem leaves (n : ℕ) (hn : n < cfg0.N) : ∃ x : Fin 4 → Blk Ideal,
    Leaves x (outsAt0 m c n hn).1 (outsAt0 m c n hn).2.1 (outsAt0 m c n hn).2.2.1 (outsAt0 m c n hn).2.2.2
      ∧ ∀ h : Fin 4, Is (x h) ((seq m c h).blk (31 - n)) := by
  induction n with
  | zero =>
    refine ⟨_, leaves_A m c ⟨0, hn⟩ rfl, fun h => is_at m c R ⟨0, hn⟩ h (fun d e => ?_) (fun d => ?_)⟩
    · rw [Sq.bdc]; pointwise [k0_pay2]; simp
    · rw [Sq.bdn]; pointwise [k0_pay3]; simp
  | succ n ih =>
    obtain ⟨x, L, I⟩ := ih (by omega)
    have hN : n + 1 < 32 := hn
    have hc : 31 - n = 31 - (n + 1) + 1 := by omega
    refine ⟨_, leaves_B m c ⟨n + 1, hn⟩ (by dsimp only; omega), fun h => is_at m c R ⟨n + 1, hn⟩ h (fun d e => ?_) (fun d => ?_)⟩
    · refine (L.s0_at h d e).trans (((I h).dc' d e).trans ?_)
      rw [Sq.dc_blk (z := seq m c h) (c := 31 - n) (by omega), Sq.bdc, ← hc]
    · refine (L.s1_at h 0 d).trans (((I h).d8' d).trans ?_)
      rw [Sq.dn_blk (z := seq m c h) (c := 31 - n) (by omega), Sq.bdn, ← hc]

end Cert.KernelIdeal.Tiles

end
-- ==== Proof.Out.lean ====
/- The arrays the kernel leaves. -/
module

public import proofs.«01_k».proof.Proof.Target
public import proofs.«01_k».proof.Proof.Carry

@[expose] public section

set_option maxRecDepth 16384

noncomputable section

namespace Cert.KernelIdeal.Tiles

open Idealize.ShloMosaic Idealize.ShloMosaic.TcCoe Cert.KernelIdeal Cert.KernelIdeal.Gen Cert.KernelIdeal.Head
open Idealize.ShloMosaic.Pipeline Cert.Mlstm Cert.Target

variable (m : (ℓ : Loc nD τ sig) → Buf (Elt Ideal) ℓ) (c : Dev nD)
    (R : Prep.Reals (m (c, Proc.tc.devRef main_arg0)) (m (c, Proc.tc.devRef main_arg1)) (m (c, Proc.tc.devRef main_arg2)))
include R

/-- What a point leaves of the gates' gradient. -/
theorem gate_blk (t : Fin cfg0.N) (h : Fin 4) (r : Fin 64) (l : Fin 128) (s : Fin 2048) (hs : s.val = 64 * (31 - t.val) + r.val) :
    (outsAt0 m c t.val t.isLt).2.1 (ix3 h r l)
      = dGate (m (c, Proc.tc.devRef main_arg0)) (m (c, Proc.tc.devRef main_arg1)) (m (c, Proc.tc.devRef main_arg2)) (ix3 h s l) := by
  obtain ⟨x, L, I⟩ := leaves m c R t.val t.isLt
  have hc : 31 - t.val < 32 := by omega
  rw [L.gate_at, (I h).gate, Sq.rk_blk (z := seq m c h) hc, Sq.db_blk (z := seq m c h) hc, ← hs]
  show _ = if l.val = 0 then _ else if l.val = 1 then _ else _
  by_cases h0 : l = 0
  · rw [if_pos h0, if_pos (by rw [h0]; rfl)]; rfl
  have h0' : ¬l.val = 0 := fun e => h0 (Fin.ext e)
  by_cases h1 : l = 1
  · rw [if_neg h0, if_pos h1, if_neg h0', if_pos (by rw [h1]; rfl)]; rfl
  · have h1' : ¬l.val = 1 := fun e => h1 (Fin.ext e)
    rw [if_neg h0, if_neg h1, if_neg h0', if_neg h1']

/-- What a point leaves of the projections' gradient. -/
theorem proj_blk (a3 : FVec Ideal S2048x7296 .bf16) (t : Fin cfg0.N) (r : Fin 64) (e : Fin 3072) (s : Fin 2048) (j : Fin 7296)
    (hs : s.val = 64 * (31 - t.val) + r.val) (hj : j.val = 3072 + e.val) :
    (outsAt0 m c t.val t.isLt).1 (ix2 r e)
      = dProj (m (c, Proc.tc.devRef main_arg0)) (m (c, Proc.tc.devRef main_arg1)) (m (c, Proc.tc.devRef main_arg2)) a3 (ix2 s j) := by
  obtain ⟨x, L, I⟩ := leaves m c R t.val t.isLt
  have hc : 31 - t.val < 32 := by omega
  have hh : head j < 4 := by unfold head; omega
  have hd : e.val = 1024 * (e.val / 1024) + (256 * (⟨head j, hh⟩ : Fin 4).val + (place j).val) := by
    unfold head place; dsimp only; omega
  rw [L.out_at r e _ ⟨head j, hh⟩ (place j) hd, (I _).dq, (I _).dk, (I _).dv, Sq.dq_blk (z := seq m c (head j)) hc,
    Sq.dk_blk (z := seq m c (head j)) hc, Sq.dv_blk (z := seq m c (head j)) hc, ← hs]
  show _ = if j.val < 3072 then _ else if j.val < 4096 then _ else if j.val < 5120 then _ else if j.val < 6144 then _ else _
  rw [if_neg (by omega : ¬j.val < 3072)]
  by_cases h2 : j.val < 4096
  · rw [if_pos (by omega), if_pos h2]; rfl
  by_cases h3 : j.val < 5120
  · rw [if_neg (by omega), if_pos (by omega), if_neg h2, if_pos h3]; rfl
  · rw [if_neg (by omega), if_neg (by omega), if_neg h2, if_neg h3, if_pos (by omega)]; rfl

/-- The gates' gradient. -/
theorem arr10 : (dats m 0 c).arrAt 10 cfg0.N
    = dGate (m (c, Proc.tc.devRef main_arg0)) (m (c, Proc.tc.devRef main_arg1)) (m (c, Proc.tc.devRef main_arg2)) := by
  refine (dats m 0 c).arrAt_eq_of_covers 10 _ (by decide +kernel) fun t hf y => ?_
  blk_simp
  rw [after0_10]
  have e0 := (at0 t).2.2.2.2.2.2.2.2.2.2
  have ht : t.val < 32 := t.isLt
  have hy : (y 1).val < 64 := (y 1).isLt
  refine (congrArg _ (ix3_eta (n0 := 4) (n1 := 64) (n2 := 128) y).symm).trans
    ((gate_blk m c R t (y 0) (y 1) (y 2) ⟨64 * (31 - t.val) + (y 1).val, by omega⟩ rfl).trans (congrArg _ ?_))
  blk_ext [e0]

/-- The projections' gradient. -/
theorem arr9 : (dats m 0 c).arrAt 9 cfg0.N
    = dProj (m (c, Proc.tc.devRef main_arg0)) (m (c, Proc.tc.devRef main_arg1)) (m (c, Proc.tc.devRef main_arg2))
        (m (c, Proc.tc.devRef main_arg3)) := by
  refine ((dats m 0 c).arrAt_eq_of_coversWhere 9 (dProj (m (c, Proc.tc.devRef main_arg0)) (m (c, Proc.tc.devRef main_arg1))
    (m (c, Proc.tc.devRef main_arg2)) (m (c, Proc.tc.devRef main_arg3))) (P := fun i => 3072 ≤ (i 1).val ∧ (i 1).val < 6144)
    (fun β => β 1 = 1) (by decide +kernel)
    (fun t hf y => ?_) (fun j => by blk_simp [Pipeline.Window.cell_apply]; omega)).trans ?_
  · blk_simp
    rw [after0_9]
    have e0 := (at0 t).2.2.2.2.2.2.2.2.2.1
    have ht : t.val < 32 := t.isLt
    have h1 : ((cfg0.win 9).xinj (cfg0.grid.coords t) y 0).val < 64 := ((cfg0.win 9).xinj (cfg0.grid.coords t) y 0).isLt
    have h2 : ((cfg0.win 9).xinj (cfg0.grid.coords t) y 1).val < 3072 := ((cfg0.win 9).xinj (cfg0.grid.coords t) y 1).isLt
    refine (congrArg _ (ix2_eta (n0 := 64) (n1 := 3072) ((cfg0.win 9).xinj (cfg0.grid.coords t) y)).symm).trans
      ((proj_blk m c R _ t _ _ ⟨64 * (31 - t.val) + ((cfg0.win 9).xinj (cfg0.grid.coords t) y 0).val, by omega⟩
        ⟨3072 + ((cfg0.win 9).xinj (cfg0.grid.coords t) y 1).val, by omega⟩ rfl rfl).trans (congrArg _ ?_))
    blk_ext [e0]
  · funext i
    split
    · rfl
    · rename_i h
      rw [A_eq]
      refine (congrFun (Prep.V_out m c) i).trans ?_
      unfold dProj
      by_cases h1 : (i 1).val < 3072
      · rw [if_pos h1]
      · rw [if_neg h1, if_neg (by omega), if_neg (by omega), if_neg (by omega)]

end Cert.KernelIdeal.Tiles

end
-- ==== Proof.RefReal.lean ====
/- The reference's vectors are the sums over the whole sequence. -/
module

public import proofs.«01_k».proof.Proof.PrepReal
public import proofs.«01_k».proof.Proof.Gen.ReferenceIdeal.Run

@[expose] public section

set_option maxRecDepth 16384

noncomputable section

namespace Cert.ReferenceIdeal.Sums

open Idealize.ShloMosaic Idealize.ShloMosaic.TcCoe Cert.ReferenceIdeal Cert.ReferenceIdeal.Gen Cert.ReferenceIdeal.Value Cert.Mlstm
open Cert.KernelIdeal.Head
open Cert.KernelIdeal.Prep (Reals sq p_at g_at select_lt select_le coe_ite coe_ite0 M_pos)

variable {V0 : Valuation τ sig (Elt Ideal)}
    (R : Reals (V0 (Proc.devRef .tc main_arg0)) (V0 (Proc.devRef .tc main_arg1)) (V0 (Proc.devRef .tc main_arg2)))

/-- The head's sequence in the arguments. -/
abbrev seq (V0 : Valuation τ sig (Elt Ideal)) (h : ℕ) : Sq :=
  sq (V0 (Proc.devRef .tc main_arg0)) (V0 (Proc.devRef .tc main_arg1)) (V0 (Proc.devRef .tc main_arg2)) h

include R

theorem sum_range (f : ℕ → ℝ) : ∑ x : Fin 2048, f x = ∑ s ∈ Finset.range 2048, f s := Fin.sum_univ_eq_sum_range f 2048

theorem q_at (h : Fin 4) (t : Fin 2048) (d : Fin 256) : res_main_v48 V0 (ix3 h t d) = (((seq V0 h).q t d : ℝ) : EReal) := by
  pointwise [res_main_v48]
  refine (congrArg (· * _) (p_at R (3072 + (256 * h + d)) (by dsimp only; omega) (by omega) (by omega))).trans ?_
  show _ * sc = _
  rw [sc_eq, ← EReal.coe_mul]; rfl
theorem k_at (h : Fin 4) (t : Fin 2048) (d : Fin 256) : res_main_v5 V0 (ix3 h t d) = (((seq V0 h).k t d : ℝ) : EReal) := by
  pointwise [res_main_v5]
  exact p_at R (4096 + (256 * h + d)) (by dsimp only; omega) (by omega) (by omega)
theorem v_at (h : Fin 4) (t : Fin 2048) (d : Fin 256) : res_main_v8 V0 (ix3 h t d) = (((seq V0 h).v t d : ℝ) : EReal) := by
  pointwise [res_main_v8]
  exact p_at R (5120 + (256 * h + d)) (by dsimp only; omega) (by omega) (by omega)
theorem o_at (h : Fin 4) (t : Fin 2048) (d : Fin 256) : res_main_v66 V0 (ix3 h t d) = (((seq V0 h).o t d : ℝ) : EReal) := by
  pointwise [res_main_v66]
  refine (R.o t _).trans ?_
  show ((Cert.KernelIdeal.Prep.rd _ t (h.val * 256 + d) : ℝ) : EReal) = _
  rw [Nat.mul_comm h.val]; rfl
theorem b_at (h : Fin 4) (c : Fin 32) (r : Fin 64) : res_main_v13 V0 (ix3 h c r) = (((seq V0 h).b (64 * c + r) : ℝ) : EReal) := by
  pointwise [res_main_v13]
  exact g_at R (64 * c + r) (4 + h) (by dsimp only; omega) rfl (by omega)
theorem B_at (h : Fin 4) (t : Fin 2048) : res_main_v29 V0 (ix2 h t) = (((seq V0 h).B t : ℝ) : EReal) := by
  pointwise [res_main_v29, res_main_v24_1, id]
  have e (x : Fin 32) : Scalar.select (α := EReal) (IntOp.cmpi .slt (BitVec.ofNat 32 x) (BitVec.ofNat 32 (t.val / 64))) (res_main_v13 V0 (ix3 h x 63) : EReal) (0 : EReal)
      = ((if x.val < t.val / 64 then (seq V0 h).b (64 * x + 63) else 0 : ℝ) : EReal) := by
    rw [select_lt (by omega) (by omega), b_at R, coe_ite0]; rfl
  refine (congrArg (fun y : EReal => (_ : EReal) + y)
    (Finset.sum_congr rfl fun x _ => e x)).trans ?_
  rw [← coe_sum,
    Fin.sum_univ_eq_sum_range (fun x => if x < t.val / 64 then (seq V0 h).b (64 * x + 63) else 0) 32, ← Finset.sum_filter,
    b_at R, ← EReal.coe_add, Sq.B, Sq.G, add_comm]
  dsimp only; rw [Nat.div_add_mod]
  congr 3; ext x; simp only [Finset.mem_filter, Finset.mem_range]; omega
theorem x_at (h : Fin 4) (t s : Fin 2048) : res_main_v45 V0 (ix3 h t s)
    = ((Real.exp ((seq V0 h).B t - (seq V0 h).B s + (seq V0 h).i s) : ℝ) : EReal) := by
  pointwise [res_main_v45]
  rw [B_at R, B_at R]
  refine (congrArg (fun x => Ideal.exp (_ + x)) (g_at R s h rfl rfl (by omega))).trans ?_
  rw [← EReal.coe_sub, ← EReal.coe_add, exp_coe]; rfl
theorem D_at (h : Fin 4) (t s : Fin 2048) : res_main_v46_0 V0 (ix3 h t s) = (((seq V0 h).D t s : ℝ) : EReal) := by
  pointwise [res_main_v46_0, res_main_v46_1, id]
  rw [select_le (by omega) (by omega), x_at R, coe_ite0]; rfl
theorem W_at (h : Fin 4) (t s : Fin 2048) : res_main_v49 V0 (ix3 h t s) = (((seq V0 h).W t s : ℝ) : EReal) := by
  pointwise [res_main_v49]
  simp only [q_at R, k_at R, ← EReal.coe_mul, ← coe_sum]; rfl
theorem S_at (h : Fin 4) (t s : Fin 2048) : res_main_v50 V0 (ix3 h t s) = (((seq V0 h).S t s : ℝ) : EReal) := by
  pointwise [res_main_v50]
  rw [W_at R, D_at R, ← EReal.coe_mul]; rfl
theorem den_at (h : Fin 4) (t : Fin 2048) : res_main_v51 V0 (ix2 h t) = (((seq V0 h).den t : ℝ) : EReal) := by
  pointwise [res_main_v51]
  simp only [S_at R, ← coe_sum]
  rw [sum_range R fun s => (seq V0 h).S t s]; rfl
theorem M_at (h : Fin 4) (t : Fin 2048) : res_main_v59 V0 (ix3 h t 0) = (((seq V0 h).M t : ℝ) : EReal) := by
  pointwise [res_main_v59, res_main_v57, res_main_v52, id]
  rw [den_at R, abs_coe, Sq.M, ← coe_ite]
  simp only [EReal.coe_one, ← EReal.coe_lt_coe_iff]
theorem num_at (h : Fin 4) (t : Fin 2048) (d : Fin 256) : res_main_v55 V0 (ix3 h t d) = (((seq V0 h).num t d : ℝ) : EReal) := by
  pointwise [res_main_v55]
  simp only [S_at R, v_at R, ← EReal.coe_mul, ← coe_sum]
  rw [sum_range R fun s => (seq V0 h).S t s * (seq V0 h).v s d]; rfl
theorem u_at (h : Fin 4) (t : Fin 2048) (d : Fin 256) : res_main_v74 V0 (ix3 h t d) = (((seq V0 h).u t d : ℝ) : EReal) := by
  pointwise [res_main_v74]
  rw [o_at R, M_at R, div_coe _ (M_pos _ _).ne']; rfl
theorem w0_at (h : Fin 4) (t : Fin 2048) : res_main_v76 V0 (ix2 h t) = ((if 1 < |(seq V0 h).den t| then
    (-∑ d, (seq V0 h).o t d * (seq V0 h).h t d) / (seq V0 h).M t else 0 : ℝ) : EReal) := by
  pointwise [res_main_v76, res_main_v57, res_main_v52]
  have hM := (M_pos (seq V0 h) t).ne'
  simp only [den_at R, abs_coe, o_at R, M_at R, num_at R, ← EReal.coe_one, ← EReal.coe_mul, div_coe _ (mul_ne_zero hM hM),
    ← coe_sum, ← EReal.coe_neg, EReal.coe_lt_coe_iff, Finset.sum_const, Finset.card_univ, Fintype.card_fin, one_smul]
  refine (coe_ite0 _ _).trans ?_
  congr 2
  rw [neg_div, Finset.sum_div]
  refine congrArg (fun y : ℝ => -y) (Finset.sum_congr rfl fun d _ => ?_)
  unfold Sq.h
  field_simp
theorem P_at (h : Fin 4) (t s : Fin 2048) : res_main_v86 V0 (ix3 h t s) = (((seq V0 h).P t s : ℝ) : EReal) := by
  pointwise [res_main_v86, res_main_v54, res_main_v80]
  simp only [u_at R, v_at R, den_at R, w0_at R, ← EReal.coe_mul, ← coe_sum]
  have hw : ((if (0 : EReal) ≤ (((seq V0 h).den t : ℝ) : EReal) then ((if 1 < |(seq V0 h).den t| then
        (-∑ d, (seq V0 h).o t d * (seq V0 h).h t d) / (seq V0 h).M t else 0 : ℝ) : EReal) else 0)
      + -if (0 : EReal) ≤ (((seq V0 h).den t : ℝ) : EReal) then 0 else ((if 1 < |(seq V0 h).den t| then
        (-∑ d, (seq V0 h).o t d * (seq V0 h).h t d) / (seq V0 h).M t else 0 : ℝ) : EReal)) = (((seq V0 h).w t : ℝ) : EReal) := by
    unfold Sq.w
    by_cases hd : 0 ≤ (seq V0 h).den t
    · have hd' : (0 : EReal) ≤ (((seq V0 h).den t : ℝ) : EReal) := EReal.coe_nonneg.2 hd
      rw [if_pos hd', if_pos hd', if_neg (not_lt.2 hd)]; simp
    · have hd' : ¬(0 : EReal) ≤ (((seq V0 h).den t : ℝ) : EReal) := fun h => hd (EReal.coe_nonneg.1 h)
      rw [if_neg hd', if_neg hd', if_pos (not_le.1 hd), zero_add, ← EReal.coe_neg]
      congr 1; split <;> ring
  rw [hw, ← EReal.coe_add]; rfl
theorem gd_at (h : Fin 4) (t s : Fin 2048) : res_main_v88 V0 (ix3 h t s) = (((seq V0 h).gd t s : ℝ) : EReal) := by
  pointwise [res_main_v88]
  rw [P_at R, D_at R, ← EReal.coe_mul]; rfl
theorem E_at (h : Fin 4) (t s : Fin 2048) : res_main_v94 V0 (ix3 h t s) = (((seq V0 h).E t s : ℝ) : EReal) := by
  pointwise [res_main_v94, res_main_v46_1]
  rw [select_le (by omega) (by omega), W_at R, P_at R, x_at R, ← EReal.coe_mul, ← EReal.coe_mul, coe_ite0, Sq.E, Sq.gd, Sq.D]
  congr 1; split <;> ring
theorem dB_at (h : Fin 4) (c : Fin 32) (r : Fin 64) : res_main_v106 V0 (ix3 h c r) = (((seq V0 h).dB (64 * c + r) : ℝ) : EReal) := by
  pointwise [res_main_v106]
  simp only [E_at R, ← EReal.coe_neg, ← coe_sum, ← EReal.coe_add, Finset.sum_const, Finset.card_univ, Fintype.card_fin, one_smul]
  rw [sum_range R fun s => (seq V0 h).E (c * 64 + r) s, sum_range R fun t => -(seq V0 h).E t (c * 64 + r), Finset.sum_neg_distrib,
    Sq.dB, Nat.mul_comm c.val]
  congr 1; ring

end Cert.ReferenceIdeal.Sums

end
-- ==== Proof.RefOut.lean ====
/- The reference's results. -/
module

public import proofs.«01_k».proof.Proof.Target
public import proofs.«01_k».proof.Proof.RefReal

@[expose] public section

set_option maxRecDepth 16384

noncomputable section

namespace Cert.ReferenceIdeal.Sums

open Idealize.ShloMosaic Idealize.ShloMosaic.TcCoe Cert.ReferenceIdeal Cert.ReferenceIdeal.Gen Cert.ReferenceIdeal.Value Cert.Mlstm
open Cert.KernelIdeal.Head Cert.Target
open Cert.KernelIdeal.Prep (Reals sq p_at g_at select_lt select_le coe_ite coe_ite0 M_pos)

variable {V0 : Valuation τ sig (Elt Ideal)}
    (R : Reals (V0 (Proc.devRef .tc main_arg0)) (V0 (Proc.devRef .tc main_arg1)) (V0 (Proc.devRef .tc main_arg2)))

/-- A sum over the later chunks is a sum over their positions. -/
theorem sum_later (f : ℕ → ℝ) (c : ℕ) : ∑ x : Fin 32, (if c < x.val then ∑ r : Fin 64, f (64 * x.val + r) else 0)
    = ∑ τ ∈ Finset.Ico (64 * (c + 1)) 2048, f τ := by
  have ind (n : ℕ) (hn : n ≤ 32) : ∑ x ∈ Finset.Ico (32 - n) 32, ∑ r : Fin 64, f (64 * x + r)
      = ∑ τ ∈ Finset.Ico (64 * (32 - n)) 2048, f τ := by
    induction n with
    | zero => simp
    | succ n ih =>
      have e : 32 - (n + 1) + 1 = 32 - n := by omega
      rw [Sq.carry_cut (c := 32 - (n + 1)) (by omega) f, Finset.sum_eq_sum_Ico_succ_bot (by omega), e, ih (by omega), add_comm]
  rw [Fin.sum_univ_eq_sum_range (fun x => if c < x then ∑ r : Fin 64, f (64 * x + r) else 0) 32, ← Finset.sum_filter]
  have e : (Finset.range 32).filter (fun x => c < x) = Finset.Ico (c + 1) 32 := by
    ext x; simp only [Finset.mem_filter, Finset.mem_range, Finset.mem_Ico]; omega
  rw [e]
  by_cases hc : c + 1 ≤ 32
  · have := ind (32 - (c + 1)) (by omega)
    rwa [show 32 - (32 - (c + 1)) = c + 1 by omega] at this
  · rw [Finset.Ico_eq_empty (by omega), Finset.Ico_eq_empty (by omega)]; rfl

include R

theorem dq_at (h : Fin 4) (t : Fin 2048) (d : Fin 256) :
    (∑ x : Fin 2048, HMul.hMul (α := EReal) (β := EReal) (γ := EReal) (res_main_v88 V0 (ix3 h t x)) (res_main_v5 V0 (ix3 h x d))) = (((seq V0 h).dq t d : ℝ) : EReal) := by
  simp only [gd_at R, k_at R, ← EReal.coe_mul, ← coe_sum]
  rw [sum_range R fun s => (seq V0 h).gd t s * (seq V0 h).k s d]; rfl
theorem dk_at (h : Fin 4) (s : Fin 2048) (d : Fin 256) :
    (∑ x : Fin 2048, HMul.hMul (α := EReal) (β := EReal) (γ := EReal) (res_main_v88 V0 (ix3 h x s)) (res_main_v48 V0 (ix3 h x d))) = (((seq V0 h).dk s d : ℝ) : EReal) := by
  simp only [gd_at R, q_at R, ← EReal.coe_mul, ← coe_sum]
  rw [sum_range R fun t => (seq V0 h).gd t s * (seq V0 h).q t d]; rfl
theorem dv_at (h : Fin 4) (s : Fin 2048) (d : Fin 256) :
    (∑ x : Fin 2048, HMul.hMul (α := EReal) (β := EReal) (γ := EReal) (res_main_v74 V0 (ix3 h x d)) (res_main_v50 V0 (ix3 h x s))) = (((seq V0 h).dv s d : ℝ) : EReal) := by
  simp only [u_at R, S_at R, ← EReal.coe_mul, ← coe_sum]
  rw [sum_range R fun t => (seq V0 h).u t d * (seq V0 h).S t s, Sq.dv]
  exact congrArg _ (Finset.sum_congr rfl fun x _ => mul_comm _ _)

set_option maxRecDepth 100000 in
theorem d_proj : val3 V0 (Proc.devRef .tc main_v128)
    = dProj (V0 (Proc.devRef .tc main_arg0)) (V0 (Proc.devRef .tc main_arg1)) (V0 (Proc.devRef .tc main_arg2)) (V0 (Proc.devRef .tc main_arg3)) := by
  rw [val3_main_v128]
  funext y
  obtain ⟨t, j, rfl⟩ : ∃ (t : Fin 2048) (j : Fin 7296), y = ix2 t j := ⟨y 0, y 1, (ix2_eta y).symm⟩
  pointwise
  simp only [dq_at R, dk_at R, dv_at R]
  unfold dProj
  show _ = if j.val < 3072 then _ else if j.val < 4096 then _ else if j.val < 5120 then _ else if j.val < 6144 then _ else _
  by_cases h1 : j.val < 3072
  · rw [dif_pos h1, if_pos h1]
  by_cases h2 : j.val < 4096
  · rw [dif_neg h1, dif_pos (by omega), if_neg h1, if_pos h2]
    have e1 : head j = (j.val - 3072) / 256 := by unfold head; omega
    have e2 : place j = ⟨(j.val - 3072) % 256, by omega⟩ := rfl
    show _ = (((sq _ _ _ (head j)).dq t (place j) : ℝ) : EReal) * sc
    rw [e1, e2]
  by_cases h3 : j.val < 5120
  · rw [dif_neg h1, dif_neg (by omega), dif_pos (by omega), if_neg h1, if_neg h2, if_pos h3]
    have e1 : head j = (j.val - 3072 - 1024) / 256 := by unfold head; omega
    have e2 : place j = ⟨(j.val - 3072 - 1024) % 256, by omega⟩ := Fin.ext (by unfold place; dsimp only; omega)
    show _ = (((sq _ _ _ (head j)).dk t (place j) : ℝ) : EReal)
    rw [e1, e2]
  by_cases h4 : j.val < 6144
  · rw [dif_neg h1, dif_neg (by omega), dif_neg (by omega), dif_pos (by omega), if_neg h1, if_neg h2, if_neg h3, if_pos h4]
    have e1 : head j = (j.val - 3072 - 1024 - 1024) / 256 := by unfold head; omega
    have e2 : place j = ⟨(j.val - 3072 - 1024 - 1024) % 256, by omega⟩ := Fin.ext (by unfold place; dsimp only; omega)
    show _ = (((sq _ _ _ (head j)).dv t (place j) : ℝ) : EReal)
    rw [e1, e2]
  · rw [dif_neg h1, dif_neg (by omega), dif_neg (by omega), dif_neg (by omega)]
    refine Eq.trans ?_ ((if_neg h1).trans ((if_neg h2).trans ((if_neg h3).trans (if_neg h4)))).symm
    have e (n : ℕ) (hn : n < 7296) (h : n = j.val) : (⟨n, hn⟩ : Fin 7296) = j := Fin.ext h
    rw [e _ _ (by omega)]

theorem d_gate : val3 V0 (Proc.devRef .tc main_v132)
    = dGate (V0 (Proc.devRef .tc main_arg0)) (V0 (Proc.devRef .tc main_arg1)) (V0 (Proc.devRef .tc main_arg2)) := by
  rw [val3_main_v132]
  funext y
  obtain ⟨h, t, l, rfl⟩ : ∃ (h : Fin 4) (t : Fin 2048) (l : Fin 128), y = ix3 h t l := ⟨y 0, y 1, y 2, (ix3_eta y).symm⟩
  pointwise [res_main_v24_1]
  simp only [E_at R, dB_at R, ← coe_sum, Finset.sum_const, Finset.card_univ, Fintype.card_fin, one_smul]
  unfold dGate
  show _ = if l.val = 0 then (((sq _ _ _ h).di t : ℝ) : EReal) else if l.val = 1 then (((sq _ _ _ h).db t : ℝ) : EReal) else 0
  by_cases h0 : l.val = 0
  · rw [dif_pos (by omega), if_pos h0, Sq.di, ← sum_range R fun s => _]
  by_cases h1 : l.val = 1
  · rw [dif_neg (by omega), dif_pos (by omega), if_neg h0, if_pos h1, Sq.db]
    have ht : 64 * (t.val / 64) + t.val % 64 = t.val := by omega
    have e (x : Fin 32) : Scalar.select (α := EReal) (IntOp.cmpi .slt (BitVec.ofNat 32 (t.val / 64)) (BitVec.ofNat 32 x))
        (((∑ r : Fin 64, (seq V0 h).dB (64 * x.val + r) : ℝ)) : EReal) 0
        = ((if t.val / 64 < x.val then ∑ r : Fin 64, (seq V0 h).dB (64 * x.val + r) else 0 : ℝ) : EReal) := by
      rw [select_lt (by omega) (by omega), coe_ite0]
    by_cases hm : t.val % 64 = 63
    · rw [dif_pos (by omega), if_pos hm]
      refine (congrArg (fun y : EReal => (_ : EReal) + y) (Finset.sum_congr rfl fun x _ => e x)).trans ?_
      rw [← coe_sum, sum_later (fun τ => (seq V0 h).dB τ), ← EReal.coe_add, ht]
    · rw [dif_neg (by omega), if_neg hm, add_zero, add_zero, ht]
  · rw [dif_neg (by omega), dif_neg (by omega), if_neg h0, if_neg h1]

end Cert.ReferenceIdeal.Sums

end
-- ==== Proof.Finite.lean ====
/- The precondition: the entries that are read are real. -/
module

public import proofs.«01_k».proof.Defs
public import proofs.«01_k».proof.Proof.Gen.Pre_finite
public import proofs.«01_k».proof.Proof.Gen.KernelIdeal
public import proofs.«01_k».proof.Proof.PrepReal
public import Idealize.ShloMosaic.Lib.ReduceAll

@[expose] public section

set_option maxRecDepth 16384

noncomputable section

namespace Cert.Finite

open Idealize.ShloMosaic Idealize.ShloMosaic.TcCoe Cert.KernelIdeal Cert.KernelIdeal.Prep

/-- An entry smaller than infinity is real. -/
theorem real_of {n k : ℕ} {a : (⟨2, ![n, k]⟩ : Shape).Idx → EReal} (i : Fin n) (j : Fin k)
    (h : max (a (ix2 i j)) (-a (ix2 i j)) < ⊤) : a (ix2 i j) = ((rd a i j : ℝ) : EReal) := by
  unfold rd
  rw [dif_pos ⟨i.isLt, j.isLt⟩]
  refine (EReal.coe_toReal ?_ ?_).symm
  · rintro e; rw [e] at h; simp at h
  · rintro e; rw [e] at h; simp at h

/-- A conjunction over a set holds at each of its members. -/
theorem fold_one {α : Type} [Std.Commutative (IntOp.andi (w := 1))] [Std.Associative (IntOp.andi (w := 1))] (f : α → BitVec 1) (s : Finset α)
    (h : s.fold IntOp.andi 1#1 f = 1#1) : ∀ x ∈ s, f x = 1#1 := by
  classical
  induction s using Finset.induction_on with
  | empty => simp
  | insert a s ha ih =>
    rw [Finset.fold_insert ha, IntOp.andi_eq_one] at h
    intro x hx
    rcases Finset.mem_insert.1 hx with rfl | hx
    · exact h.1
    · exact ih h.2 x hx
theorem fold_univ {α : Type} {_ : Fintype α} [Std.Commutative (IntOp.andi (w := 1))] [Std.Associative (IntOp.andi (w := 1))] (f : α → BitVec 1)
    (h : Finset.univ.fold IntOp.andi 1#1 f = 1#1) (x : α) : f x = 1#1 := fold_one f _ h x (Finset.mem_univ x)
/-- The word of infinity. -/
theorem inf_eq : Ideal.ofBits FTy.f32 2139095040#32 = ⊤ := by rfl
theorem lt_of {a b : EReal} (h : BitVec.ofBool (decide (a < b)) = 1#1) : a < b := by
  by_contra hn; rw [decide_eq_false hn] at h; exact absurd h (by decide)

theorem reals {a0 : FVec Ideal S2048x7296 .f32} {a1 : FVec Ideal S2048x128 .f32} {a2 : FVec Ideal S2048x1024 .f32}
    {a3 : FVec Ideal S2048x7296 .bf16} (h : Cert.Pre_finite.fn (F := Ideal) a0 a1 a2 a3 = fun _ => 1#1) : Reals a0 a1 a2 := by
  have h0 := congrFun h ix0
  dsimp only [Cert.Pre_finite.fn] at h0
  pointwise at h0
  rw [IntOp.andi_eq_one, IntOp.andi_eq_one] at h0
  obtain ⟨⟨hp, hg⟩, ho⟩ := h0
  refine ⟨fun t j h1 h2 => real_of t j ?_, fun t j hj => real_of t j ?_, fun t j => real_of t j ?_⟩
  · have := lt_of (fold_univ _ hp (t, ⟨j.val - 3072, by omega⟩))
    rw [inf_eq] at this
    have e : (⟨3072 + (j.val - 3072), by omega⟩ : Fin 7296) = j := Fin.ext (by dsimp only; omega)
    rw [e] at this
    exact this
  · have := lt_of (fold_univ _ hg (t, ⟨j.val, hj⟩))
    rw [inf_eq] at this
    exact this
  · have := lt_of (fold_univ _ ho (t, j))
    rw [inf_eq] at this
    exact this

end Cert.Finite

end
-- ==== Proof.UpDw.lean ====
/- The gradient of the FFN's upper weight: x1ᵀ times the gradient of the hidden units. -/
module

public import proofs.«01_k».proof.Proof.Gen.UpDwIdeal.Value
public import proofs.«01_k».proof.Proof.Gen.UpDwRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.UpDwIdeal.Sums

open Idealize.ShloMosaic Idealize.ShloMosaic.TcCoe Cert.UpDwIdeal Cert.UpDwIdeal.Gen
open Idealize.ShloMosaic.Pipeline

/-- Column `j` of block `b` of the weight's gradient is column `1408 b + j` of the hidden units, the values first. -/
def grad (x : FVec Ideal S2048x2048 .bf16) (dv dg : FVec Ideal S2048x5632 .bf16) : FVec Ideal S8x2048x1408 .bf16 := fun i =>
  ∑ k : Fin 2048, x (ix2 k (i 1)) *
    if h : 1408 * (i 0).val + (i 2).val < 5632 then dv (ix2 k ⟨1408 * (i 0).val + (i 2).val, h⟩)
    else dg (ix2 k ⟨1408 * (i 0).val + (i 2).val - 5632, by have := (i 0).isLt; have := (i 2).isLt; dsimp at *; omega⟩)

variable (m : (ℓ : Loc nD τ sig) → Buf (Elt Ideal) ℓ) (c : Dev nD)

/-- Where each window's block lies. -/
theorem at0 : ∀ t : Fin cfg0.N, win0_0.index t = ![0, t.val / 8]
    ∧ (t.val % 8 ≤ 3 → win0_1.index t = ![0, t.val % 8]) ∧ (4 ≤ t.val % 8 → win0_2.index t = ![0, t.val % 8 - 4])
    ∧ win0_3.index t = ![t.val % 8, t.val / 8, 0] :=
  (by decide +kernel : ∀ t : Fin grid0.N, _)

/-- What a point multiplies: columns of its two blocks. -/
def cols (a : S2048x1024.Idx → EReal) (b : S2048x1408.Idx → EReal) (y : S1x1024x1408.Idx) : EReal :=
  ∑ k : Fin 2048, a (ix2 k (y 1)) * b (ix2 k (y 2))

theorem blk_A (t : Fin cfg0.N) (h0 : t.val % 8 ≤ 3) (y : S1x1024x1408.Idx) :
    outsAt0 m c t.val t.isLt y = cols (iblk m c 0 t) (iblk m c 1 t) y := by
  rw [outsAt0_A m c t h0 (by omega)]
  frame_open
  frame_out
  pointwise [k0_pay1]
  rfl

theorem blk_B (t : Fin cfg0.N) (h0 : 4 ≤ t.val % 8) (y : S1x1024x1408.Idx) :
    outsAt0 m c t.val t.isLt y = cols (iblk m c 0 t) (iblk m c 2 t) y := by
  rw [outsAt0_B m c t (by omega) h0]
  frame_open
  frame_out
  pointwise [k0_pay2]
  rfl

theorem x0_at (t : Fin cfg0.N) (k : Fin 2048) (r : Fin 1024) (s : Fin 2048) (hs : s.val = 1024 * (t.val / 8) + r.val) :
    iblk m c 0 t (ix2 k r) = m (c, Proc.tc.devRef main_arg0) (ix2 k s) := by
  have e0 := (at0 t).1
  unfold iblk; blk_simp; rw [V_main_arg0]; blk_ext [e0]
theorem x1_at (t : Fin cfg0.N) (h : t.val % 8 ≤ 3) (k : Fin 2048) (r : Fin 1408) (s : Fin 5632) (hs : s.val = 1408 * (t.val % 8) + r.val) :
    iblk m c 1 t (ix2 k r) = m (c, Proc.tc.devRef main_arg1) (ix2 k s) := by
  have e0 := (at0 t).2.1 h
  unfold iblk; blk_simp; rw [V_main_arg1]; blk_ext [e0]
theorem x2_at (t : Fin cfg0.N) (h : 4 ≤ t.val % 8) (k : Fin 2048) (r : Fin 1408) (s : Fin 5632) (hs : s.val = 1408 * (t.val % 8 - 4) + r.val) :
    iblk m c 2 t (ix2 k r) = m (c, Proc.tc.devRef main_arg2) (ix2 k s) := by
  have e0 := (at0 t).2.2.1 h
  unfold iblk; blk_simp; rw [V_main_arg2]; blk_ext [e0]

/-- What a point leaves at an element of its block. -/
theorem point (t : Fin cfg0.N) (y : S1x1024x1408.Idx) (i : S8x2048x1408.Idx) (hb : (i 0).val = t.val % 8)
    (hr : (i 1).val = 1024 * (t.val / 8) + (y 1).val) (hj : (i 2).val = (y 2).val) :
    outsAt0 m c t.val t.isLt y
      = grad (m (c, Proc.tc.devRef main_arg0)) (m (c, Proc.tc.devRef main_arg1)) (m (c, Proc.tc.devRef main_arg2)) i := by
  have ht : t.val < 16 := t.isLt
  have hy : (y 2).val < 1408 := (y 2).isLt
  by_cases h : t.val % 8 ≤ 3
  · rw [blk_A m c t h]
    refine Finset.sum_congr rfl fun k _ => ?_
    rw [dif_pos (by omega)]
    exact congr (congrArg _ (x0_at m c t k _ _ hr)) (x1_at m c t h k _ _ (by dsimp only; omega))
  · rw [blk_B m c t (by omega)]
    refine Finset.sum_congr rfl fun k _ => ?_
    rw [dif_neg (by omega)]
    exact congr (congrArg _ (x0_at m c t k _ _ hr)) (x2_at m c t (by omega) k _ _ (by dsimp only; omega))

/-- The array that the kernel leaves. -/
theorem arr : (dats m 0 c).arrAt 3 cfg0.N
    = grad (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after0_3]
  have e3 := (at0 t).2.2.2
  refine point m c t _ _ ?_ ?_ ?_ <;> blk_simp [e3] <;> simp <;> omega

end Cert.UpDwIdeal.Sums

namespace Cert.UpDwRefIdeal.Sums

open Idealize.ShloMosaic Cert.UpDwRefIdeal Cert.UpDwRefIdeal.Gen

/-- What the reference computes. -/
theorem ref (x : FVec Ideal S2048x2048 .bf16) (dv dg : FVec Ideal S2048x5632 .bf16) : truncf .bf16 (transpose S8x2048x1408 [1, 0, 2] (shapeCast _ (transpose S2048x11264 [1, 0] (Host.dotGeneral dot_S2048x11264_S2048x2048_S11264x2048_0_0_1_1_n_n none (extf .f32 (concatenate S2048x11264 1 [⟨S2048x5632, dv⟩, ⟨S2048x5632, dg⟩] concatenates_S2048x5632_S2048x5632_S2048x11264_d1) bitsLt_bf16_f32) (extf .f32 x bitsLt_bf16_f32)) transposes_S11264x2048_S2048x11264_1_0) shapeCasts_S2048x11264_S2048x8x1408) transposes_S2048x8x1408_S8x2048x1408_1_0_2) bitsLt_bf16_f32
    = Cert.UpDwIdeal.Sums.grad x dv dg := by
  funext i
  unfold Cert.UpDwIdeal.Sums.grad
  idx_vars i
  pointwise
  refine Finset.sum_congr rfl fun k _ => ?_
  rw [mul_comm]
  simp only [Nat.mul_comm 1408]

end Cert.UpDwRefIdeal.Sums

end
-- ==== Proof.UpDx.lean ====
/- The gradient of x1 through the FFN's upper weight: the gradient of the hidden units times the weight's transpose. -/
module

public import proofs.«01_k».proof.Proof.Gen.UpDxIdeal.Value
public import proofs.«01_k».proof.Proof.Gen.UpDxRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.UpDxIdeal.Sums

open Idealize.ShloMosaic Idealize.ShloMosaic.TcCoe Cert.UpDxIdeal Cert.UpDxIdeal.Gen
open Idealize.ShloMosaic.Pipeline

/-- Hidden unit `l` of row `r`, the values first. -/
def hidden (dv dg : FVec Ideal S2048x5632 .bf16) (r : Fin 2048) (l : Fin 11264) : EReal :=
  if h : l.val < 5632 then dv (ix2 r ⟨l.val, h⟩) else dg (ix2 r ⟨l.val - 5632, by omega⟩)

/-- One product of the sum. -/
def one (dv dg : FVec Ideal S2048x5632 .bf16) (w : FVec Ideal S8x2048x1408 .bf16) (r s : Fin 2048) (l : Fin 11264) : EReal :=
  hidden dv dg r l * w (ix3 ⟨l.val / 1408, by omega⟩ s ⟨l.val % 1408, by omega⟩)

/-- Hidden unit `1408 b + j` meets column `j` of the weight's block `b`. -/
def grad (dv dg : FVec Ideal S2048x5632 .bf16) (w : FVec Ideal S8x2048x1408 .bf16) : FVec Ideal S2048x2048 .f32 := fun i =>
  ∑ l : Fin 11264, one dv dg w (i 0) (i 1) l

variable (m : (ℓ : Loc nD τ sig) → Buf (Elt Ideal) ℓ) (c : Dev nD)

/-- Where each window's block lies. -/
theorem at0 : ∀ t : Fin cfg0.N, (t.val % 8 ≤ 3 → win0_0.index t = ![t.val / 16, t.val % 8])
    ∧ (4 ≤ t.val % 8 → win0_1.index t = ![t.val / 16, t.val % 8 - 4])
    ∧ win0_2.index t = ![t.val % 8, t.val / 8 % 2, 0] ∧ win0_3.index t = ![t.val / 16, t.val / 8 % 2] :=
  (by decide +kernel : ∀ t : Fin grid0.N, _)

/-- What a point multiplies: rows of its two blocks. -/
def rows (a : S1024x1408.Idx → EReal) (b : S1x1024x1408.Idx → EReal) (y : S1024x1024.Idx) : EReal :=
  ∑ k : Fin 1408, a (ix2 (y 0) k) * b (ix3 0 (y 1) k)

/-- What a point adds. -/
def part (t : Fin cfg0.N) (y : S1024x1024.Idx) : EReal :=
  if t.val % 8 ≤ 3 then rows (iblk m c 0 t) (iblk m c 2 t) y else rows (iblk m c 1 t) (iblk m c 2 t) y

theorem reset (t : Fin cfg0.N) (h : t.val % 8 = 0) (y : S1024x1024.Idx) :
    outsAt0 m c t.val t.isLt y = 0 + part m c t y := by
  rw [outsAt0_A m c t (by omega) h (by omega) (by omega), part, if_pos (by omega), zero_add]
  frame_open
  frame_out
  pointwise [k0_pay1]
  rfl

theorem step (t : Fin cfg0.N) (h : ¬t.val % 8 = 0) (y : S1024x1024.Idx) :
    outsAt0 m c t.val t.isLt y
      = outsAt0 m c (t.val - 1) (Nat.lt_of_le_of_lt (Nat.sub_le _ _) t.isLt) y + part m c t y := by
  by_cases h3 : t.val % 8 ≤ 3
  · rw [outsAt0_B m c t h3 h (by omega) (by omega), part, if_pos h3]
    frame_open
    frame_out
    pointwise [k0_pay2]
    rfl
  · rw [outsAt0_C m c t h3 (by omega) h (by omega), part, if_neg h3]
    frame_open
    frame_out
    pointwise [k0_pay4]
    rfl

theorem x0_at (t : Fin cfg0.N) (h : t.val % 8 ≤ 3) (r : Fin 1024) (k : Fin 1408) (s : Fin 2048) (l : Fin 5632)
    (hs : s.val = 1024 * (t.val / 16) + r.val) (hl : l.val = 1408 * (t.val % 8) + k.val) :
    iblk m c 0 t (ix2 r k) = m (c, Proc.tc.devRef main_arg0) (ix2 s l) := by
  have e0 := (at0 t).1 h
  unfold iblk; blk_simp; rw [V_main_arg0]; blk_ext [e0]

theorem x1_at (t : Fin cfg0.N) (h : 4 ≤ t.val % 8) (r : Fin 1024) (k : Fin 1408) (s : Fin 2048) (l : Fin 5632)
    (hs : s.val = 1024 * (t.val / 16) + r.val) (hl : l.val = 1408 * (t.val % 8 - 4) + k.val) :
    iblk m c 1 t (ix2 r k) = m (c, Proc.tc.devRef main_arg1) (ix2 s l) := by
  have e0 := (at0 t).2.1 h
  unfold iblk; blk_simp; rw [V_main_arg1]; blk_ext [e0]

theorem x2_at (t : Fin cfg0.N) (r : Fin 1024) (k : Fin 1408) (b : Fin 8) (s : Fin 2048) (l : Fin 1408)
    (hb : b.val = t.val % 8) (hs : s.val = 1024 * (t.val / 8 % 2) + r.val) (hl : l.val = k.val) :
    iblk m c 2 t (ix3 0 r k) = m (c, Proc.tc.devRef main_arg2) (ix3 b s l) := by
  have e0 := (at0 t).2.2.1
  unfold iblk; blk_simp; rw [V_main_arg2]; blk_ext [e0]

/-- What a point adds, from the arguments. -/
theorem part_eq (t : Fin cfg0.N) (y : S1024x1024.Idx) (i : S2048x2048.Idx) (hr : (i 0).val = 1024 * (t.val / 16) + (y 0).val)
    (hs : (i 1).val = 1024 * (t.val / 8 % 2) + (y 1).val) :
    part m c t y = ∑ k : Fin 1408, one (m (c, Proc.tc.devRef main_arg0)) (m (c, Proc.tc.devRef main_arg1))
      (m (c, Proc.tc.devRef main_arg2)) (i 0) (i 1) ⟨t.val % 8 * 1408 + k.val, by have := Nat.mod_lt t.val (by decide : 8 > 0); omega⟩ := by
  unfold part
  split
  · rename_i h
    refine Finset.sum_congr rfl fun k _ => ?_
    unfold one hidden
    rw [dif_pos (by dsimp only; omega)]
    exact congr (congrArg _ (x0_at m c t h _ _ _ _ hr (by dsimp only; omega)))
      (x2_at m c t _ _ _ _ _ (by dsimp only; omega) hs (by dsimp only; omega))
  · rename_i h
    refine Finset.sum_congr rfl fun k _ => ?_
    unfold one hidden
    rw [dif_neg (by dsimp only; omega)]
    exact congr (congrArg _ (x1_at m c t (by omega) _ _ _ _ hr (by dsimp only; omega)))
      (x2_at m c t _ _ _ _ _ (by dsimp only; omega) hs (by dsimp only; omega))

/-- What the last point of a run leaves. -/
theorem point (t : Fin cfg0.N) (hf : t.val % 8 = 8 - 1) (y : S1024x1024.Idx) (i : S2048x2048.Idx)
    (hr : (i 0).val = 1024 * (t.val / 16) + (y 0).val) (hs : (i 1).val = 1024 * (t.val / 8 % 2) + (y 1).val) :
    outsAt0 m c t.val t.isLt y = grad (m (c, Proc.tc.devRef main_arg0)) (m (c, Proc.tc.devRef main_arg1))
      (m (c, Proc.tc.devRef main_arg2)) i := by
  rw [Pipeline.eq_sum_fin_of_reset_step_apply_of_flush (fun n h => outsAt0 m c n h) 8 (fun _ => (0 : EReal)) (part m c)
    (reset m c) (step m c) t hf y, zero_add]
  refine Eq.trans ?_ (Fin.sum_mul_add_fin 8 1408 (one (m (c, Proc.tc.devRef main_arg0)) (m (c, Proc.tc.devRef main_arg1))
      (m (c, Proc.tc.devRef main_arg2)) (i 0) (i 1)))
  refine Finset.sum_congr rfl fun s _ => ?_
  rw [part_eq m c _ y i (by dsimp only; omega) (by dsimp only; omega)]
  refine Finset.sum_congr rfl fun k _ => ?_
  congr 1
  apply Fin.ext
  dsimp only
  omega

/-- The array that the kernel leaves. -/
theorem arr : (dats m 0 c).arrAt 3 cfg0.N
    = grad (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after0_3]
  have e3 := (at0 t).2.2.2
  refine point m c t ((flush0_3 t).mp hf) _ _ ?_ ?_ <;> blk_simp [e3] <;> simp <;> omega

end Cert.UpDxIdeal.Sums

namespace Cert.UpDxRefIdeal.Sums

open Idealize.ShloMosaic Cert.UpDxRefIdeal Cert.UpDxRefIdeal.Gen

/-- What the reference computes. -/
theorem ref (dv dg : FVec Ideal S2048x5632 .bf16) (w : FVec Ideal S8x2048x1408 .bf16) : Host.dotGeneral dot_S2048x11264_S2048x11264_S2048x2048_1_1_0_0_n_n none (extf .f32 (concatenate S2048x11264 1 [⟨S2048x5632, dv⟩, ⟨S2048x5632, dg⟩] concatenates_S2048x5632_S2048x5632_S2048x11264_d1) bitsLt_bf16_f32) (extf .f32 (shapeCast _ (transpose S2048x8x1408 [1, 0, 2] w transposes_S8x2048x1408_S2048x8x1408_1_0_2) shapeCasts_S2048x8x1408_S2048x11264) bitsLt_bf16_f32)
    = Cert.UpDxIdeal.Sums.grad dv dg w := by
  funext i
  unfold Cert.UpDxIdeal.Sums.grad Cert.UpDxIdeal.Sums.one Cert.UpDxIdeal.Sums.hidden
  idx_vars i
  pointwise

end Cert.UpDxRefIdeal.Sums

end
-- ==== Proof.DownDw.lean ====
/- The gradient of the FFN's lower weight. -/
module

public import proofs.«01_k».proof.Proof.Gen.DownDwIdeal.Value
public import proofs.«01_k».proof.Proof.Gen.DownDwRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.DownDwIdeal.Sums

open Idealize.ShloMosaic Idealize.ShloMosaic.TcCoe Cert.DownDwIdeal Cert.DownDwIdeal.Gen
open Idealize.ShloMosaic.Pipeline

/-- The sum that every element is. -/
def grad (a : FVec Ideal S2048x5632 .bf16) (d : FVec Ideal S2048x2048 .bf16) : FVec Ideal S5632x2048 .bf16 :=
  fun i => ∑ k : Fin 2048, a (ix2 k (i 0)) * d (ix2 k (i 1))

variable (m : (ℓ : Loc nD τ sig) → Buf (Elt Ideal) ℓ) (c : Dev nD)

/-- Where each window's block lies. -/
theorem at0 : ∀ t : Fin cfg0.N, win0_0.index t = ![0, t.val / 2] ∧ win0_1.index t = ![0, t.val % 2]
    ∧ win0_2.index t = ![t.val / 2, t.val % 2] :=
  (by decide +kernel : ∀ t : Fin grid0.N, _)

/-- What a point computes of its two blocks. -/
def prods (a : S2048x1408.Idx → EReal) (b : S2048x1024.Idx → EReal) (y : S1408x1024.Idx) : EReal :=
  ∑ k : Fin 2048, a (ix2 k (y 0)) * b (ix2 k (y 1))

theorem blk (a : FVec Ideal S2048x1408 .bf16) (b : FVec Ideal S2048x1024 .bf16) (y : S1408x1024.Idx) : out0_2 (F := Ideal) a b y = prods a b y := by
  unfold out0_2 prods
  frame_out
  idx_vars y
  pointwise [k0_pay1]

theorem x0_at (t : Fin cfg0.N) (k : Fin 2048) (y : S1408x1024.Idx) (i : S5632x2048.Idx) (hr : (i 0).val = 1408 * (t.val / 2) + (y 0).val)
    (hj : (i 1).val = 1024 * (t.val % 2) + (y 1).val) :
    iblk m c 0 t (ix2 k (y 0)) = m (c, Proc.tc.devRef main_arg0) (ix2 k (i 0)) := by
  have e0 := (at0 t).1
  have hy0 := (y 0).isLt
  have hy1 := (y 1).isLt
  dsimp at hy0 hy1
  unfold iblk; blk_simp; rw [V_main_arg0]; blk_ext [e0]

theorem x1_at (t : Fin cfg0.N) (k : Fin 2048) (y : S1408x1024.Idx) (i : S5632x2048.Idx) (hr : (i 0).val = 1408 * (t.val / 2) + (y 0).val)
    (hj : (i 1).val = 1024 * (t.val % 2) + (y 1).val) :
    iblk m c 1 t (ix2 k (y 1)) = m (c, Proc.tc.devRef main_arg1) (ix2 k (i 1)) := by
  have e0 := (at0 t).2.1
  have hy0 := (y 0).isLt
  have hy1 := (y 1).isLt
  dsimp at hy0 hy1
  unfold iblk; blk_simp; rw [V_main_arg1]; blk_ext [e0]

/-- What a point leaves at an element of its block. -/
theorem point (t : Fin cfg0.N) (y : S1408x1024.Idx) (i : S5632x2048.Idx) (hr : (i 0).val = 1408 * (t.val / 2) + (y 0).val)
    (hj : (i 1).val = 1024 * (t.val % 2) + (y 1).val) : out0_2 (iblk m c 0 t) (iblk m c 1 t) y = grad (m (c, Proc.tc.devRef main_arg0)) (m (c, Proc.tc.devRef main_arg1)) i := by
  rw [blk]
  exact Finset.sum_congr rfl fun k _ => congr (congrArg _ (x0_at m c t k y i hr hj)) (x1_at m c t k y i hr hj)

/-- The array that the kernel leaves. -/
theorem arr : (dats m 0 c).arrAt 2 cfg0.N = grad (m (c, Proc.tc.devRef main_arg0)) (m (c, Proc.tc.devRef main_arg1)) := by
  refine (dats m 0 c).arrAt_eq_of_covers 2 _ (by decide +kernel) fun t hf y => ?_
  blk_simp
  rw [after0_2]
  have e2 := (at0 t).2.2
  refine point m c t _ _ ?_ ?_ <;> blk_simp [e2] <;> simp <;> omega

end Cert.DownDwIdeal.Sums

namespace Cert.DownDwRefIdeal.Sums

open Idealize.ShloMosaic Cert.DownDwRefIdeal Cert.DownDwRefIdeal.Gen

/-- What the reference computes. -/
theorem ref (a : FVec Ideal S2048x5632 .bf16) (d : FVec Ideal S2048x2048 .bf16) : truncf .bf16 (transpose S5632x2048 [1, 0] (Host.dotGeneral dot_S2048x2048_S2048x5632_S2048x5632_0_0_1_1_n_n none (extf .f32 d bitsLt_bf16_f32) (extf .f32 a bitsLt_bf16_f32)) transposes_S2048x5632_S5632x2048_1_0) bitsLt_bf16_f32
    = Cert.DownDwIdeal.Sums.grad a d := by
  funext i
  unfold Cert.DownDwIdeal.Sums.grad
  idx_vars i
  pointwise
  refine Finset.sum_congr rfl fun k _ => ?_
  rw [mul_comm]

end Cert.DownDwRefIdeal.Sums

end
-- ==== Proof.DownDx.lean ====
/- The gradient of the FFN's activations through its lower weight. -/
module

public import proofs.«01_k».proof.Proof.Gen.DownDxIdeal.Value
public import proofs.«01_k».proof.Proof.Gen.DownDxRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.DownDxIdeal.Sums

open Idealize.ShloMosaic Idealize.ShloMosaic.TcCoe Cert.DownDxIdeal Cert.DownDxIdeal.Gen
open Idealize.ShloMosaic.Pipeline

/-- The sum that every element is. -/
def grad (d : FVec Ideal S2048x2048 .bf16) (w : FVec Ideal S5632x2048 .bf16) : FVec Ideal S2048x5632 .f32 :=
  fun i => ∑ k : Fin 2048, d (ix2 (i 0) k) * w (ix2 (i 1) k)

variable (m : (ℓ : Loc nD τ sig) → Buf (Elt Ideal) ℓ) (c : Dev nD)

/-- Where each window's block lies. -/
theorem at0 : ∀ t : Fin cfg0.N, win0_0.index t = ![t.val / 11, 0] ∧ win0_1.index t = ![t.val % 11, 0]
    ∧ win0_2.index t = ![t.val / 11, t.val % 11] :=
  (by decide +kernel : ∀ t : Fin grid0.N, _)

/-- What a point computes of its two blocks. -/
def prods (a : S2048x2048.Idx → EReal) (b : S512x2048.Idx → EReal) (y : S2048x512.Idx) : EReal :=
  ∑ k : Fin 2048, a (ix2 (y 0) k) * b (ix2 (y 1) k)

theorem blk (a : FVec Ideal S2048x2048 .bf16) (b : FVec Ideal S512x2048 .bf16) (y : S2048x512.Idx) : out0_2 (F := Ideal) a b y = prods a b y := by
  unfold out0_2 prods
  frame_out
  idx_vars y
  pointwise [k0_pay1]

theorem x0_at (t : Fin cfg0.N) (k : Fin 2048) (y : S2048x512.Idx) (i : S2048x5632.Idx) (hr : (i 0).val = 2048 * (t.val / 11) + (y 0).val)
    (hj : (i 1).val = 512 * (t.val % 11) + (y 1).val) :
    iblk m c 0 t (ix2 (y 0) k) = m (c, Proc.tc.devRef main_arg0) (ix2 (i 0) k) := by
  have e0 := (at0 t).1
  have hy0 := (y 0).isLt
  have hy1 := (y 1).isLt
  dsimp at hy0 hy1
  unfold iblk; blk_simp; rw [V_main_arg0]; blk_ext [e0]

theorem x1_at (t : Fin cfg0.N) (k : Fin 2048) (y : S2048x512.Idx) (i : S2048x5632.Idx) (hr : (i 0).val = 2048 * (t.val / 11) + (y 0).val)
    (hj : (i 1).val = 512 * (t.val % 11) + (y 1).val) :
    iblk m c 1 t (ix2 (y 1) k) = m (c, Proc.tc.devRef main_arg1) (ix2 (i 1) k) := by
  have e0 := (at0 t).2.1
  have hy0 := (y 0).isLt
  have hy1 := (y 1).isLt
  dsimp at hy0 hy1
  unfold iblk; blk_simp; rw [V_main_arg1]; blk_ext [e0]

/-- What a point leaves at an element of its block. -/
theorem point (t : Fin cfg0.N) (y : S2048x512.Idx) (i : S2048x5632.Idx) (hr : (i 0).val = 2048 * (t.val / 11) + (y 0).val)
    (hj : (i 1).val = 512 * (t.val % 11) + (y 1).val) : out0_2 (iblk m c 0 t) (iblk m c 1 t) y = grad (m (c, Proc.tc.devRef main_arg0)) (m (c, Proc.tc.devRef main_arg1)) i := by
  rw [blk]
  exact Finset.sum_congr rfl fun k _ => congr (congrArg _ (x0_at m c t k y i hr hj)) (x1_at m c t k y i hr hj)

/-- The array that the kernel leaves. -/
theorem arr : (dats m 0 c).arrAt 2 cfg0.N = grad (m (c, Proc.tc.devRef main_arg0)) (m (c, Proc.tc.devRef main_arg1)) := by
  refine (dats m 0 c).arrAt_eq_of_covers 2 _ (by decide +kernel) fun t hf y => ?_
  blk_simp
  rw [after0_2]
  have e2 := (at0 t).2.2
  refine point m c t _ _ ?_ ?_ <;> blk_simp [e2] <;> simp <;> omega

end Cert.DownDxIdeal.Sums

namespace Cert.DownDxRefIdeal.Sums

open Idealize.ShloMosaic Cert.DownDxRefIdeal Cert.DownDxRefIdeal.Gen

/-- What the reference computes. -/
theorem ref (d : FVec Ideal S2048x2048 .bf16) (w : FVec Ideal S5632x2048 .bf16) : Host.dotGeneral dot_S2048x2048_S5632x2048_S2048x5632_1_1_0_0_n_n none (extf .f32 d bitsLt_bf16_f32) (extf .f32 w bitsLt_bf16_f32)
    = Cert.DownDxIdeal.Sums.grad d w := by
  funext i
  unfold Cert.DownDxIdeal.Sums.grad
  idx_vars i
  pointwise

end Cert.DownDxRefIdeal.Sums

end
-- ==== Proof.OutDw.lean ====
/- The gradient of the mixer's output weight; its input comes in two blocks of columns. -/
module

public import proofs.«01_k».proof.Proof.Gen.OutDwIdeal.Value
public import proofs.«01_k».proof.Proof.Gen.OutDwRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.OutDwIdeal.Sums

open Idealize.ShloMosaic Idealize.ShloMosaic.TcCoe Cert.OutDwIdeal Cert.OutDwIdeal.Gen
open Idealize.ShloMosaic.Pipeline

/-- The sum that every element is. -/
def grad (a : FVec Ideal S2x2048x1024 .bf16) (d : FVec Ideal S2048x2048 .bf16) : FVec Ideal S2048x2048 .bf16 :=
  fun i => ∑ k : Fin 2048, a (ix3 ⟨(i 0).val / 1024, by have := (i 0).isLt; dsimp at *; omega⟩ k ⟨(i 0).val % 1024, by omega⟩) * d (ix2 k (i 1))

variable (m : (ℓ : Loc nD τ sig) → Buf (Elt Ideal) ℓ) (c : Dev nD)

/-- Where each window's block lies. -/
theorem at0 : ∀ t : Fin cfg0.N, win0_0.index t = ![t.val / 2, 0, 0] ∧ win0_1.index t = ![0, t.val % 2]
    ∧ win0_2.index t = ![t.val / 2, t.val % 2] :=
  (by decide +kernel : ∀ t : Fin grid0.N, _)

/-- What a point computes of its two blocks. -/
def prods (a : S1x2048x1024.Idx → EReal) (b : S2048x1024.Idx → EReal) (y : S1024x1024.Idx) : EReal :=
  ∑ k : Fin 2048, a (ix3 0 k (y 0)) * b (ix2 k (y 1))

theorem blk (a : FVec Ideal S1x2048x1024 .bf16) (b : FVec Ideal S2048x1024 .bf16) (y : S1024x1024.Idx) : out0_2 (F := Ideal) a b y = prods a b y := by
  unfold out0_2 prods
  frame_out
  idx_vars y
  pointwise [k0_pay1]

theorem x0_at (t : Fin cfg0.N) (k : Fin 2048) (y : S1024x1024.Idx) (i : S2048x2048.Idx) (hr : (i 0).val = 1024 * (t.val / 2) + (y 0).val)
    (hj : (i 1).val = 1024 * (t.val % 2) + (y 1).val) :
    iblk m c 0 t (ix3 0 k (y 0)) = m (c, Proc.tc.devRef main_arg0) (ix3 ⟨(i 0).val / 1024, by have := (i 0).isLt; dsimp at *; omega⟩ k ⟨(i 0).val % 1024, by omega⟩) := by
  have e0 := (at0 t).1
  have hy0 := (y 0).isLt
  have hy1 := (y 1).isLt
  dsimp at hy0 hy1
  unfold iblk; blk_simp; rw [V_main_arg0]; blk_ext [e0]

theorem x1_at (t : Fin cfg0.N) (k : Fin 2048) (y : S1024x1024.Idx) (i : S2048x2048.Idx) (hr : (i 0).val = 1024 * (t.val / 2) + (y 0).val)
    (hj : (i 1).val = 1024 * (t.val % 2) + (y 1).val) :
    iblk m c 1 t (ix2 k (y 1)) = m (c, Proc.tc.devRef main_arg1) (ix2 k (i 1)) := by
  have e0 := (at0 t).2.1
  have hy0 := (y 0).isLt
  have hy1 := (y 1).isLt
  dsimp at hy0 hy1
  unfold iblk; blk_simp; rw [V_main_arg1]; blk_ext [e0]

/-- What a point leaves at an element of its block. -/
theorem point (t : Fin cfg0.N) (y : S1024x1024.Idx) (i : S2048x2048.Idx) (hr : (i 0).val = 1024 * (t.val / 2) + (y 0).val)
    (hj : (i 1).val = 1024 * (t.val % 2) + (y 1).val) : out0_2 (iblk m c 0 t) (iblk m c 1 t) y = grad (m (c, Proc.tc.devRef main_arg0)) (m (c, Proc.tc.devRef main_arg1)) i := by
  rw [blk]
  exact Finset.sum_congr rfl fun k _ => congr (congrArg _ (x0_at m c t k y i hr hj)) (x1_at m c t k y i hr hj)

/-- The array that the kernel leaves. -/
theorem arr : (dats m 0 c).arrAt 2 cfg0.N = grad (m (c, Proc.tc.devRef main_arg0)) (m (c, Proc.tc.devRef main_arg1)) := by
  refine (dats m 0 c).arrAt_eq_of_covers 2 _ (by decide +kernel) fun t hf y => ?_
  blk_simp
  rw [after0_2]
  have e2 := (at0 t).2.2
  refine point m c t _ _ ?_ ?_ <;> blk_simp [e2] <;> simp <;> omega

end Cert.OutDwIdeal.Sums

namespace Cert.OutDwRefIdeal.Sums

open Idealize.ShloMosaic Cert.OutDwRefIdeal Cert.OutDwRefIdeal.Gen

/-- What the reference computes. -/
theorem ref (a : FVec Ideal S2x2048x1024 .bf16) (d : FVec Ideal S2048x2048 .bf16) : truncf .bf16 (transpose S2048x2048 [1, 0] (Host.dotGeneral dot_S2048x2048_S2048x2048_S2048x2048_0_0_1_1_n_n none (extf .f32 d bitsLt_bf16_f32) (extf .f32 (shapeCast _ (transpose S2048x2x1024 [1, 0, 2] a transposes_S2x2048x1024_S2048x2x1024_1_0_2) shapeCasts_S2048x2x1024_S2048x2048) bitsLt_bf16_f32)) transposes_S2048x2048_S2048x2048_1_0) bitsLt_bf16_f32
    = Cert.OutDwIdeal.Sums.grad a d := by
  funext i
  unfold Cert.OutDwIdeal.Sums.grad
  idx_vars i
  pointwise
  refine Finset.sum_congr rfl fun k _ => ?_
  rw [mul_comm]

end Cert.OutDwRefIdeal.Sums

end
-- ==== Proof.OutDx.lean ====
/- The gradient of the mixer's output through the output weight. -/
module

public import proofs.«01_k».proof.Proof.Gen.OutDxIdeal.Value
public import proofs.«01_k».proof.Proof.Gen.OutDxRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.OutDxIdeal.Sums

open Idealize.ShloMosaic Idealize.ShloMosaic.TcCoe Cert.OutDxIdeal Cert.OutDxIdeal.Gen
open Idealize.ShloMosaic.Pipeline

/-- The sum that every element is. -/
def grad (d : FVec Ideal S2048x2048 .bf16) (w : FVec Ideal S2048x2048 .bf16) : FVec Ideal S2048x2048 .f32 :=
  fun i => ∑ k : Fin 2048, d (ix2 (i 0) k) * w (ix2 (i 1) k)

variable (m : (ℓ : Loc nD τ sig) → Buf (Elt Ideal) ℓ) (c : Dev nD)

/-- Where each window's block lies. -/
theorem at0 : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- What a point computes of its two blocks. -/
def prods (a : S1024x2048.Idx → EReal) (b : S1024x2048.Idx → EReal) (y : S1024x1024.Idx) : EReal :=
  ∑ k : Fin 2048, a (ix2 (y 0) k) * b (ix2 (y 1) k)

theorem blk (a : FVec Ideal S1024x2048 .bf16) (b : FVec Ideal S1024x2048 .bf16) (y : S1024x1024.Idx) : out0_2 (F := Ideal) a b y = prods a b y := by
  unfold out0_2 prods
  frame_out
  idx_vars y
  pointwise [k0_pay1]

theorem x0_at (t : Fin cfg0.N) (k : Fin 2048) (y : S1024x1024.Idx) (i : S2048x2048.Idx) (hr : (i 0).val = 1024 * (t.val / 2) + (y 0).val)
    (hj : (i 1).val = 1024 * (t.val % 2) + (y 1).val) :
    iblk m c 0 t (ix2 (y 0) k) = m (c, Proc.tc.devRef main_arg0) (ix2 (i 0) k) := by
  have e0 := (at0 t).1
  have hy0 := (y 0).isLt
  have hy1 := (y 1).isLt
  dsimp at hy0 hy1
  unfold iblk; blk_simp; rw [V_main_arg0]; blk_ext [e0]

theorem x1_at (t : Fin cfg0.N) (k : Fin 2048) (y : S1024x1024.Idx) (i : S2048x2048.Idx) (hr : (i 0).val = 1024 * (t.val / 2) + (y 0).val)
    (hj : (i 1).val = 1024 * (t.val % 2) + (y 1).val) :
    iblk m c 1 t (ix2 (y 1) k) = m (c, Proc.tc.devRef main_arg1) (ix2 (i 1) k) := by
  have e0 := (at0 t).2.1
  have hy0 := (y 0).isLt
  have hy1 := (y 1).isLt
  dsimp at hy0 hy1
  unfold iblk; blk_simp; rw [V_main_arg1]; blk_ext [e0]

/-- What a point leaves at an element of its block. -/
theorem point (t : Fin cfg0.N) (y : S1024x1024.Idx) (i : S2048x2048.Idx) (hr : (i 0).val = 1024 * (t.val / 2) + (y 0).val)
    (hj : (i 1).val = 1024 * (t.val % 2) + (y 1).val) : out0_2 (iblk m c 0 t) (iblk m c 1 t) y = grad (m (c, Proc.tc.devRef main_arg0)) (m (c, Proc.tc.devRef main_arg1)) i := by
  rw [blk]
  exact Finset.sum_congr rfl fun k _ => congr (congrArg _ (x0_at m c t k y i hr hj)) (x1_at m c t k y i hr hj)

/-- The array that the kernel leaves. -/
theorem arr : (dats m 0 c).arrAt 2 cfg0.N = grad (m (c, Proc.tc.devRef main_arg0)) (m (c, Proc.tc.devRef main_arg1)) := by
  refine (dats m 0 c).arrAt_eq_of_covers 2 _ (by decide +kernel) fun t hf y => ?_
  blk_simp
  rw [after0_2]
  have e2 := (at0 t).2.2
  refine point m c t _ _ ?_ ?_ <;> blk_simp [e2] <;> simp <;> omega

end Cert.OutDxIdeal.Sums

namespace Cert.OutDxRefIdeal.Sums

open Idealize.ShloMosaic Cert.OutDxRefIdeal Cert.OutDxRefIdeal.Gen

/-- What the reference computes. -/
theorem ref (d : FVec Ideal S2048x2048 .bf16) (w : FVec Ideal S2048x2048 .bf16) : Host.dotGeneral dot_S2048x2048_S2048x2048_S2048x2048_1_1_0_0_n_n none (extf .f32 d bitsLt_bf16_f32) (extf .f32 w bitsLt_bf16_f32)
    = Cert.OutDxIdeal.Sums.grad d w := by
  funext i
  unfold Cert.OutDxIdeal.Sums.grad
  idx_vars i
  pointwise

end Cert.OutDxRefIdeal.Sums

end
-- ==== Proof.ProjDw.lean ====
/- The gradient of the projections' weight, which is kept transposed. -/
module

public import proofs.«01_k».proof.Proof.Gen.ProjDwIdeal.Value
public import proofs.«01_k».proof.Proof.Gen.ProjDwRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.ProjDwIdeal.Sums

open Idealize.ShloMosaic Idealize.ShloMosaic.TcCoe Cert.ProjDwIdeal Cert.ProjDwIdeal.Gen
open Idealize.ShloMosaic.Pipeline

/-- The sum that every element is. -/
def grad (d : FVec Ideal S2048x7296 .bf16) (x : FVec Ideal S2048x2048 .bf16) : FVec Ideal S7296x2048 .bf16 :=
  fun i => ∑ k : Fin 2048, d (ix2 k (i 0)) * x (ix2 k (i 1))

variable (m : (ℓ : Loc nD τ sig) → Buf (Elt Ideal) ℓ) (c : Dev nD)

/-- Where each window's block lies. -/
theorem at0 : ∀ t : Fin cfg0.N, win0_0.index t = ![0, t.val / 2] ∧ win0_1.index t = ![0, t.val % 2]
    ∧ win0_2.index t = ![t.val / 2, t.val % 2] :=
  (by decide +kernel : ∀ t : Fin grid0.N, _)

/-- What a point computes of its two blocks. -/
def prods (a : S2048x2432.Idx → EReal) (b : S2048x1024.Idx → EReal) (y : S2432x1024.Idx) : EReal :=
  ∑ k : Fin 2048, a (ix2 k (y 0)) * b (ix2 k (y 1))

theorem blk (a : FVec Ideal S2048x2432 .bf16) (b : FVec Ideal S2048x1024 .bf16) (y : S2432x1024.Idx) : out0_2 (F := Ideal) a b y = prods a b y := by
  unfold out0_2 prods
  frame_out
  idx_vars y
  pointwise [k0_pay1]

theorem x0_at (t : Fin cfg0.N) (k : Fin 2048) (y : S2432x1024.Idx) (i : S7296x2048.Idx) (hr : (i 0).val = 2432 * (t.val / 2) + (y 0).val)
    (hj : (i 1).val = 1024 * (t.val % 2) + (y 1).val) :
    iblk m c 0 t (ix2 k (y 0)) = m (c, Proc.tc.devRef main_arg0) (ix2 k (i 0)) := by
  have e0 := (at0 t).1
  have hy0 := (y 0).isLt
  have hy1 := (y 1).isLt
  dsimp at hy0 hy1
  unfold iblk; blk_simp; rw [V_main_arg0]; blk_ext [e0]

theorem x1_at (t : Fin cfg0.N) (k : Fin 2048) (y : S2432x1024.Idx) (i : S7296x2048.Idx) (hr : (i 0).val = 2432 * (t.val / 2) + (y 0).val)
    (hj : (i 1).val = 1024 * (t.val % 2) + (y 1).val) :
    iblk m c 1 t (ix2 k (y 1)) = m (c, Proc.tc.devRef main_arg1) (ix2 k (i 1)) := by
  have e0 := (at0 t).2.1
  have hy0 := (y 0).isLt
  have hy1 := (y 1).isLt
  dsimp at hy0 hy1
  unfold iblk; blk_simp; rw [V_main_arg1]; blk_ext [e0]

/-- What a point leaves at an element of its block. -/
theorem point (t : Fin cfg0.N) (y : S2432x1024.Idx) (i : S7296x2048.Idx) (hr : (i 0).val = 2432 * (t.val / 2) + (y 0).val)
    (hj : (i 1).val = 1024 * (t.val % 2) + (y 1).val) : out0_2 (iblk m c 0 t) (iblk m c 1 t) y = grad (m (c, Proc.tc.devRef main_arg0)) (m (c, Proc.tc.devRef main_arg1)) i := by
  rw [blk]
  exact Finset.sum_congr rfl fun k _ => congr (congrArg _ (x0_at m c t k y i hr hj)) (x1_at m c t k y i hr hj)

/-- The array that the kernel leaves. -/
theorem arr : (dats m 0 c).arrAt 2 cfg0.N = grad (m (c, Proc.tc.devRef main_arg0)) (m (c, Proc.tc.devRef main_arg1)) := by
  refine (dats m 0 c).arrAt_eq_of_covers 2 _ (by decide +kernel) fun t hf y => ?_
  blk_simp
  rw [after0_2]
  have e2 := (at0 t).2.2
  refine point m c t _ _ ?_ ?_ <;> blk_simp [e2] <;> simp <;> omega

end Cert.ProjDwIdeal.Sums

namespace Cert.ProjDwRefIdeal.Sums

open Idealize.ShloMosaic Cert.ProjDwRefIdeal Cert.ProjDwRefIdeal.Gen

/-- What the reference computes. -/
theorem ref (d : FVec Ideal S2048x7296 .bf16) (x : FVec Ideal S2048x2048 .bf16) : truncf .bf16 (transpose S7296x2048 [1, 0] (transpose S2048x7296 [1, 0] (Host.dotGeneral dot_S2048x7296_S2048x2048_S7296x2048_0_0_1_1_n_n none (extf .f32 d bitsLt_bf16_f32) (extf .f32 x bitsLt_bf16_f32)) transposes_S7296x2048_S2048x7296_1_0) transposes_S2048x7296_S7296x2048_1_0) bitsLt_bf16_f32
    = Cert.ProjDwIdeal.Sums.grad d x := by
  funext i
  unfold Cert.ProjDwIdeal.Sums.grad
  idx_vars i
  pointwise

end Cert.ProjDwRefIdeal.Sums

end
-- ==== Proof.ProjDx.lean ====
/- The gradient of x: through the projections' weight, and of the residual. -/
module

public import proofs.«01_k».proof.Proof.Gen.ProjDxIdeal.Value
public import proofs.«01_k».proof.Proof.Gen.ProjDxRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.ProjDxIdeal.Sums

open Idealize.ShloMosaic Idealize.ShloMosaic.TcCoe Cert.ProjDxIdeal Cert.ProjDxIdeal.Gen
open Idealize.ShloMosaic.Pipeline

/-- The weight of the residual. -/
def alpha : EReal := Scalar.ofBits (F := Ideal) .f32 0x3F9837F0#32

/-- The sum that every element is. -/
def grad (d : FVec Ideal S2048x7296 .bf16) (w : FVec Ideal S7296x2048 .bf16) (r : FVec Ideal S2048x2048 .f32) : FVec Ideal S2048x2048 .f32 :=
  fun i => (∑ k : Fin 7296, d (ix2 (i 0) k) * w (ix2 k (i 1))) + alpha * r i

variable (m : (ℓ : Loc nD τ sig) → Buf (Elt Ideal) ℓ) (c : Dev nD)

/-- Where each window's block lies. -/
theorem at0 : ∀ t : Fin cfg0.N, win0_0.index t = ![t.val / 4, 0] ∧ win0_1.index t = ![0, t.val % 4]
    ∧ win0_3.index t = ![t.val / 4, t.val % 4] ∧ win0_2.index t = ![t.val / 4, t.val % 4] :=
  (by decide +kernel : ∀ t : Fin grid0.N, _)

/-- What a point computes of its two blocks. -/
def prods (a : S512x7296.Idx → EReal) (b : S7296x512.Idx → EReal) (y : S512x512.Idx) : EReal :=
  ∑ k : Fin 7296, a (ix2 (y 0) k) * b (ix2 k (y 1))

theorem blk (a : FVec Ideal S512x7296 .bf16) (b : FVec Ideal S7296x512 .bf16) (r : FVec Ideal S512x512 .f32) (y : S512x512.Idx) : out0_3 (F := Ideal) a b r y = prods a b y + alpha * r y := by
  unfold out0_3 prods
  frame_out
  idx_vars y
  pointwise [k0_pay1]
  unfold alpha
  rfl

theorem x0_at (t : Fin cfg0.N) (k : Fin 7296) (y : S512x512.Idx) (i : S2048x2048.Idx) (hr : (i 0).val = 512 * (t.val / 4) + (y 0).val)
    (hj : (i 1).val = 512 * (t.val % 4) + (y 1).val) :
    iblk m c 0 t (ix2 (y 0) k) = m (c, Proc.tc.devRef main_arg0) (ix2 (i 0) k) := by
  have e0 := (at0 t).1
  have hy0 := (y 0).isLt
  have hy1 := (y 1).isLt
  dsimp at hy0 hy1
  unfold iblk; blk_simp; rw [V_main_arg0]; blk_ext [e0]

theorem x1_at (t : Fin cfg0.N) (k : Fin 7296) (y : S512x512.Idx) (i : S2048x2048.Idx) (hr : (i 0).val = 512 * (t.val / 4) + (y 0).val)
    (hj : (i 1).val = 512 * (t.val % 4) + (y 1).val) :
    iblk m c 1 t (ix2 k (y 1)) = m (c, Proc.tc.devRef main_arg1) (ix2 k (i 1)) := by
  have e0 := (at0 t).2.1
  have hy0 := (y 0).isLt
  have hy1 := (y 1).isLt
  dsimp at hy0 hy1
  unfold iblk; blk_simp; rw [V_main_arg1]; blk_ext [e0]

theorem x2_at (t : Fin cfg0.N) (y : S512x512.Idx) (i : S2048x2048.Idx) (hr : (i 0).val = 512 * (t.val / 4) + (y 0).val)
    (hj : (i 1).val = 512 * (t.val % 4) + (y 1).val) :
    iblk m c 2 t y = m (c, Proc.tc.devRef main_arg2) i := by
  have e0 := (at0 t).2.2.2
  unfold iblk; blk_simp; rw [V_main_arg2]; blk_ext [e0]

/-- What a point leaves at an element of its block. -/
theorem point (t : Fin cfg0.N) (y : S512x512.Idx) (i : S2048x2048.Idx) (hr : (i 0).val = 512 * (t.val / 4) + (y 0).val)
    (hj : (i 1).val = 512 * (t.val % 4) + (y 1).val) : out0_3 (iblk m c 0 t) (iblk m c 1 t) (iblk m c 2 t) y = grad (m (c, Proc.tc.devRef main_arg0)) (m (c, Proc.tc.devRef main_arg1)) (m (c, Proc.tc.devRef main_arg2)) i := by
  rw [blk]
  exact congr (congrArg _ (Finset.sum_congr rfl fun k _ => congr (congrArg _ (x0_at m c t k y i hr hj)) (x1_at m c t k y i hr hj))) (congrArg _ (x2_at m c t y i hr hj))

/-- The array that the kernel leaves. -/
theorem arr : (dats m 0 c).arrAt 3 cfg0.N = grad (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after0_3]
  have e2 := (at0 t).2.2.1
  refine point m c t _ _ ?_ ?_ <;> blk_simp [e2] <;> simp <;> omega

end Cert.ProjDxIdeal.Sums

namespace Cert.ProjDxRefIdeal.Sums

open Idealize.ShloMosaic Cert.ProjDxRefIdeal Cert.ProjDxRefIdeal.Gen

/-- What the reference computes. -/
theorem ref (d : FVec Ideal S2048x7296 .bf16) (w : FVec Ideal S7296x2048 .bf16) (r : FVec Ideal S2048x2048 .f32) : addf (Host.dotGeneral dot_S2048x7296_S2048x7296_S2048x2048_1_1_0_0_n_n none (extf .f32 d bitsLt_bf16_f32) (extf .f32 (transpose S2048x7296 [1, 0] w transposes_S7296x2048_S2048x7296_1_0) bitsLt_bf16_f32)) (mulf (broadcastInDim S2048x2048 ![] bcast_S_S2048x2048 (constant S_ .f32 0x3F9837F0#32)) r)
    = Cert.ProjDxIdeal.Sums.grad d w r := by
  funext i
  unfold Cert.ProjDxIdeal.Sums.grad
  idx_vars i
  pointwise
  unfold Cert.ProjDxIdeal.Sums.alpha
  rfl

end Cert.ProjDxRefIdeal.Sums

end
-- ==== Proof.ProjFwd.lean ====
/- The projections. -/
module

public import proofs.«01_k».proof.Proof.Gen.ProjFwdIdeal.Value
public import proofs.«01_k».proof.Proof.Gen.ProjFwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.ProjFwdIdeal.Sums

open Idealize.ShloMosaic Idealize.ShloMosaic.TcCoe Cert.ProjFwdIdeal Cert.ProjFwdIdeal.Gen
open Idealize.ShloMosaic.Pipeline

/-- The sum that every element is. -/
def grad (x : FVec Ideal S2048x2048 .bf16) (w : FVec Ideal S7296x2048 .bf16) : FVec Ideal S2048x7296 .f32 :=
  fun i => ∑ k : Fin 2048, x (ix2 (i 0) k) * w (ix2 (i 1) k)

variable (m : (ℓ : Loc nD τ sig) → Buf (Elt Ideal) ℓ) (c : Dev nD)

/-- Where each window's block lies. -/
theorem at0 : ∀ t : Fin cfg0.N, win0_0.index t = ![t.val / 3, 0] ∧ win0_1.index t = ![t.val % 3, 0]
    ∧ win0_2.index t = ![t.val / 3, t.val % 3] :=
  (by decide +kernel : ∀ t : Fin grid0.N, _)

/-- What a point computes of its two blocks. -/
def prods (a : S512x2048.Idx → EReal) (b : S2432x2048.Idx → EReal) (y : S512x2432.Idx) : EReal :=
  ∑ k : Fin 2048, a (ix2 (y 0) k) * b (ix2 (y 1) k)

theorem blk (a : FVec Ideal S512x2048 .bf16) (b : FVec Ideal S2432x2048 .bf16) (y : S512x2432.Idx) : out0_2 (F := Ideal) a b y = prods a b y := by
  unfold out0_2 prods
  frame_out
  idx_vars y
  pointwise [k0_pay1]

theorem x0_at (t : Fin cfg0.N) (k : Fin 2048) (y : S512x2432.Idx) (i : S2048x7296.Idx) (hr : (i 0).val = 512 * (t.val / 3) + (y 0).val)
    (hj : (i 1).val = 2432 * (t.val % 3) + (y 1).val) :
    iblk m c 0 t (ix2 (y 0) k) = m (c, Proc.tc.devRef main_arg0) (ix2 (i 0) k) := by
  have e0 := (at0 t).1
  have hy0 := (y 0).isLt
  have hy1 := (y 1).isLt
  dsimp at hy0 hy1
  unfold iblk; blk_simp; rw [V_main_arg0]; blk_ext [e0]

theorem x1_at (t : Fin cfg0.N) (k : Fin 2048) (y : S512x2432.Idx) (i : S2048x7296.Idx) (hr : (i 0).val = 512 * (t.val / 3) + (y 0).val)
    (hj : (i 1).val = 2432 * (t.val % 3) + (y 1).val) :
    iblk m c 1 t (ix2 (y 1) k) = m (c, Proc.tc.devRef main_arg1) (ix2 (i 1) k) := by
  have e0 := (at0 t).2.1
  have hy0 := (y 0).isLt
  have hy1 := (y 1).isLt
  dsimp at hy0 hy1
  unfold iblk; blk_simp; rw [V_main_arg1]; blk_ext [e0]

/-- What a point leaves at an element of its block. -/
theorem point (t : Fin cfg0.N) (y : S512x2432.Idx) (i : S2048x7296.Idx) (hr : (i 0).val = 512 * (t.val / 3) + (y 0).val)
    (hj : (i 1).val = 2432 * (t.val % 3) + (y 1).val) : out0_2 (iblk m c 0 t) (iblk m c 1 t) y = grad (m (c, Proc.tc.devRef main_arg0)) (m (c, Proc.tc.devRef main_arg1)) i := by
  rw [blk]
  exact Finset.sum_congr rfl fun k _ => congr (congrArg _ (x0_at m c t k y i hr hj)) (x1_at m c t k y i hr hj)

/-- The array that the kernel leaves. -/
theorem arr : (dats m 0 c).arrAt 2 cfg0.N = grad (m (c, Proc.tc.devRef main_arg0)) (m (c, Proc.tc.devRef main_arg1)) := by
  refine (dats m 0 c).arrAt_eq_of_covers 2 _ (by decide +kernel) fun t hf y => ?_
  blk_simp
  rw [after0_2]
  have e2 := (at0 t).2.2
  refine point m c t _ _ ?_ ?_ <;> blk_simp [e2] <;> simp <;> omega

end Cert.ProjFwdIdeal.Sums

namespace Cert.ProjFwdRefIdeal.Sums

open Idealize.ShloMosaic Cert.ProjFwdRefIdeal Cert.ProjFwdRefIdeal.Gen

/-- What the reference computes. -/
theorem ref (x : FVec Ideal S2048x2048 .bf16) (w : FVec Ideal S7296x2048 .bf16) : Host.dotGeneral dot_S2048x2048_S2048x7296_S2048x7296_1_0_0_1_n_n none (extf .f32 x bitsLt_bf16_f32) (extf .f32 (transpose S2048x7296 [1, 0] w transposes_S7296x2048_S2048x7296_1_0) bitsLt_bf16_f32)
    = Cert.ProjFwdIdeal.Sums.grad x w := by
  funext i
  unfold Cert.ProjFwdIdeal.Sums.grad
  idx_vars i
  pointwise

end Cert.ProjFwdRefIdeal.Sums

end
-- ==== Proof.OutFwd.lean ====
/- The mixer's output: its two blocks of columns times the output weight. -/
module

public import proofs.«01_k».proof.Proof.Gen.OutFwdIdeal.Value
public import proofs.«01_k».proof.Proof.Gen.OutFwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.OutFwdIdeal.Sums

open Idealize.ShloMosaic Idealize.ShloMosaic.TcCoe Cert.OutFwdIdeal Cert.OutFwdIdeal.Gen
open Idealize.ShloMosaic.Pipeline

/-- One product of the sum: column `l` lies in block `l / 1024`. -/
def one (a : FVec Ideal S2x2048x1024 .bf16) (w : FVec Ideal S2048x2048 .bf16) (r s : Fin 2048) (l : Fin 2048) : EReal :=
  a (ix3 ⟨l.val / 1024, by omega⟩ r ⟨l.val % 1024, by omega⟩) * w (ix2 l s)

/-- The sum that every element is. -/
def grad (a : FVec Ideal S2x2048x1024 .bf16) (w : FVec Ideal S2048x2048 .bf16) : FVec Ideal S2048x2048 .f32 := fun i =>
  ∑ l : Fin 2048, one a w (i 0) (i 1) l

variable (m : (ℓ : Loc nD τ sig) → Buf (Elt Ideal) ℓ) (c : Dev nD)

/-- Where each window's block lies. -/
theorem at0 : ∀ t : Fin cfg0.N, win0_0.index t = ![t.val % 2, t.val / 4, 0]
    ∧ win0_1.index t = ![t.val % 2, t.val / 2 % 2] ∧ win0_2.index t = ![t.val / 4, t.val / 2 % 2] :=
  (by decide +kernel : ∀ t : Fin grid0.N, _)

/-- What a point multiplies. -/
def rows (a : S1x512x1024.Idx → EReal) (b : S1024x1024.Idx → EReal) (y : S512x1024.Idx) : EReal :=
  ∑ k : Fin 1024, a (ix3 0 (y 0) k) * b (ix2 k (y 1))

/-- What a point adds. -/
def part (t : Fin cfg0.N) (y : S512x1024.Idx) : EReal := rows (iblk m c 0 t) (iblk m c 1 t) y

theorem reset (t : Fin cfg0.N) (h : t.val % 2 = 0) (y : S512x1024.Idx) :
    outsAt0 m c t.val t.isLt y = 0 + part m c t y := by
  rw [outsAt0_A m c t h (by omega), part, zero_add]
  frame_open
  frame_out
  pointwise [k0_pay1]
  rfl

theorem step (t : Fin cfg0.N) (h : ¬t.val % 2 = 0) (y : S512x1024.Idx) :
    outsAt0 m c t.val t.isLt y
      = outsAt0 m c (t.val - 1) (Nat.lt_of_le_of_lt (Nat.sub_le _ _) t.isLt) y + part m c t y := by
  rw [outsAt0_B m c t h (by omega), part]
  frame_open
  frame_out
  pointwise [k0_pay2]
  rfl

theorem x0_at (t : Fin cfg0.N) (r : Fin 512) (k : Fin 1024) (b : Fin 2) (s : Fin 2048) (l : Fin 1024)
    (hb : b.val = t.val % 2) (hs : s.val = 512 * (t.val / 4) + r.val) (hl : l.val = k.val) :
    iblk m c 0 t (ix3 0 r k) = m (c, Proc.tc.devRef main_arg0) (ix3 b s l) := by
  have e0 := (at0 t).1
  unfold iblk; blk_simp; rw [V_main_arg0]; blk_ext [e0]

theorem x1_at (t : Fin cfg0.N) (k r : Fin 1024) (l s : Fin 2048)
    (hl : l.val = 1024 * (t.val % 2) + k.val) (hs : s.val = 1024 * (t.val / 2 % 2) + r.val) :
    iblk m c 1 t (ix2 k r) = m (c, Proc.tc.devRef main_arg1) (ix2 l s) := by
  have e0 := (at0 t).2.1
  unfold iblk; blk_simp; rw [V_main_arg1]; blk_ext [e0]

/-- What a point adds, from the arguments. -/
theorem part_eq (t : Fin cfg0.N) (y : S512x1024.Idx) (i : S2048x2048.Idx) (hr : (i 0).val = 512 * (t.val / 4) + (y 0).val)
    (hs : (i 1).val = 1024 * (t.val / 2 % 2) + (y 1).val) :
    part m c t y = ∑ k : Fin 1024, one (m (c, Proc.tc.devRef main_arg0)) (m (c, Proc.tc.devRef main_arg1))
      (i 0) (i 1) ⟨t.val % 2 * 1024 + k.val, by have := Nat.mod_lt t.val (by decide : 2 > 0); omega⟩ := by
  unfold part
  refine Finset.sum_congr rfl fun k _ => ?_
  unfold one
  exact congr (congrArg _ (x0_at m c t _ _ _ _ _ (by dsimp only; omega) hr (by dsimp only; omega)))
    (x1_at m c t _ _ _ _ (by dsimp only; omega) hs)

/-- What the last point of a run leaves. -/
theorem point (t : Fin cfg0.N) (hf : t.val % 2 = 2 - 1) (y : S512x1024.Idx) (i : S2048x2048.Idx)
    (hr : (i 0).val = 512 * (t.val / 4) + (y 0).val) (hs : (i 1).val = 1024 * (t.val / 2 % 2) + (y 1).val) :
    outsAt0 m c t.val t.isLt y = grad (m (c, Proc.tc.devRef main_arg0)) (m (c, Proc.tc.devRef main_arg1)) i := by
  rw [Pipeline.eq_sum_fin_of_reset_step_apply_of_flush (fun n h => outsAt0 m c n h) 2 (fun _ => (0 : EReal)) (part m c)
    (reset m c) (step m c) t hf y, zero_add]
  refine Eq.trans ?_ (Fin.sum_mul_add_fin 2 1024 (one (m (c, Proc.tc.devRef main_arg0)) (m (c, Proc.tc.devRef main_arg1))
      (i 0) (i 1)))
  refine Finset.sum_congr rfl fun s _ => ?_
  rw [part_eq m c _ y i (by dsimp only; omega) (by dsimp only; omega)]
  refine Finset.sum_congr rfl fun k _ => ?_
  congr 1
  apply Fin.ext
  dsimp only
  omega

/-- The array that the kernel leaves. -/
theorem arr : (dats m 0 c).arrAt 2 cfg0.N
    = grad (m (c, Proc.tc.devRef main_arg0)) (m (c, Proc.tc.devRef main_arg1)) := by
  refine (dats m 0 c).arrAt_eq_of_covers 2 _ (by decide +kernel) fun t hf y => ?_
  blk_simp
  rw [after0_2]
  have e2 := (at0 t).2.2
  refine point m c t ((flush0_2 t).mp hf) _ _ ?_ ?_ <;> blk_simp [e2] <;> simp <;> omega

end Cert.OutFwdIdeal.Sums

namespace Cert.OutFwdRefIdeal.Sums

open Idealize.ShloMosaic Cert.OutFwdRefIdeal Cert.OutFwdRefIdeal.Gen

/-- What the reference computes. -/
theorem ref (a : FVec Ideal S2x2048x1024 .bf16) (w : FVec Ideal S2048x2048 .bf16) : Host.dotGeneral dot_S2048x2048_S2048x2048_S2048x2048_1_0_0_1_n_n none (extf .f32 (shapeCast _ (transpose S2048x2x1024 [1, 0, 2] a transposes_S2x2048x1024_S2048x2x1024_1_0_2) shapeCasts_S2048x2x1024_S2048x2048) bitsLt_bf16_f32) (extf .f32 w bitsLt_bf16_f32)
    = Cert.OutFwdIdeal.Sums.grad a w := by
  funext i
  unfold Cert.OutFwdIdeal.Sums.grad Cert.OutFwdIdeal.Sums.one
  idx_vars i
  pointwise

end Cert.OutFwdRefIdeal.Sums

end
-- ==== Proof.UpFwd.lean ====
/- The FFN's hidden units; the weight comes in eight blocks of columns. -/
module

public import proofs.«01_k».proof.Proof.Gen.UpFwdIdeal.Value
public import proofs.«01_k».proof.Proof.Gen.UpFwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.UpFwdIdeal.Sums

open Idealize.ShloMosaic Idealize.ShloMosaic.TcCoe Cert.UpFwdIdeal Cert.UpFwdIdeal.Gen
open Idealize.ShloMosaic.Pipeline

/-- The sum that every element is. -/
def grad (x : FVec Ideal S2048x2048 .bf16) (w : FVec Ideal S8x2048x1408 .bf16) : FVec Ideal S2048x11264 .f32 :=
  fun i => ∑ k : Fin 2048, x (ix2 (i 0) k) * w (ix3 ⟨(i 1).val / 1408, by have := (i 1).isLt; dsimp at *; omega⟩ k ⟨(i 1).val % 1408, by omega⟩)

variable (m : (ℓ : Loc nD τ sig) → Buf (Elt Ideal) ℓ) (c : Dev nD)

/-- Where each window's block lies. -/
theorem at0 : ∀ t : Fin cfg0.N, win0_0.index t = ![t.val / 8, 0] ∧ win0_1.index t = ![t.val % 8, 0, 0]
    ∧ win0_2.index t = ![t.val / 8, t.val % 8] :=
  (by decide +kernel : ∀ t : Fin grid0.N, _)

/-- What a point computes of its two blocks. -/
def prods (a : S1024x2048.Idx → EReal) (b : S1x2048x1408.Idx → EReal) (y : S1024x1408.Idx) : EReal :=
  ∑ k : Fin 2048, a (ix2 (y 0) k) * b (ix3 0 k (y 1))

theorem blk (a : FVec Ideal S1024x2048 .bf16) (b : FVec Ideal S1x2048x1408 .bf16) (y : S1024x1408.Idx) : out0_2 (F := Ideal) a b y = prods a b y := by
  unfold out0_2 prods
  frame_out
  idx_vars y
  pointwise [k0_pay1]

theorem x0_at (t : Fin cfg0.N) (k : Fin 2048) (y : S1024x1408.Idx) (i : S2048x11264.Idx) (hr : (i 0).val = 1024 * (t.val / 8) + (y 0).val)
    (hj : (i 1).val = 1408 * (t.val % 8) + (y 1).val) :
    iblk m c 0 t (ix2 (y 0) k) = m (c, Proc.tc.devRef main_arg0) (ix2 (i 0) k) := by
  have e0 := (at0 t).1
  have hy0 := (y 0).isLt
  have hy1 := (y 1).isLt
  dsimp at hy0 hy1
  unfold iblk; blk_simp; rw [V_main_arg0]; blk_ext [e0]

theorem x1_at (t : Fin cfg0.N) (k : Fin 2048) (y : S1024x1408.Idx) (i : S2048x11264.Idx) (hr : (i 0).val = 1024 * (t.val / 8) + (y 0).val)
    (hj : (i 1).val = 1408 * (t.val % 8) + (y 1).val) :
    iblk m c 1 t (ix3 0 k (y 1)) = m (c, Proc.tc.devRef main_arg1) (ix3 ⟨(i 1).val / 1408, by have := (i 1).isLt; dsimp at *; omega⟩ k ⟨(i 1).val % 1408, by omega⟩) := by
  have e0 := (at0 t).2.1
  have hy0 := (y 0).isLt
  have hy1 := (y 1).isLt
  dsimp at hy0 hy1
  unfold iblk; blk_simp; rw [V_main_arg1]; blk_ext [e0]

/-- What a point leaves at an element of its block. -/
theorem point (t : Fin cfg0.N) (y : S1024x1408.Idx) (i : S2048x11264.Idx) (hr : (i 0).val = 1024 * (t.val / 8) + (y 0).val)
    (hj : (i 1).val = 1408 * (t.val % 8) + (y 1).val) : out0_2 (iblk m c 0 t) (iblk m c 1 t) y = grad (m (c, Proc.tc.devRef main_arg0)) (m (c, Proc.tc.devRef main_arg1)) i := by
  rw [blk]
  exact Finset.sum_congr rfl fun k _ => congr (congrArg _ (x0_at m c t k y i hr hj)) (x1_at m c t k y i hr hj)

/-- The array that the kernel leaves. -/
theorem arr : (dats m 0 c).arrAt 2 cfg0.N = grad (m (c, Proc.tc.devRef main_arg0)) (m (c, Proc.tc.devRef main_arg1)) := by
  refine (dats m 0 c).arrAt_eq_of_covers 2 _ (by decide +kernel) fun t hf y => ?_
  blk_simp
  rw [after0_2]
  have e2 := (at0 t).2.2
  refine point m c t _ _ ?_ ?_ <;> blk_simp [e2] <;> simp <;> omega

end Cert.UpFwdIdeal.Sums

namespace Cert.UpFwdRefIdeal.Sums

open Idealize.ShloMosaic Cert.UpFwdRefIdeal Cert.UpFwdRefIdeal.Gen

/-- What the reference computes. -/
theorem ref (x : FVec Ideal S2048x2048 .bf16) (w : FVec Ideal S8x2048x1408 .bf16) : Host.dotGeneral dot_S2048x2048_S2048x11264_S2048x11264_1_0_0_1_n_n none (extf .f32 x bitsLt_bf16_f32) (extf .f32 (shapeCast _ (transpose S2048x8x1408 [1, 0, 2] w transposes_S8x2048x1408_S2048x8x1408_1_0_2) shapeCasts_S2048x8x1408_S2048x11264) bitsLt_bf16_f32)
    = Cert.UpFwdIdeal.Sums.grad x w := by
  funext i
  unfold Cert.UpFwdIdeal.Sums.grad
  idx_vars i
  pointwise

end Cert.UpFwdRefIdeal.Sums

end
-- ==== Proof.DownFwd.lean ====
/- The FFN's output. -/
module

public import proofs.«01_k».proof.Proof.Gen.DownFwdIdeal.Value
public import proofs.«01_k».proof.Proof.Gen.DownFwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.DownFwdIdeal.Sums

open Idealize.ShloMosaic Idealize.ShloMosaic.TcCoe Cert.DownFwdIdeal Cert.DownFwdIdeal.Gen
open Idealize.ShloMosaic.Pipeline

/-- The sum that every element is. -/
def grad (a : FVec Ideal S2048x5632 .bf16) (w : FVec Ideal S5632x2048 .bf16) : FVec Ideal S2048x2048 .f32 :=
  fun i => ∑ k : Fin 5632, a (ix2 (i 0) k) * w (ix2 k (i 1))

variable (m : (ℓ : Loc nD τ sig) → Buf (Elt Ideal) ℓ) (c : Dev nD)

/-- Where each window's block lies. -/
theorem at0 : ∀ t : Fin cfg0.N, win0_0.index t = ![t.val / 4, 0] ∧ win0_1.index t = ![0, t.val % 4]
    ∧ win0_2.index t = ![t.val / 4, t.val % 4] :=
  (by decide +kernel : ∀ t : Fin grid0.N, _)

/-- What a point computes of its two blocks. -/
def prods (a : S1024x5632.Idx → EReal) (b : S5632x512.Idx → EReal) (y : S1024x512.Idx) : EReal :=
  ∑ k : Fin 5632, a (ix2 (y 0) k) * b (ix2 k (y 1))

theorem blk (a : FVec Ideal S1024x5632 .bf16) (b : FVec Ideal S5632x512 .bf16) (y : S1024x512.Idx) : out0_2 (F := Ideal) a b y = prods a b y := by
  unfold out0_2 prods
  frame_out
  idx_vars y
  pointwise [k0_pay1]

theorem x0_at (t : Fin cfg0.N) (k : Fin 5632) (y : S1024x512.Idx) (i : S2048x2048.Idx) (hr : (i 0).val = 1024 * (t.val / 4) + (y 0).val)
    (hj : (i 1).val = 512 * (t.val % 4) + (y 1).val) :
    iblk m c 0 t (ix2 (y 0) k) = m (c, Proc.tc.devRef main_arg0) (ix2 (i 0) k) := by
  have e0 := (at0 t).1
  have hy0 := (y 0).isLt
  have hy1 := (y 1).isLt
  dsimp at hy0 hy1
  unfold iblk; blk_simp; rw [V_main_arg0]; blk_ext [e0]

theorem x1_at (t : Fin cfg0.N) (k : Fin 5632) (y : S1024x512.Idx) (i : S2048x2048.Idx) (hr : (i 0).val = 1024 * (t.val / 4) + (y 0).val)
    (hj : (i 1).val = 512 * (t.val % 4) + (y 1).val) :
    iblk m c 1 t (ix2 k (y 1)) = m (c, Proc.tc.devRef main_arg1) (ix2 k (i 1)) := by
  have e0 := (at0 t).2.1
  have hy0 := (y 0).isLt
  have hy1 := (y 1).isLt
  dsimp at hy0 hy1
  unfold iblk; blk_simp; rw [V_main_arg1]; blk_ext [e0]

/-- What a point leaves at an element of its block. -/
theorem point (t : Fin cfg0.N) (y : S1024x512.Idx) (i : S2048x2048.Idx) (hr : (i 0).val = 1024 * (t.val / 4) + (y 0).val)
    (hj : (i 1).val = 512 * (t.val % 4) + (y 1).val) : out0_2 (iblk m c 0 t) (iblk m c 1 t) y = grad (m (c, Proc.tc.devRef main_arg0)) (m (c, Proc.tc.devRef main_arg1)) i := by
  rw [blk]
  exact Finset.sum_congr rfl fun k _ => congr (congrArg _ (x0_at m c t k y i hr hj)) (x1_at m c t k y i hr hj)

/-- The array that the kernel leaves. -/
theorem arr : (dats m 0 c).arrAt 2 cfg0.N = grad (m (c, Proc.tc.devRef main_arg0)) (m (c, Proc.tc.devRef main_arg1)) := by
  refine (dats m 0 c).arrAt_eq_of_covers 2 _ (by decide +kernel) fun t hf y => ?_
  blk_simp
  rw [after0_2]
  have e2 := (at0 t).2.2
  refine point m c t _ _ ?_ ?_ <;> blk_simp [e2] <;> simp <;> omega

end Cert.DownFwdIdeal.Sums

namespace Cert.DownFwdRefIdeal.Sums

open Idealize.ShloMosaic Cert.DownFwdRefIdeal Cert.DownFwdRefIdeal.Gen

/-- What the reference computes. -/
theorem ref (a : FVec Ideal S2048x5632 .bf16) (w : FVec Ideal S5632x2048 .bf16) : Host.dotGeneral dot_S2048x5632_S5632x2048_S2048x2048_1_0_0_1_n_n none (extf .f32 a bitsLt_bf16_f32) (extf .f32 w bitsLt_bf16_f32)
    = Cert.DownFwdIdeal.Sums.grad a w := by
  funext i
  unfold Cert.DownFwdIdeal.Sums.grad
  idx_vars i
  pointwise

end Cert.DownFwdRefIdeal.Sums

end
-- ==== Proof.Products.lean ====
/- The calls that multiply a weight: each against the product of the step's mathematics. -/
module

public import proofs.«01_k».proof.Defs
public import proofs.«01_k».proof.Proof.UpDw
public import proofs.«01_k».proof.Proof.UpDx
public import proofs.«01_k».proof.Proof.DownDw
public import proofs.«01_k».proof.Proof.DownDx
public import proofs.«01_k».proof.Proof.OutDw
public import proofs.«01_k».proof.Proof.OutDx
public import proofs.«01_k».proof.Proof.ProjDw
public import proofs.«01_k».proof.Proof.ProjDx
public import proofs.«01_k».proof.Proof.ProjFwd
public import proofs.«01_k».proof.Proof.OutFwd
public import proofs.«01_k».proof.Proof.UpFwd
public import proofs.«01_k».proof.Proof.DownFwd
public import Idealize.ShloMosaic.Lib.Claim
public import Idealize.ShloMosaic.Adequacy
public import Idealize.ShloMosaic.Init
public import proofs.«01_k».proof.Proof.Gen.UpDw
public import proofs.«01_k».proof.Proof.Gen.UpDwIdeal
public import proofs.«01_k».proof.Proof.Gen.UpDwRefIdeal
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDx
public import proofs.«01_k».proof.Proof.Gen.UpDxIdeal
public import proofs.«01_k».proof.Proof.Gen.UpDxRefIdeal
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.DownDw
public import proofs.«01_k».proof.Proof.Gen.DownDwIdeal
public import proofs.«01_k».proof.Proof.Gen.DownDwRefIdeal
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDx
public import proofs.«01_k».proof.Proof.Gen.DownDxIdeal
public import proofs.«01_k».proof.Proof.Gen.DownDxRefIdeal
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.OutDw
public import proofs.«01_k».proof.Proof.Gen.OutDwIdeal
public import proofs.«01_k».proof.Proof.Gen.OutDwRefIdeal
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDx
public import proofs.«01_k».proof.Proof.Gen.OutDxIdeal
public import proofs.«01_k».proof.Proof.Gen.OutDxRefIdeal
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.ProjDw
public import proofs.«01_k».proof.Proof.Gen.ProjDwIdeal
public import proofs.«01_k».proof.Proof.Gen.ProjDwRefIdeal
public import proofs.«01_k».proof.Proof.Gen.ProjDwIdeal.Frame
public import proofs.«01_k».proof.Proof.Gen.ProjDwIdeal.Value
public import proofs.«01_k».proof.Proof.Gen.ProjDwRefIdeal.Run
public import proofs.«01_k».proof.Proof.Gen.ProjDx
public import proofs.«01_k».proof.Proof.Gen.ProjDxIdeal
public import proofs.«01_k».proof.Proof.Gen.ProjDxRefIdeal
public import proofs.«01_k».proof.Proof.Gen.ProjDxIdeal.Frame
public import proofs.«01_k».proof.Proof.Gen.ProjDxIdeal.Value
public import proofs.«01_k».proof.Proof.Gen.ProjDxRefIdeal.Run
public import proofs.«01_k».proof.Proof.Gen.ProjFwd
public import proofs.«01_k».proof.Proof.Gen.ProjFwdIdeal
public import proofs.«01_k».proof.Proof.Gen.ProjFwdRefIdeal
public import proofs.«01_k».proof.Proof.Gen.ProjFwdIdeal.Frame
public import proofs.«01_k».proof.Proof.Gen.ProjFwdIdeal.Value
public import proofs.«01_k».proof.Proof.Gen.ProjFwdRefIdeal.Run
public import proofs.«01_k».proof.Proof.Gen.OutFwd
public import proofs.«01_k».proof.Proof.Gen.OutFwdIdeal
public import proofs.«01_k».proof.Proof.Gen.OutFwdRefIdeal
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.Gen.UpFwd
public import proofs.«01_k».proof.Proof.Gen.UpFwdIdeal
public import proofs.«01_k».proof.Proof.Gen.UpFwdRefIdeal
public import proofs.«01_k».proof.Proof.Gen.UpFwdIdeal.Frame
public import proofs.«01_k».proof.Proof.Gen.UpFwdIdeal.Value
public import proofs.«01_k».proof.Proof.Gen.UpFwdRefIdeal.Run
public import proofs.«01_k».proof.Proof.Gen.DownFwd
public import proofs.«01_k».proof.Proof.Gen.DownFwdIdeal
public import proofs.«01_k».proof.Proof.Gen.DownFwdRefIdeal
public import proofs.«01_k».proof.Proof.Gen.DownFwdIdeal.Frame
public import proofs.«01_k».proof.Proof.Gen.DownFwdIdeal.Value
public import proofs.«01_k».proof.Proof.Gen.DownFwdRefIdeal.Run

@[expose] public section

set_option maxRecDepth 16384

noncomputable section

namespace Cert.Products

open Idealize.ShloMosaic Idealize.SL.Sem

theorem up_dw_ref : Cert.quiescent_UpDwRefIdeal := fun m g _ =>
  (θ_run Cert.UpDwRefIdeal.defs _ _).mono (fun r h => ⟨fun c => (h c).2, sem_eq_zero_of_no_sems (by decide) r.2⟩)
    (Cert.UpDwRefIdeal.Value.run m g)

theorem up_dw : Cert.algebraic_UpDwIdeal_UpDwRefIdeal := by
  pair_intro
  · run_from Cert.UpDwIdeal.Value.run_blocks m g
  · run_from Cert.UpDwRefIdeal.Value.run m' g'
    · obtain ⟨h0, h1, h2⟩ := hagree c
      refine (Cert.UpDwRefIdeal.Sums.ref _ _ _).trans (Eq.trans ?_ (Cert.UpDwIdeal.Sums.arr m c).symm)
      refine congr (congr (congrArg _ ?_) ?_) ?_ <;> first | exact h0 | exact h1 | exact h2 | rfl

theorem up_dx_ref : Cert.quiescent_UpDxRefIdeal := fun m g _ =>
  (θ_run Cert.UpDxRefIdeal.defs _ _).mono (fun r h => ⟨fun c => (h c).2, sem_eq_zero_of_no_sems (by decide) r.2⟩)
    (Cert.UpDxRefIdeal.Value.run m g)

theorem up_dx : Cert.algebraic_UpDxIdeal_UpDxRefIdeal := by
  pair_intro
  · run_from Cert.UpDxIdeal.Value.run_blocks m g
  · run_from Cert.UpDxRefIdeal.Value.run m' g'
    · obtain ⟨h0, h1, h2⟩ := hagree c
      refine (Cert.UpDxRefIdeal.Sums.ref _ _ _).trans (Eq.trans ?_ (Cert.UpDxIdeal.Sums.arr m c).symm)
      refine congr (congr (congrArg _ ?_) ?_) ?_ <;> first | exact h0 | exact h1 | exact h2 | rfl

theorem down_dw_ref : Cert.quiescent_DownDwRefIdeal := fun m g _ =>
  (θ_run Cert.DownDwRefIdeal.defs _ _).mono (fun r h => ⟨fun c => (h c).2, sem_eq_zero_of_no_sems (by decide) r.2⟩)
    (Cert.DownDwRefIdeal.Value.run m g)

theorem down_dw : Cert.algebraic_DownDwIdeal_DownDwRefIdeal := by
  pair_intro
  · run_from Cert.DownDwIdeal.Value.run_blocks m g
  · run_from Cert.DownDwRefIdeal.Value.run m' g'
    · obtain ⟨h0, h1⟩ := hagree c
      refine (Cert.DownDwRefIdeal.Sums.ref _ _).trans (Eq.trans ?_ (Cert.DownDwIdeal.Sums.arr m c).symm)
      refine congr (congrArg _ ?_) ?_ <;> first | exact h0 | exact h1 | rfl

theorem down_dx_ref : Cert.quiescent_DownDxRefIdeal := fun m g _ =>
  (θ_run Cert.DownDxRefIdeal.defs _ _).mono (fun r h => ⟨fun c => (h c).2, sem_eq_zero_of_no_sems (by decide) r.2⟩)
    (Cert.DownDxRefIdeal.Value.run m g)

theorem down_dx : Cert.algebraic_DownDxIdeal_DownDxRefIdeal := by
  pair_intro
  · run_from Cert.DownDxIdeal.Value.run_blocks m g
  · run_from Cert.DownDxRefIdeal.Value.run m' g'
    · obtain ⟨h0, h1⟩ := hagree c
      refine (Cert.DownDxRefIdeal.Sums.ref _ _).trans (Eq.trans ?_ (Cert.DownDxIdeal.Sums.arr m c).symm)
      refine congr (congrArg _ ?_) ?_ <;> first | exact h0 | exact h1 | rfl

theorem out_dw_ref : Cert.quiescent_OutDwRefIdeal := fun m g _ =>
  (θ_run Cert.OutDwRefIdeal.defs _ _).mono (fun r h => ⟨fun c => (h c).2, sem_eq_zero_of_no_sems (by decide) r.2⟩)
    (Cert.OutDwRefIdeal.Value.run m g)

theorem out_dw : Cert.algebraic_OutDwIdeal_OutDwRefIdeal := by
  pair_intro
  · run_from Cert.OutDwIdeal.Value.run_blocks m g
  · run_from Cert.OutDwRefIdeal.Value.run m' g'
    · obtain ⟨h0, h1⟩ := hagree c
      refine (Cert.OutDwRefIdeal.Sums.ref _ _).trans (Eq.trans ?_ (Cert.OutDwIdeal.Sums.arr m c).symm)
      refine congr (congrArg _ ?_) ?_ <;> first | exact h0 | exact h1 | rfl

theorem out_dx_ref : Cert.quiescent_OutDxRefIdeal := fun m g _ =>
  (θ_run Cert.OutDxRefIdeal.defs _ _).mono (fun r h => ⟨fun c => (h c).2, sem_eq_zero_of_no_sems (by decide) r.2⟩)
    (Cert.OutDxRefIdeal.Value.run m g)

theorem out_dx : Cert.algebraic_OutDxIdeal_OutDxRefIdeal := by
  pair_intro
  · run_from Cert.OutDxIdeal.Value.run_blocks m g
  · run_from Cert.OutDxRefIdeal.Value.run m' g'
    · obtain ⟨h0, h1⟩ := hagree c
      refine (Cert.OutDxRefIdeal.Sums.ref _ _).trans (Eq.trans ?_ (Cert.OutDxIdeal.Sums.arr m c).symm)
      refine congr (congrArg _ ?_) ?_ <;> first | exact h0 | exact h1 | rfl

theorem proj_dw_ref : Cert.quiescent_ProjDwRefIdeal := fun m g _ =>
  (θ_run Cert.ProjDwRefIdeal.defs _ _).mono (fun r h => ⟨fun c => (h c).2, sem_eq_zero_of_no_sems (by decide) r.2⟩)
    (Cert.ProjDwRefIdeal.Value.run m g)

theorem proj_dw : Cert.algebraic_ProjDwIdeal_ProjDwRefIdeal := by
  pair_intro
  · run_from Cert.ProjDwIdeal.Value.run_blocks m g
  · run_from Cert.ProjDwRefIdeal.Value.run m' g'
    · obtain ⟨h0, h1⟩ := hagree c
      refine (Cert.ProjDwRefIdeal.Sums.ref _ _).trans (Eq.trans ?_ (Cert.ProjDwIdeal.Sums.arr m c).symm)
      refine congr (congrArg _ ?_) ?_ <;> first | exact h0 | exact h1 | rfl

theorem proj_dx_ref : Cert.quiescent_ProjDxRefIdeal := fun m g _ =>
  (θ_run Cert.ProjDxRefIdeal.defs _ _).mono (fun r h => ⟨fun c => (h c).2, sem_eq_zero_of_no_sems (by decide) r.2⟩)
    (Cert.ProjDxRefIdeal.Value.run m g)

theorem proj_dx : Cert.algebraic_ProjDxIdeal_ProjDxRefIdeal := by
  pair_intro
  · run_from Cert.ProjDxIdeal.Value.run_blocks m g
  · run_from Cert.ProjDxRefIdeal.Value.run m' g'
    · obtain ⟨h0, h1, h2⟩ := hagree c
      refine (Cert.ProjDxRefIdeal.Sums.ref _ _ _).trans (Eq.trans ?_ (Cert.ProjDxIdeal.Sums.arr m c).symm)
      refine congr (congr (congrArg _ ?_) ?_) ?_ <;> first | exact h0 | exact h1 | exact h2 | rfl

theorem proj_fwd_ref : Cert.quiescent_ProjFwdRefIdeal := fun m g _ =>
  (θ_run Cert.ProjFwdRefIdeal.defs _ _).mono (fun r h => ⟨fun c => (h c).2, sem_eq_zero_of_no_sems (by decide) r.2⟩)
    (Cert.ProjFwdRefIdeal.Value.run m g)

theorem proj_fwd : Cert.algebraic_ProjFwdIdeal_ProjFwdRefIdeal := by
  pair_intro
  · run_from Cert.ProjFwdIdeal.Value.run_blocks m g
  · run_from Cert.ProjFwdRefIdeal.Value.run m' g'
    · obtain ⟨h0, h1⟩ := hagree c
      refine (Cert.ProjFwdRefIdeal.Sums.ref _ _).trans (Eq.trans ?_ (Cert.ProjFwdIdeal.Sums.arr m c).symm)
      refine congr (congrArg _ ?_) ?_ <;> first | exact h0 | exact h1 | rfl

theorem out_fwd_ref : Cert.quiescent_OutFwdRefIdeal := fun m g _ =>
  (θ_run Cert.OutFwdRefIdeal.defs _ _).mono (fun r h => ⟨fun c => (h c).2, sem_eq_zero_of_no_sems (by decide) r.2⟩)
    (Cert.OutFwdRefIdeal.Value.run m g)

theorem out_fwd : Cert.algebraic_OutFwdIdeal_OutFwdRefIdeal := by
  pair_intro
  · run_from Cert.OutFwdIdeal.Value.run_blocks m g
  · run_from Cert.OutFwdRefIdeal.Value.run m' g'
    · obtain ⟨h0, h1⟩ := hagree c
      refine (Cert.OutFwdRefIdeal.Sums.ref _ _).trans (Eq.trans ?_ (Cert.OutFwdIdeal.Sums.arr m c).symm)
      refine congr (congrArg _ ?_) ?_ <;> first | exact h0 | exact h1 | rfl

theorem up_fwd_ref : Cert.quiescent_UpFwdRefIdeal := fun m g _ =>
  (θ_run Cert.UpFwdRefIdeal.defs _ _).mono (fun r h => ⟨fun c => (h c).2, sem_eq_zero_of_no_sems (by decide) r.2⟩)
    (Cert.UpFwdRefIdeal.Value.run m g)

theorem up_fwd : Cert.algebraic_UpFwdIdeal_UpFwdRefIdeal := by
  pair_intro
  · run_from Cert.UpFwdIdeal.Value.run_blocks m g
  · run_from Cert.UpFwdRefIdeal.Value.run m' g'
    · obtain ⟨h0, h1⟩ := hagree c
      refine (Cert.UpFwdRefIdeal.Sums.ref _ _).trans (Eq.trans ?_ (Cert.UpFwdIdeal.Sums.arr m c).symm)
      refine congr (congrArg _ ?_) ?_ <;> first | exact h0 | exact h1 | rfl

theorem down_fwd_ref : Cert.quiescent_DownFwdRefIdeal := fun m g _ =>
  (θ_run Cert.DownFwdRefIdeal.defs _ _).mono (fun r h => ⟨fun c => (h c).2, sem_eq_zero_of_no_sems (by decide) r.2⟩)
    (Cert.DownFwdRefIdeal.Value.run m g)

theorem down_fwd : Cert.algebraic_DownFwdIdeal_DownFwdRefIdeal := by
  pair_intro
  · run_from Cert.DownFwdIdeal.Value.run_blocks m g
  · run_from Cert.DownFwdRefIdeal.Value.run m' g'
    · obtain ⟨h0, h1⟩ := hagree c
      refine (Cert.DownFwdRefIdeal.Sums.ref _ _).trans (Eq.trans ?_ (Cert.DownFwdIdeal.Sums.arr m c).symm)
      refine congr (congrArg _ ?_) ?_ <;> first | exact h0 | exact h1 | rfl

end Cert.Products

end
-- ==== Proof.Adam.lean ====
/- The arithmetic of AdamW on one element. -/
module

public import Idealize.ShloMosaic.Lib.IdealHost
public import Idealize.ShloMosaic.Lib.Pipeline.ValueKit
public import Idealize.ShloMosaic.Lib.Claim

@[expose] public section

noncomputable section

namespace Cert.Adam

open Idealize.ShloMosaic

/-- The first moment after a gradient `g`. -/
def first (g m : EReal) : EReal := Ideal.ofBits .f32 0x3F666666#32 * m + Ideal.ofBits .f32 0x3DCCCCCD#32 * g

/-- The second moment after a gradient `g`. -/
def second (g v : EReal) : EReal := Ideal.ofBits .f32 0x3F7FBE77#32 * v + Ideal.ofBits .f32 0x3A83126F#32 * (g * g)

/-- The step, from the weight and the corrected moments. -/
def step (w a b : EReal) : EReal :=
  Ideal.ofBits .f32 0xBA83126F#32 * (Ideal.div a (Ideal.sqrt b + Ideal.ofBits .f32 0x322BCC77#32)
    + Ideal.ofBits .f32 0x3C23D70A#32 * w)

theorem bias1 : Ideal.ofBits .f32 0x3F26BD02#32 = ((5463681 / 8388608 : ℝ) : EReal) := by
  simp [Ideal.ofBits, Ideal.ieee]
  rw [← EReal.coe_mul]
  norm_num

theorem bias2 : Ideal.ofBits .f32 0x3C231ACC#32 = ((2672307 / 268435456 : ℝ) : EReal) := by
  simp [Ideal.ofBits, Ideal.ieee]
  rw [← EReal.coe_mul]
  norm_num

/-- Dividing by the first moment's correction. -/
theorem div1 (x : EReal) : Ideal.div x (Ideal.ofBits .f32 0x3F26BD02#32) = x * ((8388608 / 5463681 : ℝ) : EReal) := by
  rw [bias1, Ideal.div_coe (by norm_num)]
  norm_num

/-- Dividing by the second moment's correction. -/
theorem div2 (x : EReal) : Ideal.div x (Ideal.ofBits .f32 0x3C231ACC#32) = x * ((268435456 / 2672307 : ℝ) : EReal) := by
  rw [bias2, Ideal.div_coe (by norm_num)]
  norm_num

end Cert.Adam

end
-- ==== Proof.AdamDown.lean ====
/- The FFN's lower weight: one step of AdamW. -/
module

public import proofs.«01_k».proof.Proof.Adam
public import proofs.«01_k».proof.Proof.Gen.AdamDownIdeal.Value
public import proofs.«01_k».proof.Proof.Gen.AdamDownRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamDownIdeal.Sums

open Idealize.ShloMosaic Idealize.ShloMosaic.TcCoe Cert.AdamDownIdeal Cert.AdamDownIdeal.Gen Cert.Adam
open Idealize.ShloMosaic.Pipeline

/-- The gradient: the sum of the four partial sums. -/
def grad (r : FVec Ideal S4x704x2048 .bf16) : FVec Ideal S704x2048 .f32 := fun i =>
  r (ix3 0 (i 0) (i 1)) + r (ix3 1 (i 0) (i 1)) + r (ix3 2 (i 0) (i 1)) + r (ix3 3 (i 0) (i 1))

/-- The first moment. -/
def new_p (r : FVec Ideal S4x704x2048 .bf16) (p : FVec Ideal S704x2048 .f32) : FVec Ideal S704x2048 .f32 := fun i => first (grad r i) (p i)

/-- The second moment. -/
def new_s (r : FVec Ideal S4x704x2048 .bf16) (s : FVec Ideal S704x2048 .f32) : FVec Ideal S704x2048 .f32 := fun i => second (grad r i) (s i)

/-- The change of the weight. -/
def delta (r : FVec Ideal S4x704x2048 .bf16) (w : FVec Ideal S704x2048 .f32) (p : FVec Ideal S704x2048 .f32) (s : FVec Ideal S704x2048 .f32) : FVec Ideal S704x2048 .f32 := fun i =>
  step (w i) (first (grad r i) (p i) * ((8388608 / 5463681 : ℝ) : EReal)) (second (grad r i) (s i) * ((268435456 / 2672307 : ℝ) : EReal))

theorem inv1 : Named.named (F := Ideal) κ "inv_bias1" (φ := .f32) 0x3FC48605#32 = ((8388608 / 5463681 : ℝ) : EReal) :=
  IdealRules.named_const.ideal_named_scalar _ _ _ _ rfl

theorem inv2 : Named.named (F := Ideal) κ "inv_bias2" (φ := .f32) 0x42C8E6D3#32 = ((268435456 / 2672307 : ℝ) : EReal) :=
  IdealRules.named_const.ideal_named_scalar _ _ _ _ rfl

variable (m : (ℓ : Loc nD τ sig) → Buf (Elt Ideal) ℓ) (c : Dev nD)

/-- Where each window's block lies. -/
theorem at0 : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A block's gradient. -/
def part (r : S4x176x2048.Idx → EReal) (y : S176x2048.Idx) : EReal :=
  r (ix3 0 (y 0) (y 1)) + r (ix3 1 (y 0) (y 1)) + r (ix3 2 (y 0) (y 1)) + r (ix3 3 (y 0) (y 1))

theorem g_blk (r : FVec Ideal S4x176x2048 .bf16) (w : FVec Ideal S176x2048 .f32) (p : FVec Ideal S176x2048 .f32) (s : FVec Ideal S176x2048 .f32) (y : S176x2048.Idx) : out0_4 (F := Ideal) r w p s y = part r y := by
  unfold out0_4 part
  frame_out
  idx_vars y
  pointwise [k0_pay1, k0_pay2, k0_pay3, k0_pay4, k0_pay5, k0_pay6]

theorem d_blk (r : FVec Ideal S4x176x2048 .bf16) (w : FVec Ideal S176x2048 .f32) (p : FVec Ideal S176x2048 .f32) (s : FVec Ideal S176x2048 .f32) (y : S176x2048.Idx) : out0_5 (F := Ideal) r w p s y = step (w y) (first (part r y) (p y) * ((8388608 / 5463681 : ℝ) : EReal)) (second (part r y) (s y) * ((268435456 / 2672307 : ℝ) : EReal)) := by
  unfold out0_5 first second step part
  frame_out
  idx_vars y
  pointwise [k0_pay1, k0_pay2, k0_pay3, k0_pay4, k0_pay5, k0_pay6]
  rw [inv1, inv2]

theorem m_blk (r : FVec Ideal S4x176x2048 .bf16) (w : FVec Ideal S176x2048 .f32) (p : FVec Ideal S176x2048 .f32) (s : FVec Ideal S176x2048 .f32) (y : S176x2048.Idx) : out0_6 (F := Ideal) r w p s y = first (part r y) (p y) := by
  unfold out0_6 first part
  frame_out
  idx_vars y
  pointwise [k0_pay1, k0_pay2, k0_pay3, k0_pay4, k0_pay5, k0_pay6]

theorem v_blk (r : FVec Ideal S4x176x2048 .bf16) (w : FVec Ideal S176x2048 .f32) (p : FVec Ideal S176x2048 .f32) (s : FVec Ideal S176x2048 .f32) (y : S176x2048.Idx) : out0_7 (F := Ideal) r w p s y = second (part r y) (s y) := by
  unfold out0_7 second part
  frame_out
  idx_vars y
  pointwise [k0_pay1, k0_pay2, k0_pay3, k0_pay4, k0_pay5, k0_pay6]

theorem x0_at (t : Fin cfg0.N) (b : Fin 4) (y : S176x2048.Idx) (i : S704x2048.Idx) (hr : (i 0).val = 176 * t.val + (y 0).val) (hj : (i 1).val = (y 1).val) :
    iblk m c 0 t (ix3 b (y 0) (y 1)) = m (c, Proc.tc.devRef main_arg0) (ix3 b (i 0) (i 1)) := by
  have e0 := (at0 t).1
  unfold iblk; blk_simp; rw [V_main_arg0]; blk_ext [e0]

theorem part_at (t : Fin cfg0.N) (y : S176x2048.Idx) (i : S704x2048.Idx) (hr : (i 0).val = 176 * t.val + (y 0).val) (hj : (i 1).val = (y 1).val) :
    part (iblk m c 0 t) y = grad (m (c, Proc.tc.devRef main_arg0)) i := by
  unfold part grad
  exact congr (congrArg _ (congr (congrArg _ (congr (congrArg _ (x0_at m c t 0 y i hr hj)) (x0_at m c t 1 y i hr hj)))
    (x0_at m c t 2 y i hr hj))) (x0_at m c t 3 y i hr hj)

theorem x1_at (t : Fin cfg0.N) (y : S176x2048.Idx) (i : S704x2048.Idx) (hr : (i 0).val = 176 * t.val + (y 0).val) (hj : (i 1).val = (y 1).val) :
    iblk m c 1 t y = m (c, Proc.tc.devRef main_arg1) i := by
  have e0 := (at0 t).2.1
  unfold iblk; blk_simp; rw [V_main_arg1]; blk_ext [e0]

theorem x2_at (t : Fin cfg0.N) (y : S176x2048.Idx) (i : S704x2048.Idx) (hr : (i 0).val = 176 * t.val + (y 0).val) (hj : (i 1).val = (y 1).val) :
    iblk m c 2 t y = m (c, Proc.tc.devRef main_arg2) i := by
  have e0 := (at0 t).2.2.1
  unfold iblk; blk_simp; rw [V_main_arg2]; blk_ext [e0]

theorem x3_at (t : Fin cfg0.N) (y : S176x2048.Idx) (i : S704x2048.Idx) (hr : (i 0).val = 176 * t.val + (y 0).val) (hj : (i 1).val = (y 1).val) :
    iblk m c 3 t y = m (c, Proc.tc.devRef main_arg3) i := by
  have e0 := (at0 t).2.2.2.1
  unfold iblk; blk_simp; rw [V_main_arg3]; blk_ext [e0]

theorem g_point (t : Fin cfg0.N) (y : S176x2048.Idx) (i : S704x2048.Idx) (hr : (i 0).val = 176 * t.val + (y 0).val) (hj : (i 1).val = (y 1).val) :
    out0_4 (iblk m c 0 t) (iblk m c 1 t) (iblk m c 2 t) (iblk m c 3 t) y = grad (m (c, Proc.tc.devRef main_arg0)) i :=
  (g_blk _ _ _ _ y).trans ((part_at m c t y i hr hj))

theorem g_arr : (dats m 0 c).arrAt 4 cfg0.N = grad (m (c, Proc.tc.devRef main_arg0)) := by
  refine (dats m 0 c).arrAt_eq_of_covers 4 _ (by decide +kernel) fun t hf y => ?_
  blk_simp
  rw [after0_4]
  have e2 := (at0 t).2.2.2.2.1
  refine g_point m c t _ _ ?_ ?_ <;> blk_simp [e2] <;> simp <;> omega

theorem d_point (t : Fin cfg0.N) (y : S176x2048.Idx) (i : S704x2048.Idx) (hr : (i 0).val = 176 * t.val + (y 0).val) (hj : (i 1).val = (y 1).val) :
    out0_5 (iblk m c 0 t) (iblk m c 1 t) (iblk m c 2 t) (iblk m c 3 t) y = delta (m (c, Proc.tc.devRef main_arg0)) (m (c, Proc.tc.devRef main_arg1)) (m (c, Proc.tc.devRef main_arg2)) (m (c, Proc.tc.devRef main_arg3)) i :=
  (d_blk _ _ _ _ y).trans (congr (congr (congrArg step (x1_at m c t y i hr hj)) (congrArg (fun z : EReal => z * _) (congr (congrArg first (part_at m c t y i hr hj)) (x2_at m c t y i hr hj)))) (congrArg (fun z : EReal => z * _) (congr (congrArg second (part_at m c t y i hr hj)) (x3_at m c t y i hr hj))))

theorem d_arr : (dats m 0 c).arrAt 5 cfg0.N = delta (m (c, Proc.tc.devRef main_arg0)) (m (c, Proc.tc.devRef main_arg1)) (m (c, Proc.tc.devRef main_arg2)) (m (c, Proc.tc.devRef main_arg3)) := by
  refine (dats m 0 c).arrAt_eq_of_covers 5 _ (by decide +kernel) fun t hf y => ?_
  blk_simp
  rw [after0_5]
  have e2 := (at0 t).2.2.2.2.2.1
  refine d_point m c t _ _ ?_ ?_ <;> blk_simp [e2] <;> simp <;> omega

theorem m_point (t : Fin cfg0.N) (y : S176x2048.Idx) (i : S704x2048.Idx) (hr : (i 0).val = 176 * t.val + (y 0).val) (hj : (i 1).val = (y 1).val) :
    out0_6 (iblk m c 0 t) (iblk m c 1 t) (iblk m c 2 t) (iblk m c 3 t) y = new_p (m (c, Proc.tc.devRef main_arg0)) (m (c, Proc.tc.devRef main_arg2)) i :=
  (m_blk _ _ _ _ y).trans ((congr (congrArg first (part_at m c t y i hr hj)) (x2_at m c t y i hr hj)))

theorem m_arr : (dats m 0 c).arrAt 6 cfg0.N = new_p (m (c, Proc.tc.devRef main_arg0)) (m (c, Proc.tc.devRef main_arg2)) := by
  refine (dats m 0 c).arrAt_eq_of_covers 6 _ (by decide +kernel) fun t hf y => ?_
  blk_simp
  rw [after0_6]
  have e2 := (at0 t).2.2.2.2.2.2.1
  refine m_point m c t _ _ ?_ ?_ <;> blk_simp [e2] <;> simp <;> omega

theorem v_point (t : Fin cfg0.N) (y : S176x2048.Idx) (i : S704x2048.Idx) (hr : (i 0).val = 176 * t.val + (y 0).val) (hj : (i 1).val = (y 1).val) :
    out0_7 (iblk m c 0 t) (iblk m c 1 t) (iblk m c 2 t) (iblk m c 3 t) y = new_s (m (c, Proc.tc.devRef main_arg0)) (m (c, Proc.tc.devRef main_arg3)) i :=
  (v_blk _ _ _ _ y).trans ((congr (congrArg second (part_at m c t y i hr hj)) (x3_at m c t y i hr hj)))

theorem v_arr : (dats m 0 c).arrAt 7 cfg0.N = new_s (m (c, Proc.tc.devRef main_arg0)) (m (c, Proc.tc.devRef main_arg3)) := by
  refine (dats m 0 c).arrAt_eq_of_covers 7 _ (by decide +kernel) fun t hf y => ?_
  blk_simp
  rw [after0_7]
  have e2 := (at0 t).2.2.2.2.2.2.2
  refine v_point m c t _ _ ?_ ?_ <;> blk_simp [e2] <;> simp <;> omega

end Cert.AdamDownIdeal.Sums

namespace Cert.AdamDownRefIdeal.Sums

open Idealize.ShloMosaic Cert.AdamDownRefIdeal Cert.AdamDownRefIdeal.Gen Cert.Adam

theorem g_ref (r : FVec Ideal S4x704x2048 .bf16) : Host.reduceAdd (extf .f32 r bitsLt_bf16_f32) (constant S_ .f32 0x00000000#32) reducesTo_S4x704x2048_S704x2048_d0 h_S_
    = Cert.AdamDownIdeal.Sums.grad r := by
  funext i
  unfold Cert.AdamDownIdeal.Sums.grad
  idx_vars i
  pointwise
  rw [Fin.sum_univ_four]

theorem d_ref (r : FVec Ideal S4x704x2048 .bf16) (w : FVec Ideal S704x2048 .f32) (p : FVec Ideal S704x2048 .f32) (s : FVec Ideal S704x2048 .f32) : mulf (broadcastInDim S704x2048 ![] bcast_S_S704x2048 (constant S_ .f32 0xBA83126F#32)) (addf (Host.divf (Host.divf (addf (mulf (broadcastInDim S704x2048 ![] bcast_S_S704x2048 (constant S_ .f32 0x3F666666#32)) p) (mulf (broadcastInDim S704x2048 ![] bcast_S_S704x2048 (constant S_ .f32 0x3DCCCCCD#32)) (Host.reduceAdd (extf .f32 r bitsLt_bf16_f32) (constant S_ .f32 0x00000000#32) reducesTo_S4x704x2048_S704x2048_d0 h_S_))) (broadcastInDim S704x2048 ![] bcast_S_S704x2048 (constant S_ .f32 0x3F26BD02#32))) (addf (Host.sqrt (Host.divf (addf (mulf (broadcastInDim S704x2048 ![] bcast_S_S704x2048 (constant S_ .f32 0x3F7FBE77#32)) s) (mulf (broadcastInDim S704x2048 ![] bcast_S_S704x2048 (constant S_ .f32 0x3A83126F#32)) (mulf (Host.reduceAdd (extf .f32 r bitsLt_bf16_f32) (constant S_ .f32 0x00000000#32) reducesTo_S4x704x2048_S704x2048_d0 h_S_) (Host.reduceAdd (extf .f32 r bitsLt_bf16_f32) (constant S_ .f32 0x00000000#32) reducesTo_S4x704x2048_S704x2048_d0 h_S_)))) (broadcastInDim S704x2048 ![] bcast_S_S704x2048 (constant S_ .f32 0x3C231ACC#32)))) (broadcastInDim S704x2048 ![] bcast_S_S704x2048 (constant S_ .f32 0x322BCC77#32)))) (mulf (broadcastInDim S704x2048 ![] bcast_S_S704x2048 (constant S_ .f32 0x3C23D70A#32)) w))
    = Cert.AdamDownIdeal.Sums.delta r w p s := by
  funext i
  unfold Cert.AdamDownIdeal.Sums.delta Cert.AdamDownIdeal.Sums.grad first second step
  idx_vars i
  pointwise
  rw [div1, div2]
  rw [Fin.sum_univ_four]

theorem m_ref (r : FVec Ideal S4x704x2048 .bf16) (p : FVec Ideal S704x2048 .f32) : addf (mulf (broadcastInDim S704x2048 ![] bcast_S_S704x2048 (constant S_ .f32 0x3F666666#32)) p) (mulf (broadcastInDim S704x2048 ![] bcast_S_S704x2048 (constant S_ .f32 0x3DCCCCCD#32)) (Host.reduceAdd (extf .f32 r bitsLt_bf16_f32) (constant S_ .f32 0x00000000#32) reducesTo_S4x704x2048_S704x2048_d0 h_S_))
    = Cert.AdamDownIdeal.Sums.new_p r p := by
  funext i
  unfold Cert.AdamDownIdeal.Sums.new_p Cert.AdamDownIdeal.Sums.grad first
  idx_vars i
  pointwise
  rw [Fin.sum_univ_four]

theorem v_ref (r : FVec Ideal S4x704x2048 .bf16) (s : FVec Ideal S704x2048 .f32) : addf (mulf (broadcastInDim S704x2048 ![] bcast_S_S704x2048 (constant S_ .f32 0x3F7FBE77#32)) s) (mulf (broadcastInDim S704x2048 ![] bcast_S_S704x2048 (constant S_ .f32 0x3A83126F#32)) (mulf (Host.reduceAdd (extf .f32 r bitsLt_bf16_f32) (constant S_ .f32 0x00000000#32) reducesTo_S4x704x2048_S704x2048_d0 h_S_) (Host.reduceAdd (extf .f32 r bitsLt_bf16_f32) (constant S_ .f32 0x00000000#32) reducesTo_S4x704x2048_S704x2048_d0 h_S_)))
    = Cert.AdamDownIdeal.Sums.new_s r s := by
  funext i
  unfold Cert.AdamDownIdeal.Sums.new_s Cert.AdamDownIdeal.Sums.grad second
  idx_vars i
  pointwise
  rw [Fin.sum_univ_four]

end Cert.AdamDownRefIdeal.Sums

end
-- ==== Proof.AdamUp.lean ====
/- The FFN's upper weight: one step of AdamW. -/
module

public import proofs.«01_k».proof.Proof.Adam
public import proofs.«01_k».proof.Proof.Gen.AdamUpIdeal.Value
public import proofs.«01_k».proof.Proof.Gen.AdamUpRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamUpIdeal.Sums

open Idealize.ShloMosaic Idealize.ShloMosaic.TcCoe Cert.AdamUpIdeal Cert.AdamUpIdeal.Gen Cert.Adam
open Idealize.ShloMosaic.Pipeline

/-- The gradient: the sum of the four partial sums. -/
def grad (r : FVec Ideal S4x2048x1408 .bf16) : FVec Ideal S2048x1408 .f32 := fun i =>
  r (ix3 0 (i 0) (i 1)) + r (ix3 1 (i 0) (i 1)) + r (ix3 2 (i 0) (i 1)) + r (ix3 3 (i 0) (i 1))

/-- The first moment. -/
def new_p (r : FVec Ideal S4x2048x1408 .bf16) (p : FVec Ideal S2048x1408 .f32) : FVec Ideal S2048x1408 .f32 := fun i => first (grad r i) (p i)

/-- The second moment. -/
def new_s (r : FVec Ideal S4x2048x1408 .bf16) (s : FVec Ideal S2048x1408 .f32) : FVec Ideal S2048x1408 .f32 := fun i => second (grad r i) (s i)

/-- The change of the weight. -/
def delta (r : FVec Ideal S4x2048x1408 .bf16) (w : FVec Ideal S2048x1408 .f32) (p : FVec Ideal S2048x1408 .f32) (s : FVec Ideal S2048x1408 .f32) : FVec Ideal S2048x1408 .f32 := fun i =>
  step (w i) (first (grad r i) (p i) * ((8388608 / 5463681 : ℝ) : EReal)) (second (grad r i) (s i) * ((268435456 / 2672307 : ℝ) : EReal))

theorem inv1 : Named.named (F := Ideal) κ "inv_bias1" (φ := .f32) 0x3FC48605#32 = ((8388608 / 5463681 : ℝ) : EReal) :=
  IdealRules.named_const.ideal_named_scalar _ _ _ _ rfl

theorem inv2 : Named.named (F := Ideal) κ "inv_bias2" (φ := .f32) 0x42C8E6D3#32 = ((268435456 / 2672307 : ℝ) : EReal) :=
  IdealRules.named_const.ideal_named_scalar _ _ _ _ rfl

variable (m : (ℓ : Loc nD τ sig) → Buf (Elt Ideal) ℓ) (c : Dev nD)

/-- Where each window's block lies. -/
theorem at0 : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A block's gradient. -/
def part (r : S4x256x1408.Idx → EReal) (y : S256x1408.Idx) : EReal :=
  r (ix3 0 (y 0) (y 1)) + r (ix3 1 (y 0) (y 1)) + r (ix3 2 (y 0) (y 1)) + r (ix3 3 (y 0) (y 1))

theorem g_blk (r : FVec Ideal S4x256x1408 .bf16) (w : FVec Ideal S256x1408 .f32) (p : FVec Ideal S256x1408 .f32) (s : FVec Ideal S256x1408 .f32) (y : S256x1408.Idx) : out0_4 (F := Ideal) r w p s y = part r y := by
  unfold out0_4 part
  frame_out
  idx_vars y
  pointwise [k0_pay1, k0_pay2, k0_pay3, k0_pay4, k0_pay5, k0_pay6]

theorem d_blk (r : FVec Ideal S4x256x1408 .bf16) (w : FVec Ideal S256x1408 .f32) (p : FVec Ideal S256x1408 .f32) (s : FVec Ideal S256x1408 .f32) (y : S256x1408.Idx) : out0_5 (F := Ideal) r w p s y = step (w y) (first (part r y) (p y) * ((8388608 / 5463681 : ℝ) : EReal)) (second (part r y) (s y) * ((268435456 / 2672307 : ℝ) : EReal)) := by
  unfold out0_5 first second step part
  frame_out
  idx_vars y
  pointwise [k0_pay1, k0_pay2, k0_pay3, k0_pay4, k0_pay5, k0_pay6]
  rw [inv1, inv2]

theorem m_blk (r : FVec Ideal S4x256x1408 .bf16) (w : FVec Ideal S256x1408 .f32) (p : FVec Ideal S256x1408 .f32) (s : FVec Ideal S256x1408 .f32) (y : S256x1408.Idx) : out0_6 (F := Ideal) r w p s y = first (part r y) (p y) := by
  unfold out0_6 first part
  frame_out
  idx_vars y
  pointwise [k0_pay1, k0_pay2, k0_pay3, k0_pay4, k0_pay5, k0_pay6]

theorem v_blk (r : FVec Ideal S4x256x1408 .bf16) (w : FVec Ideal S256x1408 .f32) (p : FVec Ideal S256x1408 .f32) (s : FVec Ideal S256x1408 .f32) (y : S256x1408.Idx) : out0_7 (F := Ideal) r w p s y = second (part r y) (s y) := by
  unfold out0_7 second part
  frame_out
  idx_vars y
  pointwise [k0_pay1, k0_pay2, k0_pay3, k0_pay4, k0_pay5, k0_pay6]

theorem x0_at (t : Fin cfg0.N) (b : Fin 4) (y : S256x1408.Idx) (i : S2048x1408.Idx) (hr : (i 0).val = 256 * t.val + (y 0).val) (hj : (i 1).val = (y 1).val) :
    iblk m c 0 t (ix3 b (y 0) (y 1)) = m (c, Proc.tc.devRef main_arg0) (ix3 b (i 0) (i 1)) := by
  have e0 := (at0 t).1
  unfold iblk; blk_simp; rw [V_main_arg0]; blk_ext [e0]

theorem part_at (t : Fin cfg0.N) (y : S256x1408.Idx) (i : S2048x1408.Idx) (hr : (i 0).val = 256 * t.val + (y 0).val) (hj : (i 1).val = (y 1).val) :
    part (iblk m c 0 t) y = grad (m (c, Proc.tc.devRef main_arg0)) i := by
  unfold part grad
  exact congr (congrArg _ (congr (congrArg _ (congr (congrArg _ (x0_at m c t 0 y i hr hj)) (x0_at m c t 1 y i hr hj)))
    (x0_at m c t 2 y i hr hj))) (x0_at m c t 3 y i hr hj)

theorem x1_at (t : Fin cfg0.N) (y : S256x1408.Idx) (i : S2048x1408.Idx) (hr : (i 0).val = 256 * t.val + (y 0).val) (hj : (i 1).val = (y 1).val) :
    iblk m c 1 t y = m (c, Proc.tc.devRef main_arg1) i := by
  have e0 := (at0 t).2.1
  unfold iblk; blk_simp; rw [V_main_arg1]; blk_ext [e0]

theorem x2_at (t : Fin cfg0.N) (y : S256x1408.Idx) (i : S2048x1408.Idx) (hr : (i 0).val = 256 * t.val + (y 0).val) (hj : (i 1).val = (y 1).val) :
    iblk m c 2 t y = m (c, Proc.tc.devRef main_arg2) i := by
  have e0 := (at0 t).2.2.1
  unfold iblk; blk_simp; rw [V_main_arg2]; blk_ext [e0]

theorem x3_at (t : Fin cfg0.N) (y : S256x1408.Idx) (i : S2048x1408.Idx) (hr : (i 0).val = 256 * t.val + (y 0).val) (hj : (i 1).val = (y 1).val) :
    iblk m c 3 t y = m (c, Proc.tc.devRef main_arg3) i := by
  have e0 := (at0 t).2.2.2.1
  unfold iblk; blk_simp; rw [V_main_arg3]; blk_ext [e0]

theorem g_point (t : Fin cfg0.N) (y : S256x1408.Idx) (i : S2048x1408.Idx) (hr : (i 0).val = 256 * t.val + (y 0).val) (hj : (i 1).val = (y 1).val) :
    out0_4 (iblk m c 0 t) (iblk m c 1 t) (iblk m c 2 t) (iblk m c 3 t) y = grad (m (c, Proc.tc.devRef main_arg0)) i :=
  (g_blk _ _ _ _ y).trans ((part_at m c t y i hr hj))

theorem g_arr : (dats m 0 c).arrAt 4 cfg0.N = grad (m (c, Proc.tc.devRef main_arg0)) := by
  refine (dats m 0 c).arrAt_eq_of_covers 4 _ (by decide +kernel) fun t hf y => ?_
  blk_simp
  rw [after0_4]
  have e2 := (at0 t).2.2.2.2.1
  refine g_point m c t _ _ ?_ ?_ <;> blk_simp [e2] <;> simp <;> omega

theorem d_point (t : Fin cfg0.N) (y : S256x1408.Idx) (i : S2048x1408.Idx) (hr : (i 0).val = 256 * t.val + (y 0).val) (hj : (i 1).val = (y 1).val) :
    out0_5 (iblk m c 0 t) (iblk m c 1 t) (iblk m c 2 t) (iblk m c 3 t) y = delta (m (c, Proc.tc.devRef main_arg0)) (m (c, Proc.tc.devRef main_arg1)) (m (c, Proc.tc.devRef main_arg2)) (m (c, Proc.tc.devRef main_arg3)) i :=
  (d_blk _ _ _ _ y).trans (congr (congr (congrArg step (x1_at m c t y i hr hj)) (congrArg (fun z : EReal => z * _) (congr (congrArg first (part_at m c t y i hr hj)) (x2_at m c t y i hr hj)))) (congrArg (fun z : EReal => z * _) (congr (congrArg second (part_at m c t y i hr hj)) (x3_at m c t y i hr hj))))

theorem d_arr : (dats m 0 c).arrAt 5 cfg0.N = delta (m (c, Proc.tc.devRef main_arg0)) (m (c, Proc.tc.devRef main_arg1)) (m (c, Proc.tc.devRef main_arg2)) (m (c, Proc.tc.devRef main_arg3)) := by
  refine (dats m 0 c).arrAt_eq_of_covers 5 _ (by decide +kernel) fun t hf y => ?_
  blk_simp
  rw [after0_5]
  have e2 := (at0 t).2.2.2.2.2.1
  refine d_point m c t _ _ ?_ ?_ <;> blk_simp [e2] <;> simp <;> omega

theorem m_point (t : Fin cfg0.N) (y : S256x1408.Idx) (i : S2048x1408.Idx) (hr : (i 0).val = 256 * t.val + (y 0).val) (hj : (i 1).val = (y 1).val) :
    out0_6 (iblk m c 0 t) (iblk m c 1 t) (iblk m c 2 t) (iblk m c 3 t) y = new_p (m (c, Proc.tc.devRef main_arg0)) (m (c, Proc.tc.devRef main_arg2)) i :=
  (m_blk _ _ _ _ y).trans ((congr (congrArg first (part_at m c t y i hr hj)) (x2_at m c t y i hr hj)))

theorem m_arr : (dats m 0 c).arrAt 6 cfg0.N = new_p (m (c, Proc.tc.devRef main_arg0)) (m (c, Proc.tc.devRef main_arg2)) := by
  refine (dats m 0 c).arrAt_eq_of_covers 6 _ (by decide +kernel) fun t hf y => ?_
  blk_simp
  rw [after0_6]
  have e2 := (at0 t).2.2.2.2.2.2.1
  refine m_point m c t _ _ ?_ ?_ <;> blk_simp [e2] <;> simp <;> omega

theorem v_point (t : Fin cfg0.N) (y : S256x1408.Idx) (i : S2048x1408.Idx) (hr : (i 0).val = 256 * t.val + (y 0).val) (hj : (i 1).val = (y 1).val) :
    out0_7 (iblk m c 0 t) (iblk m c 1 t) (iblk m c 2 t) (iblk m c 3 t) y = new_s (m (c, Proc.tc.devRef main_arg0)) (m (c, Proc.tc.devRef main_arg3)) i :=
  (v_blk _ _ _ _ y).trans ((congr (congrArg second (part_at m c t y i hr hj)) (x3_at m c t y i hr hj)))

theorem v_arr : (dats m 0 c).arrAt 7 cfg0.N = new_s (m (c, Proc.tc.devRef main_arg0)) (m (c, Proc.tc.devRef main_arg3)) := by
  refine (dats m 0 c).arrAt_eq_of_covers 7 _ (by decide +kernel) fun t hf y => ?_
  blk_simp
  rw [after0_7]
  have e2 := (at0 t).2.2.2.2.2.2.2
  refine v_point m c t _ _ ?_ ?_ <;> blk_simp [e2] <;> simp <;> omega

end Cert.AdamUpIdeal.Sums

namespace Cert.AdamUpRefIdeal.Sums

open Idealize.ShloMosaic Cert.AdamUpRefIdeal Cert.AdamUpRefIdeal.Gen Cert.Adam

theorem g_ref (r : FVec Ideal S4x2048x1408 .bf16) : Host.reduceAdd (extf .f32 r bitsLt_bf16_f32) (constant S_ .f32 0x00000000#32) reducesTo_S4x2048x1408_S2048x1408_d0 h_S_
    = Cert.AdamUpIdeal.Sums.grad r := by
  funext i
  unfold Cert.AdamUpIdeal.Sums.grad
  idx_vars i
  pointwise
  rw [Fin.sum_univ_four]

theorem d_ref (r : FVec Ideal S4x2048x1408 .bf16) (w : FVec Ideal S2048x1408 .f32) (p : FVec Ideal S2048x1408 .f32) (s : FVec Ideal S2048x1408 .f32) : mulf (broadcastInDim S2048x1408 ![] bcast_S_S2048x1408 (constant S_ .f32 0xBA83126F#32)) (addf (Host.divf (Host.divf (addf (mulf (broadcastInDim S2048x1408 ![] bcast_S_S2048x1408 (constant S_ .f32 0x3F666666#32)) p) (mulf (broadcastInDim S2048x1408 ![] bcast_S_S2048x1408 (constant S_ .f32 0x3DCCCCCD#32)) (Host.reduceAdd (extf .f32 r bitsLt_bf16_f32) (constant S_ .f32 0x00000000#32) reducesTo_S4x2048x1408_S2048x1408_d0 h_S_))) (broadcastInDim S2048x1408 ![] bcast_S_S2048x1408 (constant S_ .f32 0x3F26BD02#32))) (addf (Host.sqrt (Host.divf (addf (mulf (broadcastInDim S2048x1408 ![] bcast_S_S2048x1408 (constant S_ .f32 0x3F7FBE77#32)) s) (mulf (broadcastInDim S2048x1408 ![] bcast_S_S2048x1408 (constant S_ .f32 0x3A83126F#32)) (mulf (Host.reduceAdd (extf .f32 r bitsLt_bf16_f32) (constant S_ .f32 0x00000000#32) reducesTo_S4x2048x1408_S2048x1408_d0 h_S_) (Host.reduceAdd (extf .f32 r bitsLt_bf16_f32) (constant S_ .f32 0x00000000#32) reducesTo_S4x2048x1408_S2048x1408_d0 h_S_)))) (broadcastInDim S2048x1408 ![] bcast_S_S2048x1408 (constant S_ .f32 0x3C231ACC#32)))) (broadcastInDim S2048x1408 ![] bcast_S_S2048x1408 (constant S_ .f32 0x322BCC77#32)))) (mulf (broadcastInDim S2048x1408 ![] bcast_S_S2048x1408 (constant S_ .f32 0x3C23D70A#32)) w))
    = Cert.AdamUpIdeal.Sums.delta r w p s := by
  funext i
  unfold Cert.AdamUpIdeal.Sums.delta Cert.AdamUpIdeal.Sums.grad first second step
  idx_vars i
  pointwise
  rw [div1, div2]
  rw [Fin.sum_univ_four]

theorem m_ref (r : FVec Ideal S4x2048x1408 .bf16) (p : FVec Ideal S2048x1408 .f32) : addf (mulf (broadcastInDim S2048x1408 ![] bcast_S_S2048x1408 (constant S_ .f32 0x3F666666#32)) p) (mulf (broadcastInDim S2048x1408 ![] bcast_S_S2048x1408 (constant S_ .f32 0x3DCCCCCD#32)) (Host.reduceAdd (extf .f32 r bitsLt_bf16_f32) (constant S_ .f32 0x00000000#32) reducesTo_S4x2048x1408_S2048x1408_d0 h_S_))
    = Cert.AdamUpIdeal.Sums.new_p r p := by
  funext i
  unfold Cert.AdamUpIdeal.Sums.new_p Cert.AdamUpIdeal.Sums.grad first
  idx_vars i
  pointwise
  rw [Fin.sum_univ_four]

theorem v_ref (r : FVec Ideal S4x2048x1408 .bf16) (s : FVec Ideal S2048x1408 .f32) : addf (mulf (broadcastInDim S2048x1408 ![] bcast_S_S2048x1408 (constant S_ .f32 0x3F7FBE77#32)) s) (mulf (broadcastInDim S2048x1408 ![] bcast_S_S2048x1408 (constant S_ .f32 0x3A83126F#32)) (mulf (Host.reduceAdd (extf .f32 r bitsLt_bf16_f32) (constant S_ .f32 0x00000000#32) reducesTo_S4x2048x1408_S2048x1408_d0 h_S_) (Host.reduceAdd (extf .f32 r bitsLt_bf16_f32) (constant S_ .f32 0x00000000#32) reducesTo_S4x2048x1408_S2048x1408_d0 h_S_)))
    = Cert.AdamUpIdeal.Sums.new_s r s := by
  funext i
  unfold Cert.AdamUpIdeal.Sums.new_s Cert.AdamUpIdeal.Sums.grad second
  idx_vars i
  pointwise
  rw [Fin.sum_univ_four]

end Cert.AdamUpRefIdeal.Sums

end
-- ==== Proof.AdamOut.lean ====
/- The mixer's output weight: one step of AdamW. -/
module

public import proofs.«01_k».proof.Proof.Adam
public import proofs.«01_k».proof.Proof.Gen.AdamOutIdeal.Value
public import proofs.«01_k».proof.Proof.Gen.AdamOutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamOutIdeal.Sums

open Idealize.ShloMosaic Idealize.ShloMosaic.TcCoe Cert.AdamOutIdeal Cert.AdamOutIdeal.Gen Cert.Adam
open Idealize.ShloMosaic.Pipeline

/-- The gradient: the sum of the four partial sums. -/
def grad (r : FVec Ideal S4x256x2048 .bf16) : FVec Ideal S256x2048 .f32 := fun i =>
  r (ix3 0 (i 0) (i 1)) + r (ix3 1 (i 0) (i 1)) + r (ix3 2 (i 0) (i 1)) + r (ix3 3 (i 0) (i 1))

/-- The first moment. -/
def new_p (r : FVec Ideal S4x256x2048 .bf16) (p : FVec Ideal S256x2048 .f32) : FVec Ideal S256x2048 .f32 := fun i => first (grad r i) (p i)

/-- The second moment. -/
def new_s (r : FVec Ideal S4x256x2048 .bf16) (s : FVec Ideal S256x2048 .f32) : FVec Ideal S256x2048 .f32 := fun i => second (grad r i) (s i)

/-- The change of the weight. -/
def delta (r : FVec Ideal S4x256x2048 .bf16) (w : FVec Ideal S256x2048 .f32) (p : FVec Ideal S256x2048 .f32) (s : FVec Ideal S256x2048 .f32) : FVec Ideal S256x2048 .f32 := fun i =>
  step (w i) (first (grad r i) (p i) * ((8388608 / 5463681 : ℝ) : EReal)) (second (grad r i) (s i) * ((268435456 / 2672307 : ℝ) : EReal))

theorem inv1 : Named.named (F := Ideal) κ "inv_bias1" (φ := .f32) 0x3FC48605#32 = ((8388608 / 5463681 : ℝ) : EReal) :=
  IdealRules.named_const.ideal_named_scalar _ _ _ _ rfl

theorem inv2 : Named.named (F := Ideal) κ "inv_bias2" (φ := .f32) 0x42C8E6D3#32 = ((268435456 / 2672307 : ℝ) : EReal) :=
  IdealRules.named_const.ideal_named_scalar _ _ _ _ rfl

variable (m : (ℓ : Loc nD τ sig) → Buf (Elt Ideal) ℓ) (c : Dev nD)

/-- Where each window's block lies. -/
theorem at0 : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A block's gradient. -/
def part (r : S4x256x2048.Idx → EReal) (y : S256x2048.Idx) : EReal :=
  r (ix3 0 (y 0) (y 1)) + r (ix3 1 (y 0) (y 1)) + r (ix3 2 (y 0) (y 1)) + r (ix3 3 (y 0) (y 1))

theorem g_blk (r : FVec Ideal S4x256x2048 .bf16) (w : FVec Ideal S256x2048 .f32) (p : FVec Ideal S256x2048 .f32) (s : FVec Ideal S256x2048 .f32) (y : S256x2048.Idx) : out0_4 (F := Ideal) r w p s y = part r y := by
  unfold out0_4 part
  frame_out
  idx_vars y
  pointwise [k0_pay1, k0_pay2, k0_pay3, k0_pay4, k0_pay5, k0_pay6]

theorem d_blk (r : FVec Ideal S4x256x2048 .bf16) (w : FVec Ideal S256x2048 .f32) (p : FVec Ideal S256x2048 .f32) (s : FVec Ideal S256x2048 .f32) (y : S256x2048.Idx) : out0_5 (F := Ideal) r w p s y = step (w y) (first (part r y) (p y) * ((8388608 / 5463681 : ℝ) : EReal)) (second (part r y) (s y) * ((268435456 / 2672307 : ℝ) : EReal)) := by
  unfold out0_5 first second step part
  frame_out
  idx_vars y
  pointwise [k0_pay1, k0_pay2, k0_pay3, k0_pay4, k0_pay5, k0_pay6]
  rw [inv1, inv2]

theorem m_blk (r : FVec Ideal S4x256x2048 .bf16) (w : FVec Ideal S256x2048 .f32) (p : FVec Ideal S256x2048 .f32) (s : FVec Ideal S256x2048 .f32) (y : S256x2048.Idx) : out0_6 (F := Ideal) r w p s y = first (part r y) (p y) := by
  unfold out0_6 first part
  frame_out
  idx_vars y
  pointwise [k0_pay1, k0_pay2, k0_pay3, k0_pay4, k0_pay5, k0_pay6]

theorem v_blk (r : FVec Ideal S4x256x2048 .bf16) (w : FVec Ideal S256x2048 .f32) (p : FVec Ideal S256x2048 .f32) (s : FVec Ideal S256x2048 .f32) (y : S256x2048.Idx) : out0_7 (F := Ideal) r w p s y = second (part r y) (s y) := by
  unfold out0_7 second part
  frame_out
  idx_vars y
  pointwise [k0_pay1, k0_pay2, k0_pay3, k0_pay4, k0_pay5, k0_pay6]

theorem x0_at (t : Fin cfg0.N) (b : Fin 4) (y : S256x2048.Idx) (i : S256x2048.Idx) (hr : (i 0).val = 256 * t.val + (y 0).val) (hj : (i 1).val = (y 1).val) :
    iblk m c 0 t (ix3 b (y 0) (y 1)) = m (c, Proc.tc.devRef main_arg0) (ix3 b (i 0) (i 1)) := by
  have e0 := (at0 t).1
  unfold iblk; blk_simp; rw [V_main_arg0]; blk_ext [e0]

theorem part_at (t : Fin cfg0.N) (y : S256x2048.Idx) (i : S256x2048.Idx) (hr : (i 0).val = 256 * t.val + (y 0).val) (hj : (i 1).val = (y 1).val) :
    part (iblk m c 0 t) y = grad (m (c, Proc.tc.devRef main_arg0)) i := by
  unfold part grad
  exact congr (congrArg _ (congr (congrArg _ (congr (congrArg _ (x0_at m c t 0 y i hr hj)) (x0_at m c t 1 y i hr hj)))
    (x0_at m c t 2 y i hr hj))) (x0_at m c t 3 y i hr hj)

theorem x1_at (t : Fin cfg0.N) (y : S256x2048.Idx) (i : S256x2048.Idx) (hr : (i 0).val = 256 * t.val + (y 0).val) (hj : (i 1).val = (y 1).val) :
    iblk m c 1 t y = m (c, Proc.tc.devRef main_arg1) i := by
  have e0 := (at0 t).2.1
  unfold iblk; blk_simp; rw [V_main_arg1]; blk_ext [e0]

theorem x2_at (t : Fin cfg0.N) (y : S256x2048.Idx) (i : S256x2048.Idx) (hr : (i 0).val = 256 * t.val + (y 0).val) (hj : (i 1).val = (y 1).val) :
    iblk m c 2 t y = m (c, Proc.tc.devRef main_arg2) i := by
  have e0 := (at0 t).2.2.1
  unfold iblk; blk_simp; rw [V_main_arg2]; blk_ext [e0]

theorem x3_at (t : Fin cfg0.N) (y : S256x2048.Idx) (i : S256x2048.Idx) (hr : (i 0).val = 256 * t.val + (y 0).val) (hj : (i 1).val = (y 1).val) :
    iblk m c 3 t y = m (c, Proc.tc.devRef main_arg3) i := by
  have e0 := (at0 t).2.2.2.1
  unfold iblk; blk_simp; rw [V_main_arg3]; blk_ext [e0]

theorem g_point (t : Fin cfg0.N) (y : S256x2048.Idx) (i : S256x2048.Idx) (hr : (i 0).val = 256 * t.val + (y 0).val) (hj : (i 1).val = (y 1).val) :
    out0_4 (iblk m c 0 t) (iblk m c 1 t) (iblk m c 2 t) (iblk m c 3 t) y = grad (m (c, Proc.tc.devRef main_arg0)) i :=
  (g_blk _ _ _ _ y).trans ((part_at m c t y i hr hj))

theorem g_arr : (dats m 0 c).arrAt 4 cfg0.N = grad (m (c, Proc.tc.devRef main_arg0)) := by
  refine (dats m 0 c).arrAt_eq_of_covers 4 _ (by decide +kernel) fun t hf y => ?_
  blk_simp
  rw [after0_4]
  have e2 := (at0 t).2.2.2.2.1
  refine g_point m c t _ _ ?_ ?_ <;> blk_simp [e2] <;> simp <;> omega

theorem d_point (t : Fin cfg0.N) (y : S256x2048.Idx) (i : S256x2048.Idx) (hr : (i 0).val = 256 * t.val + (y 0).val) (hj : (i 1).val = (y 1).val) :
    out0_5 (iblk m c 0 t) (iblk m c 1 t) (iblk m c 2 t) (iblk m c 3 t) y = delta (m (c, Proc.tc.devRef main_arg0)) (m (c, Proc.tc.devRef main_arg1)) (m (c, Proc.tc.devRef main_arg2)) (m (c, Proc.tc.devRef main_arg3)) i :=
  (d_blk _ _ _ _ y).trans (congr (congr (congrArg step (x1_at m c t y i hr hj)) (congrArg (fun z : EReal => z * _) (congr (congrArg first (part_at m c t y i hr hj)) (x2_at m c t y i hr hj)))) (congrArg (fun z : EReal => z * _) (congr (congrArg second (part_at m c t y i hr hj)) (x3_at m c t y i hr hj))))

theorem d_arr : (dats m 0 c).arrAt 5 cfg0.N = delta (m (c, Proc.tc.devRef main_arg0)) (m (c, Proc.tc.devRef main_arg1)) (m (c, Proc.tc.devRef main_arg2)) (m (c, Proc.tc.devRef main_arg3)) := by
  refine (dats m 0 c).arrAt_eq_of_covers 5 _ (by decide +kernel) fun t hf y => ?_
  blk_simp
  rw [after0_5]
  have e2 := (at0 t).2.2.2.2.2.1
  refine d_point m c t _ _ ?_ ?_ <;> blk_simp [e2] <;> simp <;> omega

theorem m_point (t : Fin cfg0.N) (y : S256x2048.Idx) (i : S256x2048.Idx) (hr : (i 0).val = 256 * t.val + (y 0).val) (hj : (i 1).val = (y 1).val) :
    out0_6 (iblk m c 0 t) (iblk m c 1 t) (iblk m c 2 t) (iblk m c 3 t) y = new_p (m (c, Proc.tc.devRef main_arg0)) (m (c, Proc.tc.devRef main_arg2)) i :=
  (m_blk _ _ _ _ y).trans ((congr (congrArg first (part_at m c t y i hr hj)) (x2_at m c t y i hr hj)))

theorem m_arr : (dats m 0 c).arrAt 6 cfg0.N = new_p (m (c, Proc.tc.devRef main_arg0)) (m (c, Proc.tc.devRef main_arg2)) := by
  refine (dats m 0 c).arrAt_eq_of_covers 6 _ (by decide +kernel) fun t hf y => ?_
  blk_simp
  rw [after0_6]
  have e2 := (at0 t).2.2.2.2.2.2.1
  refine m_point m c t _ _ ?_ ?_ <;> blk_simp [e2] <;> simp <;> omega

theorem v_point (t : Fin cfg0.N) (y : S256x2048.Idx) (i : S256x2048.Idx) (hr : (i 0).val = 256 * t.val + (y 0).val) (hj : (i 1).val = (y 1).val) :
    out0_7 (iblk m c 0 t) (iblk m c 1 t) (iblk m c 2 t) (iblk m c 3 t) y = new_s (m (c, Proc.tc.devRef main_arg0)) (m (c, Proc.tc.devRef main_arg3)) i :=
  (v_blk _ _ _ _ y).trans ((congr (congrArg second (part_at m c t y i hr hj)) (x3_at m c t y i hr hj)))

theorem v_arr : (dats m 0 c).arrAt 7 cfg0.N = new_s (m (c, Proc.tc.devRef main_arg0)) (m (c, Proc.tc.devRef main_arg3)) := by
  refine (dats m 0 c).arrAt_eq_of_covers 7 _ (by decide +kernel) fun t hf y => ?_
  blk_simp
  rw [after0_7]
  have e2 := (at0 t).2.2.2.2.2.2.2
  refine v_point m c t _ _ ?_ ?_ <;> blk_simp [e2] <;> simp <;> omega

end Cert.AdamOutIdeal.Sums

namespace Cert.AdamOutRefIdeal.Sums

open Idealize.ShloMosaic Cert.AdamOutRefIdeal Cert.AdamOutRefIdeal.Gen Cert.Adam

theorem g_ref (r : FVec Ideal S4x256x2048 .bf16) : Host.reduceAdd (extf .f32 r bitsLt_bf16_f32) (constant S_ .f32 0x00000000#32) reducesTo_S4x256x2048_S256x2048_d0 h_S_
    = Cert.AdamOutIdeal.Sums.grad r := by
  funext i
  unfold Cert.AdamOutIdeal.Sums.grad
  idx_vars i
  pointwise
  rw [Fin.sum_univ_four]

theorem d_ref (r : FVec Ideal S4x256x2048 .bf16) (w : FVec Ideal S256x2048 .f32) (p : FVec Ideal S256x2048 .f32) (s : FVec Ideal S256x2048 .f32) : mulf (broadcastInDim S256x2048 ![] bcast_S_S256x2048 (constant S_ .f32 0xBA83126F#32)) (addf (Host.divf (Host.divf (addf (mulf (broadcastInDim S256x2048 ![] bcast_S_S256x2048 (constant S_ .f32 0x3F666666#32)) p) (mulf (broadcastInDim S256x2048 ![] bcast_S_S256x2048 (constant S_ .f32 0x3DCCCCCD#32)) (Host.reduceAdd (extf .f32 r bitsLt_bf16_f32) (constant S_ .f32 0x00000000#32) reducesTo_S4x256x2048_S256x2048_d0 h_S_))) (broadcastInDim S256x2048 ![] bcast_S_S256x2048 (constant S_ .f32 0x3F26BD02#32))) (addf (Host.sqrt (Host.divf (addf (mulf (broadcastInDim S256x2048 ![] bcast_S_S256x2048 (constant S_ .f32 0x3F7FBE77#32)) s) (mulf (broadcastInDim S256x2048 ![] bcast_S_S256x2048 (constant S_ .f32 0x3A83126F#32)) (mulf (Host.reduceAdd (extf .f32 r bitsLt_bf16_f32) (constant S_ .f32 0x00000000#32) reducesTo_S4x256x2048_S256x2048_d0 h_S_) (Host.reduceAdd (extf .f32 r bitsLt_bf16_f32) (constant S_ .f32 0x00000000#32) reducesTo_S4x256x2048_S256x2048_d0 h_S_)))) (broadcastInDim S256x2048 ![] bcast_S_S256x2048 (constant S_ .f32 0x3C231ACC#32)))) (broadcastInDim S256x2048 ![] bcast_S_S256x2048 (constant S_ .f32 0x322BCC77#32)))) (mulf (broadcastInDim S256x2048 ![] bcast_S_S256x2048 (constant S_ .f32 0x3C23D70A#32)) w))
    = Cert.AdamOutIdeal.Sums.delta r w p s := by
  funext i
  unfold Cert.AdamOutIdeal.Sums.delta Cert.AdamOutIdeal.Sums.grad first second step
  idx_vars i
  pointwise
  rw [div1, div2]
  rw [Fin.sum_univ_four]

theorem m_ref (r : FVec Ideal S4x256x2048 .bf16) (p : FVec Ideal S256x2048 .f32) : addf (mulf (broadcastInDim S256x2048 ![] bcast_S_S256x2048 (constant S_ .f32 0x3F666666#32)) p) (mulf (broadcastInDim S256x2048 ![] bcast_S_S256x2048 (constant S_ .f32 0x3DCCCCCD#32)) (Host.reduceAdd (extf .f32 r bitsLt_bf16_f32) (constant S_ .f32 0x00000000#32) reducesTo_S4x256x2048_S256x2048_d0 h_S_))
    = Cert.AdamOutIdeal.Sums.new_p r p := by
  funext i
  unfold Cert.AdamOutIdeal.Sums.new_p Cert.AdamOutIdeal.Sums.grad first
  idx_vars i
  pointwise
  rw [Fin.sum_univ_four]

theorem v_ref (r : FVec Ideal S4x256x2048 .bf16) (s : FVec Ideal S256x2048 .f32) : addf (mulf (broadcastInDim S256x2048 ![] bcast_S_S256x2048 (constant S_ .f32 0x3F7FBE77#32)) s) (mulf (broadcastInDim S256x2048 ![] bcast_S_S256x2048 (constant S_ .f32 0x3A83126F#32)) (mulf (Host.reduceAdd (extf .f32 r bitsLt_bf16_f32) (constant S_ .f32 0x00000000#32) reducesTo_S4x256x2048_S256x2048_d0 h_S_) (Host.reduceAdd (extf .f32 r bitsLt_bf16_f32) (constant S_ .f32 0x00000000#32) reducesTo_S4x256x2048_S256x2048_d0 h_S_)))
    = Cert.AdamOutIdeal.Sums.new_s r s := by
  funext i
  unfold Cert.AdamOutIdeal.Sums.new_s Cert.AdamOutIdeal.Sums.grad second
  idx_vars i
  pointwise
  rw [Fin.sum_univ_four]

end Cert.AdamOutRefIdeal.Sums

end
-- ==== Proof.AdamSmall.lean ====
/- The small weights: one step of AdamW. -/
module

public import proofs.«01_k».proof.Proof.Adam
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamSmallIdeal.Sums

open Idealize.ShloMosaic Idealize.ShloMosaic.TcCoe Cert.AdamSmallIdeal Cert.AdamSmallIdeal.Gen Cert.Adam
open Idealize.ShloMosaic.Pipeline

/-- The first moment. -/
def new_p (g : FVec Ideal S208x128 .f32) (p : FVec Ideal S208x128 .f32) : FVec Ideal S208x128 .f32 := fun i => first (g i) (p i)

/-- The second moment. -/
def new_s (g : FVec Ideal S208x128 .f32) (s : FVec Ideal S208x128 .f32) : FVec Ideal S208x128 .f32 := fun i => second (g i) (s i)

/-- The change of the weight. -/
def delta (w : FVec Ideal S208x128 .f32) (g : FVec Ideal S208x128 .f32) (p : FVec Ideal S208x128 .f32) (s : FVec Ideal S208x128 .f32) : FVec Ideal S208x128 .f32 := fun i =>
  step (w i) (first (g i) (p i) * ((8388608 / 5463681 : ℝ) : EReal)) (second (g i) (s i) * ((268435456 / 2672307 : ℝ) : EReal))

theorem inv1 : Named.named (F := Ideal) κ "inv_bias1" (φ := .f32) 0x3FC48605#32 = ((8388608 / 5463681 : ℝ) : EReal) :=
  IdealRules.named_const.ideal_named_scalar _ _ _ _ rfl

theorem inv2 : Named.named (F := Ideal) κ "inv_bias2" (φ := .f32) 0x42C8E6D3#32 = ((268435456 / 2672307 : ℝ) : EReal) :=
  IdealRules.named_const.ideal_named_scalar _ _ _ _ rfl

variable (m : (ℓ : Loc nD τ sig) → Buf (Elt Ideal) ℓ) (c : Dev nD)

/-- Where each window's block lies. -/
theorem at0 : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem d_blk (w : FVec Ideal S208x128 .f32) (g : FVec Ideal S208x128 .f32) (p : FVec Ideal S208x128 .f32) (s : FVec Ideal S208x128 .f32) (y : S208x128.Idx) : out0_4 (F := Ideal) w g p s y = step (w y) (first (g y) (p y) * ((8388608 / 5463681 : ℝ) : EReal)) (second (g y) (s y) * ((268435456 / 2672307 : ℝ) : EReal)) := by
  unfold out0_4 first second step
  frame_out
  idx_vars y
  pointwise [k0_pay1, k0_pay2, k0_pay3]
  rw [inv1, inv2]

theorem m_blk (w : FVec Ideal S208x128 .f32) (g : FVec Ideal S208x128 .f32) (p : FVec Ideal S208x128 .f32) (s : FVec Ideal S208x128 .f32) (y : S208x128.Idx) : out0_5 (F := Ideal) w g p s y = first (g y) (p y) := by
  unfold out0_5 first
  frame_out
  idx_vars y
  pointwise [k0_pay1, k0_pay2, k0_pay3]

theorem v_blk (w : FVec Ideal S208x128 .f32) (g : FVec Ideal S208x128 .f32) (p : FVec Ideal S208x128 .f32) (s : FVec Ideal S208x128 .f32) (y : S208x128.Idx) : out0_6 (F := Ideal) w g p s y = second (g y) (s y) := by
  unfold out0_6 second
  frame_out
  idx_vars y
  pointwise [k0_pay1, k0_pay2, k0_pay3]

theorem x0_at (t : Fin cfg0.N) (y : S208x128.Idx) (i : S208x128.Idx) (hr : (i 0).val = 208 * t.val + (y 0).val) (hj : (i 1).val = (y 1).val) :
    iblk m c 0 t y = m (c, Proc.tc.devRef main_arg0) i := by
  have e0 := (at0 t).1
  unfold iblk; blk_simp; rw [V_main_arg0]; blk_ext [e0]

theorem x1_at (t : Fin cfg0.N) (y : S208x128.Idx) (i : S208x128.Idx) (hr : (i 0).val = 208 * t.val + (y 0).val) (hj : (i 1).val = (y 1).val) :
    iblk m c 1 t y = m (c, Proc.tc.devRef main_arg1) i := by
  have e0 := (at0 t).2.1
  unfold iblk; blk_simp; rw [V_main_arg1]; blk_ext [e0]

theorem x2_at (t : Fin cfg0.N) (y : S208x128.Idx) (i : S208x128.Idx) (hr : (i 0).val = 208 * t.val + (y 0).val) (hj : (i 1).val = (y 1).val) :
    iblk m c 2 t y = m (c, Proc.tc.devRef main_arg2) i := by
  have e0 := (at0 t).2.2.1
  unfold iblk; blk_simp; rw [V_main_arg2]; blk_ext [e0]

theorem x3_at (t : Fin cfg0.N) (y : S208x128.Idx) (i : S208x128.Idx) (hr : (i 0).val = 208 * t.val + (y 0).val) (hj : (i 1).val = (y 1).val) :
    iblk m c 3 t y = m (c, Proc.tc.devRef main_arg3) i := by
  have e0 := (at0 t).2.2.2.1
  unfold iblk; blk_simp; rw [V_main_arg3]; blk_ext [e0]

theorem d_point (t : Fin cfg0.N) (y : S208x128.Idx) (i : S208x128.Idx) (hr : (i 0).val = 208 * t.val + (y 0).val) (hj : (i 1).val = (y 1).val) :
    out0_4 (iblk m c 0 t) (iblk m c 1 t) (iblk m c 2 t) (iblk m c 3 t) y = delta (m (c, Proc.tc.devRef main_arg0)) (m (c, Proc.tc.devRef main_arg1)) (m (c, Proc.tc.devRef main_arg2)) (m (c, Proc.tc.devRef main_arg3)) i :=
  (d_blk _ _ _ _ y).trans (congr (congr (congrArg step (x0_at m c t y i hr hj)) (congrArg (fun z : EReal => z * _) (congr (congrArg first (x1_at m c t y i hr hj)) (x2_at m c t y i hr hj)))) (congrArg (fun z : EReal => z * _) (congr (congrArg second (x1_at m c t y i hr hj)) (x3_at m c t y i hr hj))))

theorem d_arr : (dats m 0 c).arrAt 4 cfg0.N = delta (m (c, Proc.tc.devRef main_arg0)) (m (c, Proc.tc.devRef main_arg1)) (m (c, Proc.tc.devRef main_arg2)) (m (c, Proc.tc.devRef main_arg3)) := by
  refine (dats m 0 c).arrAt_eq_of_covers 4 _ (by decide +kernel) fun t hf y => ?_
  blk_simp
  rw [after0_4]
  have e2 := (at0 t).2.2.2.2.1
  refine d_point m c t _ _ ?_ ?_ <;> blk_simp [e2] <;> simp <;> omega

theorem m_point (t : Fin cfg0.N) (y : S208x128.Idx) (i : S208x128.Idx) (hr : (i 0).val = 208 * t.val + (y 0).val) (hj : (i 1).val = (y 1).val) :
    out0_5 (iblk m c 0 t) (iblk m c 1 t) (iblk m c 2 t) (iblk m c 3 t) y = new_p (m (c, Proc.tc.devRef main_arg1)) (m (c, Proc.tc.devRef main_arg2)) i :=
  (m_blk _ _ _ _ y).trans ((congr (congrArg first (x1_at m c t y i hr hj)) (x2_at m c t y i hr hj)))

theorem m_arr : (dats m 0 c).arrAt 5 cfg0.N = new_p (m (c, Proc.tc.devRef main_arg1)) (m (c, Proc.tc.devRef main_arg2)) := by
  refine (dats m 0 c).arrAt_eq_of_covers 5 _ (by decide +kernel) fun t hf y => ?_
  blk_simp
  rw [after0_5]
  have e2 := (at0 t).2.2.2.2.2.1
  refine m_point m c t _ _ ?_ ?_ <;> blk_simp [e2] <;> simp <;> omega

theorem v_point (t : Fin cfg0.N) (y : S208x128.Idx) (i : S208x128.Idx) (hr : (i 0).val = 208 * t.val + (y 0).val) (hj : (i 1).val = (y 1).val) :
    out0_6 (iblk m c 0 t) (iblk m c 1 t) (iblk m c 2 t) (iblk m c 3 t) y = new_s (m (c, Proc.tc.devRef main_arg1)) (m (c, Proc.tc.devRef main_arg3)) i :=
  (v_blk _ _ _ _ y).trans ((congr (congrArg second (x1_at m c t y i hr hj)) (x3_at m c t y i hr hj)))

theorem v_arr : (dats m 0 c).arrAt 6 cfg0.N = new_s (m (c, Proc.tc.devRef main_arg1)) (m (c, Proc.tc.devRef main_arg3)) := by
  refine (dats m 0 c).arrAt_eq_of_covers 6 _ (by decide +kernel) fun t hf y => ?_
  blk_simp
  rw [after0_6]
  have e2 := (at0 t).2.2.2.2.2.2
  refine v_point m c t _ _ ?_ ?_ <;> blk_simp [e2] <;> simp <;> omega

end Cert.AdamSmallIdeal.Sums

namespace Cert.AdamSmallRefIdeal.Sums

open Idealize.ShloMosaic Cert.AdamSmallRefIdeal Cert.AdamSmallRefIdeal.Gen Cert.Adam

theorem d_ref (w : FVec Ideal S208x128 .f32) (g : FVec Ideal S208x128 .f32) (p : FVec Ideal S208x128 .f32) (s : FVec Ideal S208x128 .f32) : mulf (broadcastInDim S208x128 ![] bcast_S_S208x128 (constant S_ .f32 0xBA83126F#32)) (addf (Host.divf (Host.divf (addf (mulf (broadcastInDim S208x128 ![] bcast_S_S208x128 (constant S_ .f32 0x3F666666#32)) p) (mulf (broadcastInDim S208x128 ![] bcast_S_S208x128 (constant S_ .f32 0x3DCCCCCD#32)) g)) (broadcastInDim S208x128 ![] bcast_S_S208x128 (constant S_ .f32 0x3F26BD02#32))) (addf (Host.sqrt (Host.divf (addf (mulf (broadcastInDim S208x128 ![] bcast_S_S208x128 (constant S_ .f32 0x3F7FBE77#32)) s) (mulf (broadcastInDim S208x128 ![] bcast_S_S208x128 (constant S_ .f32 0x3A83126F#32)) (mulf g g))) (broadcastInDim S208x128 ![] bcast_S_S208x128 (constant S_ .f32 0x3C231ACC#32)))) (broadcastInDim S208x128 ![] bcast_S_S208x128 (constant S_ .f32 0x322BCC77#32)))) (mulf (broadcastInDim S208x128 ![] bcast_S_S208x128 (constant S_ .f32 0x3C23D70A#32)) w))
    = Cert.AdamSmallIdeal.Sums.delta w g p s := by
  funext i
  unfold Cert.AdamSmallIdeal.Sums.delta first second step
  idx_vars i
  pointwise
  rw [div1, div2]

theorem m_ref (g : FVec Ideal S208x128 .f32) (p : FVec Ideal S208x128 .f32) : addf (mulf (broadcastInDim S208x128 ![] bcast_S_S208x128 (constant S_ .f32 0x3F666666#32)) p) (mulf (broadcastInDim S208x128 ![] bcast_S_S208x128 (constant S_ .f32 0x3DCCCCCD#32)) g)
    = Cert.AdamSmallIdeal.Sums.new_p g p := by
  funext i
  unfold Cert.AdamSmallIdeal.Sums.new_p first
  idx_vars i
  pointwise

theorem v_ref (g : FVec Ideal S208x128 .f32) (s : FVec Ideal S208x128 .f32) : addf (mulf (broadcastInDim S208x128 ![] bcast_S_S208x128 (constant S_ .f32 0x3F7FBE77#32)) s) (mulf (broadcastInDim S208x128 ![] bcast_S_S208x128 (constant S_ .f32 0x3A83126F#32)) (mulf g g))
    = Cert.AdamSmallIdeal.Sums.new_s g s := by
  funext i
  unfold Cert.AdamSmallIdeal.Sums.new_s second
  idx_vars i
  pointwise

end Cert.AdamSmallRefIdeal.Sums

end
-- ==== Proof.SumSmall.lean ====
/- The loss and the small gradients: the sum of the devices' parts. -/
module

public import proofs.«01_k».proof.Proof.Gen.SumSmallIdeal.Value
public import proofs.«01_k».proof.Proof.Gen.SumSmallRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.SumSmallIdeal.Sums

open Idealize.ShloMosaic Idealize.ShloMosaic.TcCoe Cert.SumSmallIdeal Cert.SumSmallIdeal.Gen

/-- The sum of the eight parts, in order. -/
def total (r : FVec Ideal S8x464x128 .f32) : FVec Ideal S464x128 .f32 := fun i =>
  r (ix3 0 (i 0) (i 1)) + r (ix3 1 (i 0) (i 1)) + r (ix3 2 (i 0) (i 1)) + r (ix3 3 (i 0) (i 1))
    + r (ix3 4 (i 0) (i 1)) + r (ix3 5 (i 0) (i 1)) + r (ix3 6 (i 0) (i 1)) + r (ix3 7 (i 0) (i 1))

/-- What the kernel computes. -/
theorem arr (r : FVec Ideal S8x464x128 .f32) : Value.G1 (F := Ideal) r = total r := by
  funext i
  unfold Value.G1 total
  idx_vars i
  pointwise [k0_pay1]

end Cert.SumSmallIdeal.Sums

namespace Cert.SumSmallRefIdeal.Sums

open Idealize.ShloMosaic Cert.SumSmallRefIdeal Cert.SumSmallRefIdeal.Gen

/-- What the reference computes. -/
theorem ref (r : FVec Ideal S8x464x128 .f32) : Host.reduceAdd r (constant S_ .f32 0x00000000#32) reducesTo_S8x464x128_S464x128_d0 h_S_
    = Cert.SumSmallIdeal.Sums.total r := by
  funext i
  unfold Cert.SumSmallIdeal.Sums.total
  idx_vars i
  pointwise
  rw [Fin.sum_univ_eight]

end Cert.SumSmallRefIdeal.Sums

end
-- ==== Proof.Steps.lean ====
/- AdamW's calls, and the sum of the devices' parts. -/
module

public import proofs.«01_k».proof.Defs
public import proofs.«01_k».proof.Proof.AdamDown
public import proofs.«01_k».proof.Proof.AdamUp
public import proofs.«01_k».proof.Proof.AdamOut
public import proofs.«01_k».proof.Proof.AdamSmall
public import proofs.«01_k».proof.Proof.SumSmall
public import Idealize.ShloMosaic.Lib.Claim
public import Idealize.ShloMosaic.Adequacy
public import Idealize.ShloMosaic.Init
public import proofs.«01_k».proof.Proof.Gen.AdamDown
public import proofs.«01_k».proof.Proof.Gen.AdamDownIdeal
public import proofs.«01_k».proof.Proof.Gen.AdamDownRefIdeal
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamUp
public import proofs.«01_k».proof.Proof.Gen.AdamUpIdeal
public import proofs.«01_k».proof.Proof.Gen.AdamUpRefIdeal
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamOut
public import proofs.«01_k».proof.Proof.Gen.AdamOutIdeal
public import proofs.«01_k».proof.Proof.Gen.AdamOutRefIdeal
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamSmall
public import proofs.«01_k».proof.Proof.Gen.AdamSmallIdeal
public import proofs.«01_k».proof.Proof.Gen.AdamSmallRefIdeal
public import proofs.«01_k».proof.Proof.Gen.AdamSmallIdeal.Frame
public import proofs.«01_k».proof.Proof.Gen.AdamSmallIdeal.Value
public import proofs.«01_k».proof.Proof.Gen.AdamSmallRefIdeal.Run
public import proofs.«01_k».proof.Proof.Gen.SumSmall
public import proofs.«01_k».proof.Proof.Gen.SumSmallIdeal
public import proofs.«01_k».proof.Proof.Gen.SumSmallRefIdeal
public import proofs.«01_k».proof.Proof.Gen.SumSmallIdeal.Frame
public import proofs.«01_k».proof.Proof.Gen.SumSmallIdeal.Value
public import proofs.«01_k».proof.Proof.Gen.SumSmallRefIdeal.Run

@[expose] public section

set_option maxRecDepth 16384

noncomputable section

namespace Cert.Steps

open Idealize.ShloMosaic Idealize.SL.Sem

theorem adam_down_ref : Cert.quiescent_AdamDownRefIdeal := fun m g _ =>
  (θ_run Cert.AdamDownRefIdeal.defs _ _).mono (fun r h => ⟨fun c => (h c).2.2.2.2, sem_eq_zero_of_no_sems (by decide) r.2⟩)
    (Cert.AdamDownRefIdeal.Value.run m g)

theorem adam_down_names : Cert.preserves_AdamDown_AdamDownIdeal :=
  ⟨IdealRules.named_const.statement Cert.AdamDownIdeal.κ "inv_bias1" .f32 0x3FC48605#32 ((8388608 / 5463681 : ℝ) : EReal) rfl,
    IdealRules.named_const.statement Cert.AdamDownIdeal.κ "inv_bias2" .f32 0x42C8E6D3#32 ((268435456 / 2672307 : ℝ) : EReal) rfl⟩

theorem adam_down : Cert.algebraic_AdamDownIdeal_AdamDownRefIdeal := by
  intro m g m' g' _ hagree
  refine ⟨fun c => Cert.AdamDownIdeal.Sums.grad (m ((c.tc : Thread Cert.AdamDownIdeal.nD Cert.AdamDownIdeal.τ).loc Cert.AdamDownIdeal.main_arg0)), fun c => Cert.AdamDownIdeal.Sums.delta (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)), fun c => Cert.AdamDownIdeal.Sums.new_p (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg2)), fun c => Cert.AdamDownIdeal.Sums.new_s (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg3)),
    (θ_run Cert.AdamDownIdeal.defs _ _).mono (fun r h c => ⟨(h c).1.trans (Cert.AdamDownIdeal.Sums.g_arr m c), (h c).2.1.trans (Cert.AdamDownIdeal.Sums.d_arr m c), (h c).2.2.1.trans (Cert.AdamDownIdeal.Sums.m_arr m c), (h c).2.2.2.1.trans (Cert.AdamDownIdeal.Sums.v_arr m c), (h c).2.2.2.2⟩) (Cert.AdamDownIdeal.Value.run_blocks m g),
    (θ_run Cert.AdamDownRefIdeal.defs _ _).mono (fun r h c => ?_) (Cert.AdamDownRefIdeal.Value.run m' g')⟩
  obtain ⟨h0, h1, h2, h3⟩ := hagree c
  exact ⟨(h c).1.trans ((Cert.AdamDownRefIdeal.Sums.g_ref _).trans (congrArg Cert.AdamDownIdeal.Sums.grad h0)),
    (h c).2.1.trans ((Cert.AdamDownRefIdeal.Sums.d_ref _ _ _ _).trans (congr (congr (congr (congrArg Cert.AdamDownIdeal.Sums.delta h0) h1) h2) h3)),
    (h c).2.2.1.trans ((Cert.AdamDownRefIdeal.Sums.m_ref _ _).trans (congr (congrArg Cert.AdamDownIdeal.Sums.new_p h0) h2)),
    (h c).2.2.2.1.trans ((Cert.AdamDownRefIdeal.Sums.v_ref _ _).trans (congr (congrArg Cert.AdamDownIdeal.Sums.new_s h0) h3)),
    (h c).2.2.2.2⟩

theorem adam_up_ref : Cert.quiescent_AdamUpRefIdeal := fun m g _ =>
  (θ_run Cert.AdamUpRefIdeal.defs _ _).mono (fun r h => ⟨fun c => (h c).2.2.2.2, sem_eq_zero_of_no_sems (by decide) r.2⟩)
    (Cert.AdamUpRefIdeal.Value.run m g)

theorem adam_up_names : Cert.preserves_AdamUp_AdamUpIdeal :=
  ⟨IdealRules.named_const.statement Cert.AdamUpIdeal.κ "inv_bias1" .f32 0x3FC48605#32 ((8388608 / 5463681 : ℝ) : EReal) rfl,
    IdealRules.named_const.statement Cert.AdamUpIdeal.κ "inv_bias2" .f32 0x42C8E6D3#32 ((268435456 / 2672307 : ℝ) : EReal) rfl⟩

theorem adam_up : Cert.algebraic_AdamUpIdeal_AdamUpRefIdeal := by
  intro m g m' g' _ hagree
  refine ⟨fun c => Cert.AdamUpIdeal.Sums.grad (m ((c.tc : Thread Cert.AdamUpIdeal.nD Cert.AdamUpIdeal.τ).loc Cert.AdamUpIdeal.main_arg0)), fun c => Cert.AdamUpIdeal.Sums.delta (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)), fun c => Cert.AdamUpIdeal.Sums.new_p (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg2)), fun c => Cert.AdamUpIdeal.Sums.new_s (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg3)),
    (θ_run Cert.AdamUpIdeal.defs _ _).mono (fun r h c => ⟨(h c).1.trans (Cert.AdamUpIdeal.Sums.g_arr m c), (h c).2.1.trans (Cert.AdamUpIdeal.Sums.d_arr m c), (h c).2.2.1.trans (Cert.AdamUpIdeal.Sums.m_arr m c), (h c).2.2.2.1.trans (Cert.AdamUpIdeal.Sums.v_arr m c), (h c).2.2.2.2⟩) (Cert.AdamUpIdeal.Value.run_blocks m g),
    (θ_run Cert.AdamUpRefIdeal.defs _ _).mono (fun r h c => ?_) (Cert.AdamUpRefIdeal.Value.run m' g')⟩
  obtain ⟨h0, h1, h2, h3⟩ := hagree c
  exact ⟨(h c).1.trans ((Cert.AdamUpRefIdeal.Sums.g_ref _).trans (congrArg Cert.AdamUpIdeal.Sums.grad h0)),
    (h c).2.1.trans ((Cert.AdamUpRefIdeal.Sums.d_ref _ _ _ _).trans (congr (congr (congr (congrArg Cert.AdamUpIdeal.Sums.delta h0) h1) h2) h3)),
    (h c).2.2.1.trans ((Cert.AdamUpRefIdeal.Sums.m_ref _ _).trans (congr (congrArg Cert.AdamUpIdeal.Sums.new_p h0) h2)),
    (h c).2.2.2.1.trans ((Cert.AdamUpRefIdeal.Sums.v_ref _ _).trans (congr (congrArg Cert.AdamUpIdeal.Sums.new_s h0) h3)),
    (h c).2.2.2.2⟩

theorem adam_out_ref : Cert.quiescent_AdamOutRefIdeal := fun m g _ =>
  (θ_run Cert.AdamOutRefIdeal.defs _ _).mono (fun r h => ⟨fun c => (h c).2.2.2.2, sem_eq_zero_of_no_sems (by decide) r.2⟩)
    (Cert.AdamOutRefIdeal.Value.run m g)

theorem adam_out_names : Cert.preserves_AdamOut_AdamOutIdeal :=
  ⟨IdealRules.named_const.statement Cert.AdamOutIdeal.κ "inv_bias1" .f32 0x3FC48605#32 ((8388608 / 5463681 : ℝ) : EReal) rfl,
    IdealRules.named_const.statement Cert.AdamOutIdeal.κ "inv_bias2" .f32 0x42C8E6D3#32 ((268435456 / 2672307 : ℝ) : EReal) rfl⟩

theorem adam_out : Cert.algebraic_AdamOutIdeal_AdamOutRefIdeal := by
  intro m g m' g' _ hagree
  refine ⟨fun c => Cert.AdamOutIdeal.Sums.grad (m ((c.tc : Thread Cert.AdamOutIdeal.nD Cert.AdamOutIdeal.τ).loc Cert.AdamOutIdeal.main_arg0)), fun c => Cert.AdamOutIdeal.Sums.delta (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)), fun c => Cert.AdamOutIdeal.Sums.new_p (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg2)), fun c => Cert.AdamOutIdeal.Sums.new_s (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg3)),
    (θ_run Cert.AdamOutIdeal.defs _ _).mono (fun r h c => ⟨(h c).1.trans (Cert.AdamOutIdeal.Sums.g_arr m c), (h c).2.1.trans (Cert.AdamOutIdeal.Sums.d_arr m c), (h c).2.2.1.trans (Cert.AdamOutIdeal.Sums.m_arr m c), (h c).2.2.2.1.trans (Cert.AdamOutIdeal.Sums.v_arr m c), (h c).2.2.2.2⟩) (Cert.AdamOutIdeal.Value.run_blocks m g),
    (θ_run Cert.AdamOutRefIdeal.defs _ _).mono (fun r h c => ?_) (Cert.AdamOutRefIdeal.Value.run m' g')⟩
  obtain ⟨h0, h1, h2, h3⟩ := hagree c
  exact ⟨(h c).1.trans ((Cert.AdamOutRefIdeal.Sums.g_ref _).trans (congrArg Cert.AdamOutIdeal.Sums.grad h0)),
    (h c).2.1.trans ((Cert.AdamOutRefIdeal.Sums.d_ref _ _ _ _).trans (congr (congr (congr (congrArg Cert.AdamOutIdeal.Sums.delta h0) h1) h2) h3)),
    (h c).2.2.1.trans ((Cert.AdamOutRefIdeal.Sums.m_ref _ _).trans (congr (congrArg Cert.AdamOutIdeal.Sums.new_p h0) h2)),
    (h c).2.2.2.1.trans ((Cert.AdamOutRefIdeal.Sums.v_ref _ _).trans (congr (congrArg Cert.AdamOutIdeal.Sums.new_s h0) h3)),
    (h c).2.2.2.2⟩

theorem adam_small_ref : Cert.quiescent_AdamSmallRefIdeal := fun m g _ =>
  (θ_run Cert.AdamSmallRefIdeal.defs _ _).mono (fun r h => ⟨fun c => (h c).2.2.2, sem_eq_zero_of_no_sems (by decide) r.2⟩)
    (Cert.AdamSmallRefIdeal.Value.run m g)

theorem adam_small_names : Cert.preserves_AdamSmall_AdamSmallIdeal :=
  ⟨IdealRules.named_const.statement Cert.AdamSmallIdeal.κ "inv_bias1" .f32 0x3FC48605#32 ((8388608 / 5463681 : ℝ) : EReal) rfl,
    IdealRules.named_const.statement Cert.AdamSmallIdeal.κ "inv_bias2" .f32 0x42C8E6D3#32 ((268435456 / 2672307 : ℝ) : EReal) rfl⟩

theorem adam_small : Cert.algebraic_AdamSmallIdeal_AdamSmallRefIdeal := by
  intro m g m' g' _ hagree
  refine ⟨fun c => Cert.AdamSmallIdeal.Sums.delta (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)), fun c => Cert.AdamSmallIdeal.Sums.new_p (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)), fun c => Cert.AdamSmallIdeal.Sums.new_s (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg3)),
    (θ_run Cert.AdamSmallIdeal.defs _ _).mono (fun r h c => ⟨(h c).1.trans (Cert.AdamSmallIdeal.Sums.d_arr m c), (h c).2.1.trans (Cert.AdamSmallIdeal.Sums.m_arr m c), (h c).2.2.1.trans (Cert.AdamSmallIdeal.Sums.v_arr m c), (h c).2.2.2⟩) (Cert.AdamSmallIdeal.Value.run_blocks m g),
    (θ_run Cert.AdamSmallRefIdeal.defs _ _).mono (fun r h c => ?_) (Cert.AdamSmallRefIdeal.Value.run m' g')⟩
  obtain ⟨h0, h1, h2, h3⟩ := hagree c
  exact ⟨(h c).1.trans ((Cert.AdamSmallRefIdeal.Sums.d_ref _ _ _ _).trans (congr (congr (congr (congrArg Cert.AdamSmallIdeal.Sums.delta h0) h1) h2) h3)),
    (h c).2.1.trans ((Cert.AdamSmallRefIdeal.Sums.m_ref _ _).trans (congr (congrArg Cert.AdamSmallIdeal.Sums.new_p h1) h2)),
    (h c).2.2.1.trans ((Cert.AdamSmallRefIdeal.Sums.v_ref _ _).trans (congr (congrArg Cert.AdamSmallIdeal.Sums.new_s h1) h3)),
    (h c).2.2.2⟩

theorem sum_small_ref : Cert.quiescent_SumSmallRefIdeal := fun m g _ =>
  (θ_run Cert.SumSmallRefIdeal.defs _ _).mono (fun r h => ⟨fun c => (h c).2, sem_eq_zero_of_no_sems (by decide) r.2⟩)
    (Cert.SumSmallRefIdeal.Value.run m g)

theorem sum_small : Cert.algebraic_SumSmallIdeal_SumSmallRefIdeal := by
  pair_intro
  · run_from Cert.SumSmallIdeal.Value.run_blocks m g
  · run_from Cert.SumSmallRefIdeal.Value.run m' g'
    · have h0 := hagree c
      refine (Cert.SumSmallRefIdeal.Sums.ref _).trans (Eq.trans ?_ ((Cert.SumSmallIdeal.Value.final1 m c).trans (Cert.SumSmallIdeal.Sums.arr _)).symm)
      first | rfl | exact congrArg _ h0

end Cert.Steps

end
-- ==== Proof.AdamIn.lean ====
/- The projections' weight: one step of AdamW on the rows that a device has. -/
module

public import proofs.«01_k».proof.Proof.Adam
public import proofs.«01_k».proof.Proof.Gen.AdamInIdeal.Value
public import proofs.«01_k».proof.Proof.Gen.AdamInRefIdeal.Run
public import Idealize.ShloMosaic.Lib.Pipeline.ValueKit
public import Idealize.ShloMosaic.Lib.Pipeline.ReadBack
public import Idealize.ShloMosaic.Lib.KernelVsHost
public import Idealize.ShloMosaic.Lib.Layout
public import Idealize.ShloMosaic.Lib.Claim

@[expose] public section

set_option maxRecDepth 16384

noncomputable section

namespace Cert.AdamInIdeal.Sums

open Idealize.ShloMosaic Idealize.ShloMosaic.TcCoe Cert.AdamInIdeal Cert.AdamInIdeal.Gen Cert.Adam
open Idealize.ShloMosaic.Pipeline

/-- The received row that belongs to a device's own row `k`. -/
def row (c : Dev nD) (k : Fin 897) : Fin 912 := ⟨c.val + k.val, by have h : c.val < 8 := c.isLt; omega⟩

/-- The gradient: the sum of the four partial sums, from the device's first row on. -/
def grad (c : Dev nD) (r : FVec Ideal S4x912x2048 .bf16) : FVec Ideal S897x2048 .f32 := fun i =>
  r (ix3 0 (row c (i 0)) (i 1)) + r (ix3 1 (row c (i 0)) (i 1)) + r (ix3 2 (row c (i 0)) (i 1)) + r (ix3 3 (row c (i 0)) (i 1))

/-- The first moment. -/
def new_p (c : Dev nD) (r : FVec Ideal S4x912x2048 .bf16) (p : FVec Ideal S897x2048 .f32) : FVec Ideal S897x2048 .f32 := fun i => first (grad c r i) (p i)

/-- The second moment. -/
def new_s (c : Dev nD) (r : FVec Ideal S4x912x2048 .bf16) (s : FVec Ideal S897x2048 .f32) : FVec Ideal S897x2048 .f32 := fun i => second (grad c r i) (s i)

/-- The change of the weight. -/
def delta (c : Dev nD) (r : FVec Ideal S4x912x2048 .bf16) (w : FVec Ideal S897x2048 .f32) (p : FVec Ideal S897x2048 .f32) (s : FVec Ideal S897x2048 .f32) : FVec Ideal S897x2048 .f32 := fun i =>
  step (w i) (first (grad c r i) (p i) * ((8388608 / 5463681 : ℝ) : EReal)) (second (grad c r i) (s i) * ((268435456 / 2672307 : ℝ) : EReal))

theorem inv1 : Named.named (F := Ideal) κ "inv_bias1" (φ := .f32) 0x3FC48605#32 = ((8388608 / 5463681 : ℝ) : EReal) :=
  IdealRules.named_const.ideal_named_scalar _ _ _ _ rfl

theorem inv2 : Named.named (F := Ideal) κ "inv_bias2" (φ := .f32) 0x42C8E6D3#32 = ((268435456 / 2672307 : ℝ) : EReal) :=
  IdealRules.named_const.ideal_named_scalar _ _ _ _ rfl

/-- By how many rows a device turns what it received. -/
def turn (c : Dev nD) : BitVec 32 :=
  Scalar.remsi (Scalar.subi 912#32 (Scalar.addi (Scalar.addi (Scalar.muli 4#32 (Scalar.remsi (Scalar.divsi (Dev.word c) 4#32) 2#32))
    (Scalar.muli 2#32 (Scalar.remsi (Scalar.divsi (Dev.word c) 2#32) 2#32))) (Scalar.remsi (Scalar.divsi (Dev.word c) 1#32) 2#32))) 912#32

theorem turn_val : ∀ c : Dev nD, (turn c).toNat = (912 - c.val) % 912 := by decide +kernel

/-- A block's gradient. -/
def part (c : Dev nD) (r : S4x912x256.Idx → EReal) (y : S897x256.Idx) : EReal :=
  r (ix3 0 (row c (y 0)) (y 1)) + r (ix3 1 (row c (y 0)) (y 1)) + r (ix3 2 (row c (y 0)) (y 1)) + r (ix3 3 (row c (y 0)) (y 1))

/-- The four partial sums added. -/
def four (r : S4x912x256.Idx → EReal) (z : S912x256.Idx) : EReal :=
  r (ix3 0 (z 0) (z 1)) + r (ix3 1 (z 0) (z 1)) + r (ix3 2 (z 0) (z 1)) + r (ix3 3 (z 0) (z 1))

/-- The turned sum of four, at a row of the device's own. -/
theorem turned (c : Dev nD) (x : S912x256.Idx → EReal) (h : S912x256.Rotates 0 none) (y : S897x256.Idx) (z : S912x256.Idx)
    (h0 : (z 0).val = (y 0).val) (h1 : (z 1).val = (y 1).val) :
    dynamicRotate 0 (turn c) none x h z = x (ix2 (row c (y 0)) (y 1)) := by
  have hc : c.val < 8 := c.isLt
  have hy : (y 0).val < 897 := (y 0).isLt
  refine dynamicRotate_apply _ _ _ _ _ _ fun b => ?_
  rw [turn_val]
  fin_cases b
  · simp [row, h0]
    omega
  · simp [h1]

variable (m : (ℓ : Loc nD τ sig) → Buf (Elt Ideal) ℓ) (c : Dev nD)

theorem zeros : ∀ a, (![0, 0] : Fin 2 → Nat) a = 0 := by decide

/-- The turned sum as the call leaves it, at a row of the device's own. -/
theorem own (x0 : S4x912x256.Idx → EReal) (y : S897x256.Idx) (z : S912x256.Idx)
    (h0 : (z 0).val = (y 0).val) (h1 : (z 1).val = (y 1).val) :
    k0_pay1 (F := Ideal) (View.ld (Val := Elt Ideal) (S := S4x912x256) (e' := .bf16) x0 (Rect.unit (s := S4x912x256) ![0, 0, 0] S1x912x256.size inb_S4x912x256_S1x912x256_0_0_0))
                (View.ld (Val := Elt Ideal) (S := S4x912x256) (e' := .bf16) x0 (Rect.unit (s := S4x912x256) ![1, 0, 0] S1x912x256.size inb_S4x912x256_S1x912x256_1_0_0))
                (View.ld (Val := Elt Ideal) (S := S4x912x256) (e' := .bf16) x0 (Rect.unit (s := S4x912x256) ![2, 0, 0] S1x912x256.size inb_S4x912x256_S1x912x256_2_0_0))
                (View.ld (Val := Elt Ideal) (S := S4x912x256) (e' := .bf16) x0 (Rect.unit (s := S4x912x256) ![3, 0, 0] S1x912x256.size inb_S4x912x256_S1x912x256_3_0_0)) c z = part c x0 y := by
  unfold k0_pay1
  dsimp only
  rw [shapeCast_self]
  refine (turned c _ _ y z h0 h1).trans ?_
  unfold part
  generalize row c (y 0) = k
  idx_vars y
  pointwise

/-- The block of the turned sum that a device keeps. -/
def kept (x0 : S4x912x256.Idx → EReal) : S897x256.Idx → EReal := fun y => part c x0 y

theorem kept_eq (x0 : S4x912x256.Idx → EReal) : (fun j => View.canon (Val := Elt Ideal) (s := S912x256) (e := .f32) [⟨Rect.unit ![0, 0] ![912, 256] inb_S912x256_S912x256_0_0, k0_pay1 (F := Ideal) (View.ld (Val := Elt Ideal) (S := S4x912x256) (e' := .bf16) x0 (Rect.unit (s := S4x912x256) ![0, 0, 0] S1x912x256.size inb_S4x912x256_S1x912x256_0_0_0))
                (View.ld (Val := Elt Ideal) (S := S4x912x256) (e' := .bf16) x0 (Rect.unit (s := S4x912x256) ![1, 0, 0] S1x912x256.size inb_S4x912x256_S1x912x256_1_0_0))
                (View.ld (Val := Elt Ideal) (S := S4x912x256) (e' := .bf16) x0 (Rect.unit (s := S4x912x256) ![2, 0, 0] S1x912x256.size inb_S4x912x256_S1x912x256_2_0_0))
                (View.ld (Val := Elt Ideal) (S := S4x912x256) (e' := .bf16) x0 (Rect.unit (s := S4x912x256) ![3, 0, 0] S1x912x256.size inb_S4x912x256_S1x912x256_3_0_0)) c⟩]
          ((Rect.unit (s := S912x256) ![0, 0] ![897, 256] inb_S912x256_S897x256_0_0).idx j)) = kept c x0 := by
  funext y
  exact (congrFun (View.canon_cons_unit_lit (S := S912x256) (off := ![0, 0]) inb_S912x256_S912x256_0_0 _ [] zeros) _).trans (own c x0 y _ (by simp) (by simp))

theorem g_blk (t : Fin cfg0.N) (y : S897x256.Idx) : (outsAt0 m c t).1 y = part c (iblk m c 0 t) y := by
  unfold outsAt0
  generalize iblk m c 0 t = x0
  generalize iblk m c 1 t = x1
  generalize iblk m c 2 t = x2
  generalize iblk m c 3 t = x3
  dsimp only
  frame_open
  frame_out
  simp only [View.readCov_eq_canon']
  exact congrFun (kept_eq c x0) y
theorem d_blk (t : Fin cfg0.N) (y : S897x256.Idx) : (outsAt0 m c t).2.1 y = step (iblk m c 1 t y) (first (part c (iblk m c 0 t) y) (iblk m c 2 t y) * ((8388608 / 5463681 : ℝ) : EReal)) (second (part c (iblk m c 0 t) y) (iblk m c 3 t y) * ((268435456 / 2672307 : ℝ) : EReal)) := by
  unfold outsAt0
  generalize iblk m c 0 t = x0
  generalize iblk m c 1 t = x1
  generalize iblk m c 2 t = x2
  generalize iblk m c 3 t = x3
  dsimp only
  frame_open
  frame_out
  simp only [View.readCov_eq_canon']
  rw [kept_eq]
  unfold first second step
  rw [show part c x0 y = kept c x0 y from rfl]
  generalize kept c x0 = k0
  idx_vars y
  pointwise [k0_pay2, k0_pay3, k0_pay4]
  rw [inv1, inv2]
theorem m_blk (t : Fin cfg0.N) (y : S897x256.Idx) : (outsAt0 m c t).2.2.1 y = first (part c (iblk m c 0 t) y) (iblk m c 2 t y) := by
  unfold outsAt0
  generalize iblk m c 0 t = x0
  generalize iblk m c 1 t = x1
  generalize iblk m c 2 t = x2
  generalize iblk m c 3 t = x3
  dsimp only
  frame_open
  frame_out
  simp only [View.readCov_eq_canon']
  rw [kept_eq]
  unfold first
  rw [show part c x0 y = kept c x0 y from rfl]
  generalize kept c x0 = k0
  idx_vars y
  pointwise [k0_pay2, k0_pay3, k0_pay4]
theorem v_blk (t : Fin cfg0.N) (y : S897x256.Idx) : (outsAt0 m c t).2.2.2 y = second (part c (iblk m c 0 t) y) (iblk m c 3 t y) := by
  unfold outsAt0
  generalize iblk m c 0 t = x0
  generalize iblk m c 1 t = x1
  generalize iblk m c 2 t = x2
  generalize iblk m c 3 t = x3
  dsimp only
  frame_open
  frame_out
  simp only [View.readCov_eq_canon']
  rw [kept_eq]
  unfold second
  rw [show part c x0 y = kept c x0 y from rfl]
  generalize kept c x0 = k0
  idx_vars y
  pointwise [k0_pay2, k0_pay3, k0_pay4]

/-- Where each window's block lies. -/
theorem at0 : ∀ t : Fin cfg0.N, win0_0.index t = ![0, 0, t.val]
    ∧ win0_1.index t = ![0, t.val]
    ∧ win0_2.index t = ![0, t.val]
    ∧ win0_3.index t = ![0, t.val]
    ∧ win0_4.index t = ![0, t.val]
    ∧ win0_5.index t = ![0, t.val]
    ∧ win0_6.index t = ![0, t.val]
    ∧ win0_7.index t = ![0, t.val] :=
  (by decide +kernel : ∀ t : Fin grid0.N, _)

theorem x0_at (t : Fin cfg0.N) (b : Fin 4) (k : Fin 912) (y : S897x256.Idx) (i : S897x2048.Idx) (hj : (i 1).val = 256 * t.val + (y 1).val) :
    iblk m c 0 t (ix3 b k (y 1)) = m (c, Proc.tc.devRef main_arg0) (ix3 b k (i 1)) := by
  have e0 := (at0 t).1
  unfold iblk; blk_simp; rw [V_main_arg0]; blk_ext [e0]

theorem part_at (t : Fin cfg0.N) (y : S897x256.Idx) (i : S897x2048.Idx) (hr : (i 0).val = (y 0).val) (hj : (i 1).val = 256 * t.val + (y 1).val) :
    part c (iblk m c 0 t) y = grad c (m (c, Proc.tc.devRef main_arg0)) i := by
  have e : row c (y 0) = row c (i 0) := congrArg (row c) (Fin.ext hr.symm)
  unfold part grad
  rw [← e]
  exact congr (congrArg _ (congr (congrArg _ (congr (congrArg _ (x0_at m c t 0 _ y i hj)) (x0_at m c t 1 _ y i hj)))
    (x0_at m c t 2 _ y i hj))) (x0_at m c t 3 _ y i hj)

theorem x1_at (t : Fin cfg0.N) (y : S897x256.Idx) (i : S897x2048.Idx) (hr : (i 0).val = (y 0).val) (hj : (i 1).val = 256 * t.val + (y 1).val) :
    iblk m c 1 t y = m (c, Proc.tc.devRef main_arg1) i := by
  have e0 := (at0 t).2.1
  unfold iblk; blk_simp; rw [V_main_arg1]; blk_ext [e0]

theorem x2_at (t : Fin cfg0.N) (y : S897x256.Idx) (i : S897x2048.Idx) (hr : (i 0).val = (y 0).val) (hj : (i 1).val = 256 * t.val + (y 1).val) :
    iblk m c 2 t y = m (c, Proc.tc.devRef main_arg2) i := by
  have e0 := (at0 t).2.2.1
  unfold iblk; blk_simp; rw [V_main_arg2]; blk_ext [e0]

theorem x3_at (t : Fin cfg0.N) (y : S897x256.Idx) (i : S897x2048.Idx) (hr : (i 0).val = (y 0).val) (hj : (i 1).val = 256 * t.val + (y 1).val) :
    iblk m c 3 t y = m (c, Proc.tc.devRef main_arg3) i := by
  have e0 := (at0 t).2.2.2.1
  unfold iblk; blk_simp; rw [V_main_arg3]; blk_ext [e0]

theorem g_point (t : Fin cfg0.N) (y : S897x256.Idx) (i : S897x2048.Idx) (hr : (i 0).val = (y 0).val) (hj : (i 1).val = 256 * t.val + (y 1).val) :
    (outsAt0 m c t).1 y = grad c (m (c, Proc.tc.devRef main_arg0)) i :=
  (g_blk m c t y).trans (part_at m c t y i hr hj)

theorem g_arr : (dats m 0 c).arrAt 4 cfg0.N = grad c (m (c, Proc.tc.devRef main_arg0)) := by
  refine (dats m 0 c).arrAt_eq_of_covers 4 _ (by decide +kernel) fun t hf y => ?_
  blk_simp
  rw [after0_4]
  have e2 := (at0 t).2.2.2.2.1
  refine g_point m c t _ _ ?_ ?_ <;> blk_simp [e2] <;> simp <;> omega

theorem d_point (t : Fin cfg0.N) (y : S897x256.Idx) (i : S897x2048.Idx) (hr : (i 0).val = (y 0).val) (hj : (i 1).val = 256 * t.val + (y 1).val) :
    (outsAt0 m c t).2.1 y = delta c (m (c, Proc.tc.devRef main_arg0)) (m (c, Proc.tc.devRef main_arg1)) (m (c, Proc.tc.devRef main_arg2)) (m (c, Proc.tc.devRef main_arg3)) i :=
  (d_blk m c t y).trans (congr (congr (congrArg step (x1_at m c t y i hr hj)) (congrArg (fun z : EReal => z * _) (congr (congrArg first (part_at m c t y i hr hj)) (x2_at m c t y i hr hj)))) (congrArg (fun z : EReal => z * _) (congr (congrArg second (part_at m c t y i hr hj)) (x3_at m c t y i hr hj))))

theorem d_arr : (dats m 0 c).arrAt 5 cfg0.N = delta c (m (c, Proc.tc.devRef main_arg0)) (m (c, Proc.tc.devRef main_arg1)) (m (c, Proc.tc.devRef main_arg2)) (m (c, Proc.tc.devRef main_arg3)) := by
  refine (dats m 0 c).arrAt_eq_of_covers 5 _ (by decide +kernel) fun t hf y => ?_
  blk_simp
  rw [after0_5]
  have e2 := (at0 t).2.2.2.2.2.1
  refine d_point m c t _ _ ?_ ?_ <;> blk_simp [e2] <;> simp <;> omega

theorem m_point (t : Fin cfg0.N) (y : S897x256.Idx) (i : S897x2048.Idx) (hr : (i 0).val = (y 0).val) (hj : (i 1).val = 256 * t.val + (y 1).val) :
    (outsAt0 m c t).2.2.1 y = new_p c (m (c, Proc.tc.devRef main_arg0)) (m (c, Proc.tc.devRef main_arg2)) i :=
  (m_blk m c t y).trans (congr (congrArg first (part_at m c t y i hr hj)) (x2_at m c t y i hr hj))

theorem m_arr : (dats m 0 c).arrAt 6 cfg0.N = new_p c (m (c, Proc.tc.devRef main_arg0)) (m (c, Proc.tc.devRef main_arg2)) := by
  refine (dats m 0 c).arrAt_eq_of_covers 6 _ (by decide +kernel) fun t hf y => ?_
  blk_simp
  rw [after0_6]
  have e2 := (at0 t).2.2.2.2.2.2.1
  refine m_point m c t _ _ ?_ ?_ <;> blk_simp [e2] <;> simp <;> omega

theorem v_point (t : Fin cfg0.N) (y : S897x256.Idx) (i : S897x2048.Idx) (hr : (i 0).val = (y 0).val) (hj : (i 1).val = 256 * t.val + (y 1).val) :
    (outsAt0 m c t).2.2.2 y = new_s c (m (c, Proc.tc.devRef main_arg0)) (m (c, Proc.tc.devRef main_arg3)) i :=
  (v_blk m c t y).trans (congr (congrArg second (part_at m c t y i hr hj)) (x3_at m c t y i hr hj))

theorem v_arr : (dats m 0 c).arrAt 7 cfg0.N = new_s c (m (c, Proc.tc.devRef main_arg0)) (m (c, Proc.tc.devRef main_arg3)) := by
  refine (dats m 0 c).arrAt_eq_of_covers 7 _ (by decide +kernel) fun t hf y => ?_
  blk_simp
  rw [after0_7]
  have e2 := (at0 t).2.2.2.2.2.2.2
  refine v_point m c t _ _ ?_ ?_ <;> blk_simp [e2] <;> simp <;> omega

end Cert.AdamInIdeal.Sums

namespace Cert.AdamInRefIdeal.Sums

open Idealize.ShloMosaic Cert.AdamInRefIdeal Cert.AdamInRefIdeal.Gen Cert.Adam

/-- The place among all partial sums of a device's `b`-th. -/
def nth (d : Fin 8) (b : Fin 4) : Fin 32 := ⟨d.val * 4 + b.val, by omega⟩

/-- Each device's four partial sums added. -/
def sums (r : FVec Ideal S32x912x2048 .bf16) : FVec Ideal S8x912x2048 .f32 :=
  Host.reduceAdd (shapeCast _ (extf .f32 r bitsLt_bf16_f32) shapeCasts_S32x912x2048_S8x4x912x2048) (constant S_ .f32 0x00000000#32) reducesTo_S8x4x912x2048_S8x912x2048_d1 h_S_

theorem sums_at (r : FVec Ideal S32x912x2048 .bf16) (d : Fin 8) (k : Fin 912) (j : Fin 2048) :
    sums r (ix3 d k j) = r (ix3 (nth d 0) k j) + r (ix3 (nth d 1) k j) + r (ix3 (nth d 2) k j) + r (ix3 (nth d 3) k j) := by
  unfold sums
  pointwise
  rw [Fin.sum_univ_four]
  rfl

/-- The pieces of the gradient, device by device. -/
def piece (r : FVec Ideal S32x912x2048 .bf16) : Fin 8 → FVec Ideal S897x2048 .f32 :=
  ![shapeCast _ (extractStridedSlice S1x897x2048 ![0, 0, 0] (sums r) slices_S8x912x2048_S1x897x2048_0_0_0) shapeCasts_S1x897x2048_S897x2048, shapeCast _ (extractStridedSlice S1x897x2048 ![1, 1, 0] (sums r) slices_S8x912x2048_S1x897x2048_1_1_0) shapeCasts_S1x897x2048_S897x2048, shapeCast _ (extractStridedSlice S1x897x2048 ![2, 2, 0] (sums r) slices_S8x912x2048_S1x897x2048_2_2_0) shapeCasts_S1x897x2048_S897x2048, shapeCast _ (extractStridedSlice S1x897x2048 ![3, 3, 0] (sums r) slices_S8x912x2048_S1x897x2048_3_3_0) shapeCasts_S1x897x2048_S897x2048, shapeCast _ (extractStridedSlice S1x897x2048 ![4, 4, 0] (sums r) slices_S8x912x2048_S1x897x2048_4_4_0) shapeCasts_S1x897x2048_S897x2048, shapeCast _ (extractStridedSlice S1x897x2048 ![5, 5, 0] (sums r) slices_S8x912x2048_S1x897x2048_5_5_0) shapeCasts_S1x897x2048_S897x2048, shapeCast _ (extractStridedSlice S1x897x2048 ![6, 6, 0] (sums r) slices_S8x912x2048_S1x897x2048_6_6_0) shapeCasts_S1x897x2048_S897x2048, shapeCast _ (extractStridedSlice S1x897x2048 ![7, 7, 0] (sums r) slices_S8x912x2048_S1x897x2048_7_7_0) shapeCasts_S1x897x2048_S897x2048]

theorem piece_at (r : FVec Ideal S32x912x2048 .bf16) (d : Fin 8) (k : Fin 897) (j : Fin 2048) :
    piece r d (ix2 k j) = sums r (ix3 d (⟨d.val + k.val, by omega⟩ : Fin 912) j) := by
  unfold piece
  generalize sums r = z
  fin_cases d <;> pointwise

/-- The gradient as the reference has it. -/
def whole (r : FVec Ideal S32x912x2048 .bf16) : FVec Ideal S7176x2048 .f32 :=
  (concatenate S7176x2048 0 [⟨S897x2048, ((shapeCast _ (extractStridedSlice S1x897x2048 ![0, 0, 0] (Host.reduceAdd (shapeCast _ (extf .f32 r bitsLt_bf16_f32) shapeCasts_S32x912x2048_S8x4x912x2048) (constant S_ .f32 0x00000000#32) reducesTo_S8x4x912x2048_S8x912x2048_d1 h_S_) slices_S8x912x2048_S1x897x2048_0_0_0) shapeCasts_S1x897x2048_S897x2048) : (⟨S897x2048, .f32⟩ : BufTy).Contents (Elt Ideal))⟩, ⟨S897x2048, ((shapeCast _ (extractStridedSlice S1x897x2048 ![1, 1, 0] (Host.reduceAdd (shapeCast _ (extf .f32 r bitsLt_bf16_f32) shapeCasts_S32x912x2048_S8x4x912x2048) (constant S_ .f32 0x00000000#32) reducesTo_S8x4x912x2048_S8x912x2048_d1 h_S_) slices_S8x912x2048_S1x897x2048_1_1_0) shapeCasts_S1x897x2048_S897x2048) : (⟨S897x2048, .f32⟩ : BufTy).Contents (Elt Ideal))⟩, ⟨S897x2048, ((shapeCast _ (extractStridedSlice S1x897x2048 ![2, 2, 0] (Host.reduceAdd (shapeCast _ (extf .f32 r bitsLt_bf16_f32) shapeCasts_S32x912x2048_S8x4x912x2048) (constant S_ .f32 0x00000000#32) reducesTo_S8x4x912x2048_S8x912x2048_d1 h_S_) slices_S8x912x2048_S1x897x2048_2_2_0) shapeCasts_S1x897x2048_S897x2048) : (⟨S897x2048, .f32⟩ : BufTy).Contents (Elt Ideal))⟩, ⟨S897x2048, ((shapeCast _ (extractStridedSlice S1x897x2048 ![3, 3, 0] (Host.reduceAdd (shapeCast _ (extf .f32 r bitsLt_bf16_f32) shapeCasts_S32x912x2048_S8x4x912x2048) (constant S_ .f32 0x00000000#32) reducesTo_S8x4x912x2048_S8x912x2048_d1 h_S_) slices_S8x912x2048_S1x897x2048_3_3_0) shapeCasts_S1x897x2048_S897x2048) : (⟨S897x2048, .f32⟩ : BufTy).Contents (Elt Ideal))⟩, ⟨S897x2048, ((shapeCast _ (extractStridedSlice S1x897x2048 ![4, 4, 0] (Host.reduceAdd (shapeCast _ (extf .f32 r bitsLt_bf16_f32) shapeCasts_S32x912x2048_S8x4x912x2048) (constant S_ .f32 0x00000000#32) reducesTo_S8x4x912x2048_S8x912x2048_d1 h_S_) slices_S8x912x2048_S1x897x2048_4_4_0) shapeCasts_S1x897x2048_S897x2048) : (⟨S897x2048, .f32⟩ : BufTy).Contents (Elt Ideal))⟩, ⟨S897x2048, ((shapeCast _ (extractStridedSlice S1x897x2048 ![5, 5, 0] (Host.reduceAdd (shapeCast _ (extf .f32 r bitsLt_bf16_f32) shapeCasts_S32x912x2048_S8x4x912x2048) (constant S_ .f32 0x00000000#32) reducesTo_S8x4x912x2048_S8x912x2048_d1 h_S_) slices_S8x912x2048_S1x897x2048_5_5_0) shapeCasts_S1x897x2048_S897x2048) : (⟨S897x2048, .f32⟩ : BufTy).Contents (Elt Ideal))⟩, ⟨S897x2048, ((shapeCast _ (extractStridedSlice S1x897x2048 ![6, 6, 0] (Host.reduceAdd (shapeCast _ (extf .f32 r bitsLt_bf16_f32) shapeCasts_S32x912x2048_S8x4x912x2048) (constant S_ .f32 0x00000000#32) reducesTo_S8x4x912x2048_S8x912x2048_d1 h_S_) slices_S8x912x2048_S1x897x2048_6_6_0) shapeCasts_S1x897x2048_S897x2048) : (⟨S897x2048, .f32⟩ : BufTy).Contents (Elt Ideal))⟩, ⟨S897x2048, ((shapeCast _ (extractStridedSlice S1x897x2048 ![7, 7, 0] (Host.reduceAdd (shapeCast _ (extf .f32 r bitsLt_bf16_f32) shapeCasts_S32x912x2048_S8x4x912x2048) (constant S_ .f32 0x00000000#32) reducesTo_S8x4x912x2048_S8x912x2048_d1 h_S_) slices_S8x912x2048_S1x897x2048_7_7_0) shapeCasts_S1x897x2048_S897x2048) : (⟨S897x2048, .f32⟩ : BufTy).Contents (Elt Ideal))⟩] concatenates_S897x2048_S897x2048_S897x2048_S897x2048_S897x2048_S897x2048_S897x2048_S897x2048_S7176x2048_d0 : (⟨S7176x2048, .f32⟩ : BufTy).Contents (Elt Ideal))

theorem whole_at (r : FVec Ideal S32x912x2048 .bf16) (d : Fin 8) (k : Fin 897) (j : Fin 2048) (i : S7176x2048.Idx)
    (h0 : (i 0).val = d.val * 897 + k.val) (h1 : (i 1).val = j.val) : whole r i = piece r d (ix2 k j) := by
  refine concatenate_ofFn_apply (t := S7176x2048) (s₁ := S897x2048) 0 (piece r) _ rfl 897 rfl i d ?_ (ix2 k j) ?_ ?_
  · rw [h0]
    have hk : k.val < 897 := k.isLt
    omega
  · rw [h0]
    have hk : k.val < 897 := k.isLt
    show k.val = _
    omega
  · intro b hb
    fin_cases b
    · exact absurd rfl hb
    · exact h1.symm

/-- A device's block of the gradient. -/
theorem g_cut (r : FVec Ideal S32x912x2048 .bf16) (c : Dev 8) (i : S897x2048.Idx) (h : Layout.Tiles ⟨2, ![897, 2048]⟩ ⟨2, ![7176, 2048]⟩ 0 8) :
    whole r (h.idx c i) = Cert.AdamInIdeal.Sums.grad c (Layout.block ⟨3, ![4, 912, 2048]⟩ ⟨3, ![32, 912, 2048]⟩ 0 8 c r) i := by
  have e : ∀ b : Fin 4, r (ix3 (nth c b) (Cert.AdamInIdeal.Sums.row c (i 0)) (i 1))
      = (Layout.block ⟨3, ![4, 912, 2048]⟩ ⟨3, ![32, 912, 2048]⟩ 0 8 c r) (ix3 b (Cert.AdamInIdeal.Sums.row c (i 0)) (i 1)) := fun b =>
    congrArg r (funext fun a => Fin.ext (by fin_cases a <;> rfl))
  refine (whole_at r c (i 0) (i 1) (h.idx c i) (Layout.idx_rows_val h c i).1 (Layout.idx_rows_val h c i).2).trans
    ((piece_at r c (i 0) (i 1)).trans ((sums_at r c _ _).trans ?_))
  exact congr (congrArg _ (congr (congrArg _ (congr (congrArg _ (e 0)) (e 1))) (e 2))) (e 3)

theorem m_at (g p : FVec Ideal S7176x2048 .f32) (i : S7176x2048.Idx) : (addf (mulf (broadcastInDim S7176x2048 ![] bcast_S_S7176x2048 (constant S_ .f32 0x3F666666#32)) p) (mulf (broadcastInDim S7176x2048 ![] bcast_S_S7176x2048 (constant S_ .f32 0x3DCCCCCD#32)) g)) i = first (g i) (p i) := by
  unfold first
  idx_vars i
  pointwise

theorem v_at (g s : FVec Ideal S7176x2048 .f32) (i : S7176x2048.Idx) : (addf (mulf (broadcastInDim S7176x2048 ![] bcast_S_S7176x2048 (constant S_ .f32 0x3F7FBE77#32)) s) (mulf (broadcastInDim S7176x2048 ![] bcast_S_S7176x2048 (constant S_ .f32 0x3A83126F#32)) (mulf g g))) i = second (g i) (s i) := by
  unfold second
  idx_vars i
  pointwise

theorem d_at (g w p s : FVec Ideal S7176x2048 .f32) (i : S7176x2048.Idx) : (mulf (broadcastInDim S7176x2048 ![] bcast_S_S7176x2048 (constant S_ .f32 0xBA83126F#32)) (addf (Host.divf (Host.divf (addf (mulf (broadcastInDim S7176x2048 ![] bcast_S_S7176x2048 (constant S_ .f32 0x3F666666#32)) p) (mulf (broadcastInDim S7176x2048 ![] bcast_S_S7176x2048 (constant S_ .f32 0x3DCCCCCD#32)) g)) (broadcastInDim S7176x2048 ![] bcast_S_S7176x2048 (constant S_ .f32 0x3F26BD02#32))) (addf (Host.sqrt (Host.divf (addf (mulf (broadcastInDim S7176x2048 ![] bcast_S_S7176x2048 (constant S_ .f32 0x3F7FBE77#32)) s) (mulf (broadcastInDim S7176x2048 ![] bcast_S_S7176x2048 (constant S_ .f32 0x3A83126F#32)) (mulf g g))) (broadcastInDim S7176x2048 ![] bcast_S_S7176x2048 (constant S_ .f32 0x3C231ACC#32)))) (broadcastInDim S7176x2048 ![] bcast_S_S7176x2048 (constant S_ .f32 0x322BCC77#32)))) (mulf (broadcastInDim S7176x2048 ![] bcast_S_S7176x2048 (constant S_ .f32 0x3C23D70A#32)) w))) i
    = step (w i) (first (g i) (p i) * ((8388608 / 5463681 : ℝ) : EReal)) (second (g i) (s i) * ((268435456 / 2672307 : ℝ) : EReal)) := by
  unfold first second step
  idx_vars i
  pointwise
  rw [div1, div2]

end Cert.AdamInRefIdeal.Sums

end
-- ==== Proof.StepIn.lean ====
/- The projections' weight: AdamW's call on every device, and its claims. -/
module

public import proofs.«01_k».proof.Defs
public import proofs.«01_k».proof.Proof.AdamIn
public import Idealize.ShloMosaic.Lib.Claim
public import Idealize.ShloMosaic.Adequacy
public import Idealize.ShloMosaic.Init
public import proofs.«01_k».proof.Proof.Gen.AdamIn
public import proofs.«01_k».proof.Proof.Gen.AdamInIdeal
public import proofs.«01_k».proof.Proof.Gen.AdamInRefIdeal
public import proofs.«01_k».proof.Proof.Gen.AdamInIdeal.Frame
public import proofs.«01_k».proof.Proof.Gen.AdamInIdeal.Value
public import proofs.«01_k».proof.Proof.Gen.AdamInRefIdeal.Run

@[expose] public section

set_option maxRecDepth 16384

noncomputable section

namespace Cert.Steps

open Idealize.ShloMosaic Idealize.SL.Sem

theorem adam_in_ref : Cert.quiescent_AdamInRefIdeal := fun m g _ =>
  (θ_run Cert.AdamInRefIdeal.defs _ _).mono (fun r h => ⟨fun c => (h c).2.2.2.2, sem_eq_zero_of_no_sems (by decide) r.2⟩)
    (Cert.AdamInRefIdeal.Value.run m g)

theorem adam_in_names : Cert.preserves_AdamIn_AdamInIdeal :=
  ⟨IdealRules.named_const.statement Cert.AdamInIdeal.κ "inv_bias1" .f32 0x3FC48605#32 ((8388608 / 5463681 : ℝ) : EReal) rfl,
    IdealRules.named_const.statement Cert.AdamInIdeal.κ "inv_bias2" .f32 0x42C8E6D3#32 ((268435456 / 2672307 : ℝ) : EReal) rfl⟩

theorem adam_in : Cert.algebraic_AdamInIdeal_AdamInRefIdeal := by
  intro m g m' g' _ hagree
  refine ⟨_, _, _, _, (θ_run Cert.AdamInIdeal.defs _ _).mono (fun r h c => ?_) (Cert.AdamInIdeal.Value.run_blocks m g),
    (θ_run Cert.AdamInRefIdeal.defs _ _).mono (fun r h => h 0) (Cert.AdamInRefIdeal.Value.run m' g')⟩
  obtain ⟨h0, h1, h2, h3⟩ := hagree c
  refine ⟨(h c).1.trans ((Cert.AdamInIdeal.Sums.g_arr m c).trans ?_), (h c).2.1.trans ((Cert.AdamInIdeal.Sums.d_arr m c).trans ?_),
    (h c).2.2.1.trans ((Cert.AdamInIdeal.Sums.m_arr m c).trans ?_), (h c).2.2.2.1.trans ((Cert.AdamInIdeal.Sums.v_arr m c).trans ?_), (h c).2.2.2.2⟩
  all_goals funext i
  · refine (congrFun (congrArg (Cert.AdamInIdeal.Sums.grad c) h0) i).trans ?_
    exact (Cert.AdamInRefIdeal.Sums.g_cut (m' (((0 : Dev Cert.AdamInRefIdeal.nD).tc : Thread Cert.AdamInRefIdeal.nD Cert.AdamInRefIdeal.τ).loc Cert.AdamInRefIdeal.main_arg0)) c i (by decide)).symm
  · refine (congrFun (congr (congr (congr (congrArg (Cert.AdamInIdeal.Sums.delta c) h0) h1) h2) h3) i).trans ?_
    refine Eq.symm ((Cert.AdamInRefIdeal.Sums.d_at (Cert.AdamInRefIdeal.Sums.whole (m' (((0 : Dev Cert.AdamInRefIdeal.nD).tc : Thread Cert.AdamInRefIdeal.nD Cert.AdamInRefIdeal.τ).loc Cert.AdamInRefIdeal.main_arg0))) (m' (((0 : Dev Cert.AdamInRefIdeal.nD).tc : Thread Cert.AdamInRefIdeal.nD Cert.AdamInRefIdeal.τ).loc Cert.AdamInRefIdeal.main_arg1)) (m' (((0 : Dev Cert.AdamInRefIdeal.nD).tc : Thread Cert.AdamInRefIdeal.nD Cert.AdamInRefIdeal.τ).loc Cert.AdamInRefIdeal.main_arg2)) (m' (((0 : Dev Cert.AdamInRefIdeal.nD).tc : Thread Cert.AdamInRefIdeal.nD Cert.AdamInRefIdeal.τ).loc Cert.AdamInRefIdeal.main_arg3)) (Layout.Tiles.idx (by decide) c i)).trans ?_)
    rw [Cert.AdamInRefIdeal.Sums.g_cut (m' (((0 : Dev Cert.AdamInRefIdeal.nD).tc : Thread Cert.AdamInRefIdeal.nD Cert.AdamInRefIdeal.τ).loc Cert.AdamInRefIdeal.main_arg0)) c i (by decide)]
    rfl
  · refine (congrFun (congr (congrArg (Cert.AdamInIdeal.Sums.new_p c) h0) h2) i).trans ?_
    refine Eq.symm ((Cert.AdamInRefIdeal.Sums.m_at (Cert.AdamInRefIdeal.Sums.whole (m' (((0 : Dev Cert.AdamInRefIdeal.nD).tc : Thread Cert.AdamInRefIdeal.nD Cert.AdamInRefIdeal.τ).loc Cert.AdamInRefIdeal.main_arg0))) (m' (((0 : Dev Cert.AdamInRefIdeal.nD).tc : Thread Cert.AdamInRefIdeal.nD Cert.AdamInRefIdeal.τ).loc Cert.AdamInRefIdeal.main_arg2)) (Layout.Tiles.idx (by decide) c i)).trans ?_)
    rw [Cert.AdamInRefIdeal.Sums.g_cut (m' (((0 : Dev Cert.AdamInRefIdeal.nD).tc : Thread Cert.AdamInRefIdeal.nD Cert.AdamInRefIdeal.τ).loc Cert.AdamInRefIdeal.main_arg0)) c i (by decide)]
    rfl
  · refine (congrFun (congr (congrArg (Cert.AdamInIdeal.Sums.new_s c) h0) h3) i).trans ?_
    refine Eq.symm ((Cert.AdamInRefIdeal.Sums.v_at (Cert.AdamInRefIdeal.Sums.whole (m' (((0 : Dev Cert.AdamInRefIdeal.nD).tc : Thread Cert.AdamInRefIdeal.nD Cert.AdamInRefIdeal.τ).loc Cert.AdamInRefIdeal.main_arg0))) (m' (((0 : Dev Cert.AdamInRefIdeal.nD).tc : Thread Cert.AdamInRefIdeal.nD Cert.AdamInRefIdeal.τ).loc Cert.AdamInRefIdeal.main_arg3)) (Layout.Tiles.idx (by decide) c i)).trans ?_)
    rw [Cert.AdamInRefIdeal.Sums.g_cut (m' (((0 : Dev Cert.AdamInRefIdeal.nD).tc : Thread Cert.AdamInRefIdeal.nD Cert.AdamInRefIdeal.τ).loc Cert.AdamInRefIdeal.main_arg0)) c i (by decide)]
    rfl

end Cert.Steps

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Out
public import proofs.«01_k».proof.Proof.RefOut
public import proofs.«01_k».proof.Proof.Finite
public import proofs.«01_k».proof.Proof.Products
public import proofs.«01_k».proof.Proof.Steps
public import proofs.«01_k».proof.Proof.StepIn
public import proofs.«01_k».proof.Proof.Gen.UpDw
public import proofs.«01_k».proof.Proof.Gen.UpDwIdeal
public import proofs.«01_k».proof.Proof.Gen.UpDw.Skeleton
public import proofs.«01_k».proof.Proof.Gen.UpDwIdeal.Skeleton
public import proofs.«01_k».proof.Proof.Gen.UpDw.Launch
public import proofs.«01_k».proof.Proof.Gen.UpDwIdeal.Launch
public import proofs.«01_k».proof.Proof.Gen.UpDw.Points
public import proofs.«01_k».proof.Proof.Gen.UpDwIdeal.Points
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDx
public import proofs.«01_k».proof.Proof.Gen.UpDxIdeal
public import proofs.«01_k».proof.Proof.Gen.UpDx.Skeleton
public import proofs.«01_k».proof.Proof.Gen.UpDxIdeal.Skeleton
public import proofs.«01_k».proof.Proof.Gen.UpDx.Launch
public import proofs.«01_k».proof.Proof.Gen.UpDxIdeal.Launch
public import proofs.«01_k».proof.Proof.Gen.UpDx.Points
public import proofs.«01_k».proof.Proof.Gen.UpDxIdeal.Points
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjFwd
public import proofs.«01_k».proof.Proof.Gen.ProjFwd.Skeleton
public import proofs.«01_k».proof.Proof.Gen.ProjFwd.Launch
public import proofs.«01_k».proof.Proof.Gen.ProjFwd.Points
public import proofs.«01_k».proof.Proof.Gen.ProjFwd.Frame
public import proofs.«01_k».proof.Proof.Gen.ProjFwdIdeal
public import proofs.«01_k».proof.Proof.Gen.ProjFwdIdeal.Skeleton
public import proofs.«01_k».proof.Proof.Gen.ProjFwdIdeal.Launch
public import proofs.«01_k».proof.Proof.Gen.ProjFwdIdeal.Points
public import proofs.«01_k».proof.Proof.Gen.ProjFwdIdeal.Frame
public import proofs.«01_k».proof.Proof.Gen.ProjFwdIdeal.Value
public import proofs.«01_k».proof.Proof.Gen.ProjFwdRefIdeal
public import proofs.«01_k».proof.Proof.Gen.ProjFwdRefIdeal.Run
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.UpFwd
public import proofs.«01_k».proof.Proof.Gen.UpFwd.Skeleton
public import proofs.«01_k».proof.Proof.Gen.UpFwd.Launch
public import proofs.«01_k».proof.Proof.Gen.UpFwd.Points
public import proofs.«01_k».proof.Proof.Gen.UpFwd.Frame
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpFwdIdeal.Value
public import proofs.«01_k».proof.Proof.Gen.UpFwdRefIdeal
public import proofs.«01_k».proof.Proof.Gen.UpFwdRefIdeal.Run
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference runs and keeps its arguments; it declares no semaphore. -/
theorem ref_frame : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

section
variable {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hpre : Cert.Pre_KernelIdeal_finite m)
    (hagree : ∀ c : Dev Cert.KernelIdeal.nD,
      m' ((c.tc : Thread Cert.ReferenceIdeal.nD Cert.ReferenceIdeal.τ).loc Cert.ReferenceIdeal.main_arg0)
          = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
          = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
          = m ((c.tc : Thread Cert.KernelIdeal.nD Cert.KernelIdeal.τ).loc Cert.KernelIdeal.main_arg3))
    (c : Dev Cert.KernelIdeal.nD)
include hpre hagree

theorem args : Cert.KernelIdeal.Prep.Reals (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) := by
  have R := Cert.Finite.reals (hpre c)
  obtain ⟨h0, h1, h2, -⟩ := hagree c
  exact h0 ▸ h1 ▸ h2 ▸ R
/-- Both programs leave the same gradient of the projections. -/
theorem proj : Cert.ReferenceIdeal.Value.val3 (StableHlo.launchContents m' c) (Proc.devRef .tc Cert.ReferenceIdeal.main_v128)
    = (Cert.KernelIdeal.Gen.dats m 0 c).arrAt 9 Cert.KernelIdeal.cfg0.N := by
  obtain ⟨h0, h1, h2, h3⟩ := hagree c
  refine (Cert.ReferenceIdeal.Sums.d_proj (V0 := StableHlo.launchContents m' c) (args hpre hagree c)).trans (Eq.trans ?_
    (Cert.KernelIdeal.Tiles.arr9 m c (Cert.Finite.reals (hpre c))).symm)
  exact (congr (congr (congr (congrArg Cert.Target.dProj h0) h1) h2) h3)
/-- Both programs leave the same gradient of the gates. -/
theorem gate : Cert.ReferenceIdeal.Value.val3 (StableHlo.launchContents m' c) (Proc.devRef .tc Cert.ReferenceIdeal.main_v132)
    = (Cert.KernelIdeal.Gen.dats m 0 c).arrAt 10 Cert.KernelIdeal.cfg0.N := by
  obtain ⟨h0, h1, h2, h3⟩ := hagree c
  refine (Cert.ReferenceIdeal.Sums.d_gate (V0 := StableHlo.launchContents m' c) (args hpre hagree c)).trans (Eq.trans ?_
    (Cert.KernelIdeal.Tiles.arr10 m c (Cert.Finite.reals (hpre c))).symm)
  exact (congr (congr (congrArg Cert.Target.dGate h0) h1) h2)
end

theorem claim : Cert.Claim := ⟨Cert.Kernel.Gen.facts, Cert.KernelIdeal.Gen.facts, Cert.ReferenceIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.ProjDw.Gen.facts, Cert.ProjDwIdeal.Gen.facts, Cert.ProjDwRefIdeal.Gen.facts,
  Cert.ProjDx.Gen.facts, Cert.ProjDxIdeal.Gen.facts, Cert.ProjDxRefIdeal.Gen.facts,
  Cert.ProjFwd.Gen.facts, Cert.ProjFwdIdeal.Gen.facts, Cert.ProjFwdRefIdeal.Gen.facts,
  Cert.OutFwd.Gen.facts, Cert.OutFwdIdeal.Gen.facts, Cert.OutFwdRefIdeal.Gen.facts,
  Cert.UpFwd.Gen.facts, Cert.UpFwdIdeal.Gen.facts, Cert.UpFwdRefIdeal.Gen.facts,
  Cert.DownFwd.Gen.facts, Cert.DownFwdIdeal.Gen.facts, Cert.DownFwdRefIdeal.Gen.facts,
  Cert.AdamDown.Gen.facts, Cert.AdamDownIdeal.Gen.facts, Cert.AdamDownRefIdeal.Gen.facts,
  Cert.AdamUp.Gen.facts, Cert.AdamUpIdeal.Gen.facts, Cert.AdamUpRefIdeal.Gen.facts,
  Cert.AdamOut.Gen.facts, Cert.AdamOutIdeal.Gen.facts, Cert.AdamOutRefIdeal.Gen.facts,
  Cert.AdamSmall.Gen.facts, Cert.AdamSmallIdeal.Gen.facts, Cert.AdamSmallRefIdeal.Gen.facts,
  Cert.SumSmall.Gen.facts, Cert.SumSmallIdeal.Gen.facts, Cert.SumSmallRefIdeal.Gen.facts,
  Cert.AdamIn.Gen.facts, Cert.AdamInIdeal.Gen.facts, Cert.AdamInRefIdeal.Gen.facts,
  Cert.Pre_finite.Gen.facts,
  fun m g _ => Cert.Kernel.Gen.frame m g,
  fun m g _ => Cert.KernelIdeal.Gen.frame m g,
  fun m g _ => Cert.KernelIdeal.Gen.frame m g,
  ref_frame,
  fun m g _ => ref_frame m g trivial,
  fun m g _ => Cert.UpDw.Gen.frame m g, fun m g _ => Cert.UpDwIdeal.Gen.frame m g, Cert.Products.up_dw_ref,
  fun m g _ => Cert.UpDx.Gen.frame m g, fun m g _ => Cert.UpDxIdeal.Gen.frame m g, Cert.Products.up_dx_ref,
  fun m g _ => Cert.DownDw.Gen.frame m g, fun m g _ => Cert.DownDwIdeal.Gen.frame m g, Cert.Products.down_dw_ref,
  fun m g _ => Cert.DownDx.Gen.frame m g, fun m g _ => Cert.DownDxIdeal.Gen.frame m g, Cert.Products.down_dx_ref,
  fun m g _ => Cert.OutDw.Gen.frame m g, fun m g _ => Cert.OutDwIdeal.Gen.frame m g, Cert.Products.out_dw_ref,
  fun m g _ => Cert.OutDx.Gen.frame m g, fun m g _ => Cert.OutDxIdeal.Gen.frame m g, Cert.Products.out_dx_ref,
  fun m g _ => Cert.ProjDw.Gen.frame m g, fun m g _ => Cert.ProjDwIdeal.Gen.frame m g, Cert.Products.proj_dw_ref,
  fun m g _ => Cert.ProjDx.Gen.frame m g, fun m g _ => Cert.ProjDxIdeal.Gen.frame m g, Cert.Products.proj_dx_ref,
  fun m g _ => Cert.ProjFwd.Gen.frame m g, fun m g _ => Cert.ProjFwdIdeal.Gen.frame m g, Cert.Products.proj_fwd_ref,
  fun m g _ => Cert.OutFwd.Gen.frame m g, fun m g _ => Cert.OutFwdIdeal.Gen.frame m g, Cert.Products.out_fwd_ref,
  fun m g _ => Cert.UpFwd.Gen.frame m g, fun m g _ => Cert.UpFwdIdeal.Gen.frame m g, Cert.Products.up_fwd_ref,
  fun m g _ => Cert.DownFwd.Gen.frame m g, fun m g _ => Cert.DownFwdIdeal.Gen.frame m g, Cert.Products.down_fwd_ref,
  fun m g _ => Cert.AdamDown.Gen.frame m g, fun m g _ => Cert.AdamDownIdeal.Gen.frame m g, Cert.Steps.adam_down_ref,
  fun m g _ => Cert.AdamUp.Gen.frame m g, fun m g _ => Cert.AdamUpIdeal.Gen.frame m g, Cert.Steps.adam_up_ref,
  fun m g _ => Cert.AdamOut.Gen.frame m g, fun m g _ => Cert.AdamOutIdeal.Gen.frame m g, Cert.Steps.adam_out_ref,
  fun m g _ => Cert.AdamSmall.Gen.frame m g, fun m g _ => Cert.AdamSmallIdeal.Gen.frame m g, Cert.Steps.adam_small_ref,
  fun m g _ => Cert.SumSmall.Gen.frame m g, fun m g _ => Cert.SumSmallIdeal.Gen.frame m g, Cert.Steps.sum_small_ref,
  fun m g _ => Cert.AdamIn.Gen.frame m g, fun m g _ => Cert.AdamInIdeal.Gen.frame m g, Cert.Steps.adam_in_ref,
  IdealRules.sign_bit.statement _ _,
  by
    pair_intro
    · run_from Cert.KernelIdeal.Value.run_blocks m g
    · run_from Cert.ReferenceIdeal.Value.run m' g'
      · exact (Cert.ReferenceIdeal.Value.val3_main_v128 _).symm.trans (proj hpre hagree c)
      · exact (Cert.ReferenceIdeal.Value.val3_main_v132 _).symm.trans (gate hpre hagree c),
  trivial, Cert.Products.up_dw,
  trivial, Cert.Products.up_dx,
  trivial, Cert.Products.down_dw,
  trivial, Cert.Products.down_dx,
  trivial, Cert.Products.out_dw,
  trivial, Cert.Products.out_dx,
  trivial, Cert.Products.proj_dw,
  trivial, Cert.Products.proj_dx,
  trivial, Cert.Products.proj_fwd,
  trivial, Cert.Products.out_fwd,
  trivial, Cert.Products.up_fwd,
  trivial, Cert.Products.down_fwd,
  Cert.Steps.adam_down_names, Cert.Steps.adam_down,
  Cert.Steps.adam_up_names, Cert.Steps.adam_up,
  Cert.Steps.adam_out_names, Cert.Steps.adam_out,
  Cert.Steps.adam_small_names, Cert.Steps.adam_small,
  trivial, Cert.Steps.sum_small,
  Cert.Steps.adam_in_names, Cert.Steps.adam_in⟩

end Cert.Proof

end
